-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S2x128x12288 : Shape := ⟨3, ![2, 128, 12288]⟩
abbrev S12288 : Shape := ⟨1, ![12288]⟩
abbrev S256x2 : Shape := ⟨2, ![256, 2]⟩
abbrev S4096x6144 : Shape := ⟨2, ![4096, 6144]⟩
abbrev S4096x12 : Shape := ⟨2, ![4096, 12]⟩
abbrev S_ : Shape := ⟨0, ![]⟩

class Facts : Prop where
  bcast_S_S2x128x12288 : S_.BroadcastsInDim S2x128x12288 (![] : Fin 0 → Fin S2x128x12288.rank)

variable [Facts]

def fn {F : FTy → Type} [FloatOps F] (main_arg0 : FVec F S2x128x12288 .bf16) (main_arg1 : IVec S12288 8) (main_arg2 : IVec S256x2 16) (main_arg3 : IVec S4096x6144 8) (main_arg4 : IVec S4096x12 16) : IVec S2x128x12288 1 :=
  let main_v0 : FVec F S2x128x12288 .bf16 := Host.absf main_arg0
  let main_cst : FVec F S_ .bf16 := constant S_ .bf16 0x7F80#16
  let main_v1 : FVec F S2x128x12288 .bf16 := broadcastInDim S2x128x12288 ![] bcast_S_S2x128x12288 main_cst
  let main_v2 : IVec S2x128x12288 1 := cmpf .olt main_v0 main_v1
  main_v2
-- ==== Kernel.lean ====
abbrev S2x128x12288 : Shape := ⟨3, ![2, 128, 12288]⟩
abbrev S12288 : Shape := ⟨1, ![12288]⟩
abbrev S256x2 : Shape := ⟨2, ![256, 2]⟩
abbrev S4096x6144 : Shape := ⟨2, ![4096, 6144]⟩
abbrev S4096x12 : Shape := ⟨2, ![4096, 12]⟩
abbrev S256x512 : Shape := ⟨2, ![256, 512]⟩
abbrev S256x12288 : Shape := ⟨2, ![256, 12288]⟩
abbrev S1x12288 : Shape := ⟨2, ![1, 12288]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S2x128 : Shape := ⟨2, ![2, 128]⟩
abbrev S128x8x2x2x12 : Shape := ⟨5, ![128, 8, 2, 2, 12]⟩
abbrev S128x2x8x12x2 : Shape := ⟨5, ![128, 2, 8, 12, 2]⟩
abbrev S128x2x8x12 : Shape := ⟨4, ![128, 2, 8, 12]⟩
abbrev S_ : Shape := ⟨0, ![]⟩
abbrev S128x2x8x128 : Shape := ⟨4, ![128, 2, 8, 128]⟩
abbrev S4x512x128 : Shape := ⟨3, ![4, 512, 128]⟩
abbrev S256x4096 : Shape := ⟨2, ![256, 4096]⟩
abbrev S1024x512 : Shape := ⟨2, ![1024, 512]⟩
abbrev S1x512x128 : Shape := ⟨3, ![1, 512, 128]⟩
abbrev S1024x256 : Shape := ⟨2, ![1024, 256]⟩
abbrev S1024x1024 : Shape := ⟨2, ![1024, 1024]⟩
abbrev S1x128 : Shape := ⟨2, ![1, 128]⟩
abbrev S8x128 : Shape := ⟨2, ![8, 128]⟩
abbrev S1x16x128 : Shape := ⟨3, ![1, 16, 128]⟩
abbrev S16x128 : Shape := ⟨2, ![16, 128]⟩
abbrev S16x128x1 : Shape := ⟨3, ![16, 128, 1]⟩
abbrev S32x128 : Shape := ⟨2, ![32, 128]⟩
abbrev S8x128x1 : Shape := ⟨3, ![8, 128, 1]⟩
abbrev S256x128x2x8x2 : Shape := ⟨5, ![256, 128, 2, 8, 2]⟩
abbrev S256x128x8x2x2 : Shape := ⟨5, ![256, 128, 8, 2, 2]⟩
abbrev S2x128x4096 : Shape := ⟨3, ![2, 128, 4096]⟩

abbrev nBuf : Space → Nat
  | .hbm => 27
  | .vmem => 19
  | .smem => 0
  | _ => 0

abbrev bufTy : (tb : Table) → Fin (tcTables nBuf tb) → BufTy
  | .hbm, ⟨0, _⟩ => ⟨S2x128x12288, .bf16⟩
  | .hbm, ⟨1, _⟩ => ⟨S12288, .i8⟩
  | .hbm, ⟨2, _⟩ => ⟨S256x2, .i16⟩
  | .hbm, ⟨3, _⟩ => ⟨S4096x6144, .i8⟩
  | .hbm, ⟨4, _⟩ => ⟨S4096x12, .i16⟩
  | .hbm, ⟨5, _⟩ => ⟨S256x512, .bf16⟩
  | .hbm, ⟨6, _⟩ => ⟨S256x12288, .bf16⟩
  | .hbm, ⟨7, _⟩ => ⟨S12288, .i32⟩
  | .hbm, ⟨8, _⟩ => ⟨S12288, .f32⟩
  | .hbm, ⟨9, _⟩ => ⟨S12288, .bf16⟩
  | .hbm, ⟨10, _⟩ => ⟨S1x12288, .bf16⟩
  | .hbm, ⟨11, _⟩ => ⟨S256x12288, .bf16⟩
  | .hbm, ⟨12, _⟩ => ⟨S256x12288, .bf16⟩
  | .hbm, ⟨13, _⟩ => ⟨S256, .i32⟩
  | .hbm, ⟨14, _⟩ => ⟨S2x128, .i32⟩
  | .hbm, ⟨15, _⟩ => ⟨S128x8x2x2x12, .i16⟩
  | .hbm, ⟨16, _⟩ => ⟨S128x2x8x12x2, .i16⟩
  | .hbm, ⟨17, _⟩ => ⟨S128x2x8x12, .i32⟩
  | .hbm, ⟨18, _⟩ => ⟨S_, .i32⟩
  | .hbm, ⟨19, _⟩ => ⟨S_, .i32⟩
  | .hbm, ⟨20, _⟩ => ⟨S128x2x8x128, .i32⟩
  | .hbm, ⟨21, _⟩ => ⟨S4x512x128, .i32⟩
  | .hbm, ⟨22, _⟩ => ⟨S256x4096, .bf16⟩
  | .hbm, ⟨23, _⟩ => ⟨S256x128x2x8x2, .bf16⟩
  | .hbm, ⟨24, _⟩ => ⟨S256x128x8x2x2, .bf16⟩
  | .hbm, ⟨25, _⟩ => ⟨S2x128x4096, .bf16⟩
  | .hbm, ⟨26, _⟩ => ⟨S2x128x12288, .bf16⟩
  | .local _ .vmem, ⟨0, _⟩ => ⟨S256x1024, .bf16⟩
  | .local _ .vmem, ⟨1, _⟩ => ⟨S256x1024, .bf16⟩
  | .local _ .vmem, ⟨2, _⟩ => ⟨S1x1024, .bf16⟩
  | .local _ .vmem, ⟨3, _⟩ => ⟨S1x1024, .bf16⟩
  | .local _ .vmem, ⟨4, _⟩ => ⟨S256x512, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x12288, .bf16⟩
  | .local _ .vmem, ⟨10, _⟩ => ⟨S1024x512, .i8⟩
  | .local _ .vmem, ⟨11, _⟩ => ⟨S1024x512, .i8⟩
  | .local _ .vmem, ⟨12, _⟩ => ⟨S2x128, .i32⟩
  | .local _ .vmem, ⟨13, _⟩ => ⟨S1x512x128, .i32⟩
  | .local _ .vmem, ⟨14, _⟩ => ⟨S1x512x128, .i32⟩
  | .local _ .vmem, ⟨15, _⟩ => ⟨S256x1024, .bf16⟩
  | .local _ .vmem, ⟨16, _⟩ => ⟨S256x1024, .bf16⟩
  | .local _ .vmem, ⟨17, _⟩ => ⟨S1024x256, .f32⟩
  | .local _ .vmem, ⟨18, _⟩ => ⟨S1024x1024, .bf16⟩
  | _, _ => ⟨S2x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 12], ![false, false]⟩

def k1_mult1 (i : grid1.Coords) : BitVec 32 :=
  let arg1 : BitVec 32 := BitVec.ofNat 32 (i 1).val
  let c1024_i32 : BitVec 32 := 1024#32
  let v18157 : BitVec 32 := Scalar.muli arg1 c1024_i32
  v18157
def k1_off1 (i : grid1.Coords) : Fin 2 → Nat :=
  let c0_6241 : Index := 0#32
  let arg1 : BitVec 32 := BitVec.ofNat 32 (i 1).val
  let c1024_i32 : BitVec 32 := 1024#32
  let v18157 : BitVec 32 := Scalar.muli arg1 c1024_i32
  let v18158 : BitVec 32 := v18157
  let v18159 : Index := Scalar.indexCast v18158
  ![0, v18159.toNat]
def k1_cond2 (i : grid1.Coords) : BitVec 1 :=
  let arg1 : BitVec 32 := BitVec.ofNat 32 (i 1).val
  let c11_i32 : BitVec 32 := 11#32
  let v18167 : BitVec 1 := Scalar.cmpi .eq arg1 c11_i32
  let v18168 : BitVec 32 := Scalar.extui v18167
  let c0_i32_6244 : BitVec 32 := 0#32
  let v18169 : BitVec 1 := Scalar.cmpi .ne v18168 c0_i32_6244
  v18169

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S256x12288 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S2x128x12288 : Shape := ⟨3, ![2, 128, 12288]⟩
abbrev S12288 : Shape := ⟨1, ![12288]⟩
abbrev S256x2 : Shape := ⟨2, ![256, 2]⟩
abbrev S4096x6144 : Shape := ⟨2, ![4096, 6144]⟩
abbrev S4096x12 : Shape := ⟨2, ![4096, 12]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S_ : Shape := ⟨0, ![]⟩
abbrev S12x1024 : Shape := ⟨2, ![12, 1024]⟩
abbrev S2x128x12x1024 : Shape := ⟨4, ![2, 128, 12, 1024]⟩
abbrev S1x1x12x1024 : Shape := ⟨4, ![1, 1, 12, 1024]⟩
abbrev S4096x6144x1 : Shape := ⟨3, ![4096, 6144, 1]⟩
abbrev S4096x6144x2 : Shape := ⟨3, ![4096, 6144, 2]⟩
abbrev S4096x12x512x2 : Shape := ⟨4, ![4096, 12, 512, 2]⟩
abbrev S4096x12x1x1 : Shape := ⟨4, ![4096, 12, 1, 1]⟩
abbrev S2x128x12x512x2 : Shape := ⟨5, ![2, 128, 12, 512, 2]⟩
abbrev S2x128x4096 : Shape := ⟨3, ![2, 128, 4096]⟩

abbrev nBuf : Space → Nat
  | .hbm => 57
  | .vmem => 0
  | .smem => 0
  | _ => 0

abbrev bufTy : (tb : Table) → Fin (tcTables nBuf tb) → BufTy
  | .hbm, ⟨0, _⟩ => ⟨S2x128x12288, .bf16⟩
  | .hbm, ⟨1, _⟩ => ⟨S12288, .i8⟩
  | .hbm, ⟨2, _⟩ => ⟨S256x2, .i16⟩
  | .hbm, ⟨3, _⟩ => ⟨S4096x6144, .i8⟩
  | .hbm, ⟨4, _⟩ => ⟨S4096x12, .i16⟩
  | .hbm, ⟨5, _⟩ => ⟨S256x2, .bf16⟩
  | .hbm, ⟨6, _⟩ => ⟨S4096x12, .bf16⟩
  | .hbm, ⟨7, _⟩ => ⟨S1024, .i32⟩
  | .hbm, ⟨8, _⟩ => ⟨S1024x1, .i32⟩
  | .hbm, ⟨9, _⟩ => ⟨S1024x1024, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .f32⟩
  | .hbm, ⟨25, _⟩ => ⟨S1024x1024, .bf16⟩
  | .hbm, ⟨26, _⟩ => ⟨S12288, .i32⟩
  | .hbm, ⟨27, _⟩ => ⟨S12288, .f32⟩
  | .hbm, ⟨28, _⟩ => ⟨S12288, .bf16⟩
  | .hbm, ⟨29, _⟩ => ⟨S12x1024, .bf16⟩
  | .hbm, ⟨30, _⟩ => ⟨S2x128x12x1024, .bf16⟩
  | .hbm, ⟨31, _⟩ => ⟨S1x1x12x1024, .bf16⟩
  | .hbm, ⟨32, _⟩ => ⟨S2x128x12x1024, .bf16⟩
  | .hbm, ⟨33, _⟩ => ⟨S2x128x12x1024, .bf16⟩
  | .hbm, ⟨34, _⟩ => ⟨S2x128x12x1024, .f32⟩
  | .hbm, ⟨35, _⟩ => ⟨S_, .f32⟩
  | .hbm, ⟨36, _⟩ => ⟨S2x128x12x1024, .f32⟩
  | .hbm, ⟨37, _⟩ => ⟨S2x128x12x1024, .f32⟩
  | .hbm, ⟨38, _⟩ => ⟨S2x128x12x1024, .bf16⟩
  | .hbm, ⟨39, _⟩ => ⟨S4096x6144, .i32⟩
  | .hbm, ⟨40, _⟩ => ⟨S_, .i32⟩
  | .hbm, ⟨41, _⟩ => ⟨S4096x6144, .i32⟩
  | .hbm, ⟨42, _⟩ => ⟨S4096x6144, .i1⟩
  | .hbm, ⟨43, _⟩ => ⟨S_, .i32⟩
  | .hbm, ⟨44, _⟩ => ⟨S4096x6144, .i32⟩
  | .hbm, ⟨45, _⟩ => ⟨S4096x6144, .i32⟩
  | .hbm, ⟨46, _⟩ => ⟨S4096x6144, .i32⟩
  | .hbm, ⟨47, _⟩ => ⟨S4096x6144x1, .i32⟩
  | .hbm, ⟨48, _⟩ => ⟨S4096x6144x2, .bf16⟩
  | .hbm, ⟨49, _⟩ => ⟨S4096x12x512x2, .bf16⟩
  | .hbm, ⟨50, _⟩ => ⟨S4096x12x1x1, .bf16⟩
  | .hbm, ⟨51, _⟩ => ⟨S4096x12x512x2, .bf16⟩
  | .hbm, ⟨52, _⟩ => ⟨S4096x12x512x2, .bf16⟩
  | .hbm, ⟨53, _⟩ => ⟨S2x128x12x512x2, .bf16⟩
  | .hbm, ⟨54, _⟩ => ⟨S2x128x4096, .f32⟩
  | .hbm, ⟨55, _⟩ => ⟨S2x128x4096, .bf16⟩
  | .hbm, ⟨56, _⟩ => ⟨S2x128x12288, .bf16⟩
  | _, _ => ⟨S2x128x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Proof.Common.lean ====
/-
  What the proofs of both kernels share: the resources of the whole program's proof, and a memref's buffer held whole.
-/
module

public import proofs.«01_k».proof.Proof.Gen.KernelIdeal.Launch
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the whole program's proof. -/
abbrev UU : Type := UR sig nD τ × Counters
local notation "𝕄" => MT nD τ sig Unit (Elt F) ℕ UU ℕ

/-- The contents of a memref's buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned is its buffer held whole at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The same, one direction each. -/
theorem owns_elim (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  rw [owns_pt c M h X]
theorem owns_intro (c : Dev nD) {sp : Space} {S : Shape} {e : EltTy} (M : Memref sig .tc sp S e) (h : M.IsWhole) (X : S.Idx → Elt F e)
    (f : Bf (F := F) c M) (hf : M.view.read (Elt F) f = X) :
    (pt c M f : sProp 𝕄) ⊢ owns (c : Thread nD τ) M fullShare X := by
  rw [owns_pt c M h X]
  iintro H
  iexists f
  isplitr
  · ipureintro; exact hf
  iexact H

end Cert.Proof

end
-- ==== Proof.Rotate.lean ====
/-
  What the body of the rotating kernel does at one grid point: the block of 1024 columns, its signs applied, is multiplied in
  four parts of 256 columns by the Hadamard matrix, the parts combined by sums and differences, scaled, and stored twice, with
  the columns in order and with the even columns of each part before the odd ones.
-/
module

public import proofs.«01_k».proof.Proof.Common
public import Idealize.ShloMosaic.Lib.Pipeline.FrameBody
public import Idealize.ShloMosaic.Lib.Pipeline.Value
public import Idealize.ShloMosaic.Lib.VecWindow
public import Idealize.ShloMosaic.Lib.ValueIdxCore

@[expose] public section

set_option maxRecDepth 16384

noncomputable section

namespace Cert.Proof.Rot

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Values

variable (x : S256x1024.Idx → F .bf16) (s : S1x1024.Idx → F .bf16) (h : S256x512.Idx → F .bf16)

/-- The block with the signs applied. -/
def signed : FVec F S256x1024 .bf16 :=
  mulf (shapeCast S256x1024 x (by decide : S256x1024.ShapeCasts S256x1024))
    (broadcastTo S256x1024 (shapeCast S1x1024 s (by decide : S1x1024.ShapeCasts S1x1024)) (by decide : S1x1024.Broadcasts S256x1024))

/-- A part of 256 columns multiplied by the matrix. -/
def part (v : FVec F S256x256 .bf16) : FVec F S256x512 .f32 :=
  matmul dot_S256x256_S256x512_S256x512_1_0_0_1_n_n none v h (constant S256x512 .f32 0x00000000#32)

def part0 : FVec F S256x512 .f32 := part h (extractStridedSlice S256x256 ![0, 0] (signed x s) (by decide : S256x1024.Slices ![0, 0] S256x256))
def part1 : FVec F S256x512 .f32 := part h (extractStridedSlice S256x256 ![0, 256] (signed x s) (by decide : S256x1024.Slices ![0, 256] S256x256))
def part2 : FVec F S256x512 .f32 := part h (extractStridedSlice S256x256 ![0, 512] (signed x s) (by decide : S256x1024.Slices ![0, 512] S256x256))
def part3 : FVec F S256x512 .f32 := part h (extractStridedSlice S256x256 ![0, 768] (signed x s) (by decide : S256x1024.Slices ![0, 768] S256x256))

/-- The parts combined: part `a` of the result before scaling. -/
def combined : Fin 4 → FVec F S256x512 .f32
  | 0 => addf (addf (part0 x s h) (part1 x s h)) (addf (part2 x s h) (part3 x s h))
  | 1 => addf (subf (part0 x s h) (part1 x s h)) (subf (part2 x s h) (part3 x s h))
  | 2 => subf (addf (part0 x s h) (part1 x s h)) (addf (part2 x s h) (part3 x s h))
  | 3 => subf (subf (part0 x s h) (part1 x s h)) (subf (part2 x s h) (part3 x s h))

/-- Part `a` of the result: scaled, in bf16. -/
def scaled (a : Fin 4) : FVec F S256x512 .bf16 :=
  truncf .bf16 (mulf (combined x s h a) (broadcast S256x512 (Scalar.ofBits .f32 0x3D000000#32))) (by decide : FTy.bits .bf16 < FTy.bits .f32)

/-- The result's block with the columns in order. -/
def ordered (y : S256x1024.Idx) : F .bf16 :=
  scaled x s h ⟨(y 1).val / 256, by have : (y 1).val < 1024 := (y 1).isLt; omega⟩ (ix2 (n0 := 256) (n1 := 512) (y 0) ⟨(y 1).val % 256, by omega⟩)

/-- The result's block with the even columns of each part before the odd ones. -/
def permuted (y : S256x1024.Idx) : F .bf16 :=
  scaled x s h ⟨(y 1).val / 256, by have : (y 1).val < 1024 := (y 1).isLt; omega⟩ (ix2 (n0 := 256) (n1 := 512) (y 0) ⟨256 + (y 1).val % 256, by omega⟩)

theorem inb (a : Fin 4) : ∀ d, (![0, 256 * a.val] : Fin 2 → Nat) d + S256x256.size d ≤ S256x1024.size d := by
  intro d
  have := a.isLt
  fin_cases d
  · show 0 + 256 ≤ 256; omega
  · show 256 * a.val + 256 ≤ 1024; omega

/-- The rectangle of part `a`. -/
abbrev rect (a : Fin 4) : Rect S256x1024 := Rect.unit (s := S256x1024) ![0, 256 * a.val] S256x256.size (inb a)

def piece4 (a : Fin 4) : View.Piece (Elt F) S256x1024 .bf16 :=
  ⟨rect a, extractStridedSlice S256x256 ![0, 0] (scaled x s h a) (by decide : S256x512.Slices ![0, 0] S256x256)⟩
def piece5 (a : Fin 4) : View.Piece (Elt F) S256x1024 .bf16 :=
  ⟨rect a, extractStridedSlice S256x256 ![0, 256] (scaled x s h a) (by decide : S256x512.Slices ![0, 256] S256x256)⟩

abbrev pieces4 : List (View.Piece (Elt F) S256x1024 .bf16) := [piece4 x s h 3, piece4 x s h 2, piece4 x s h 1, piece4 x s h 0]
abbrev pieces5 : List (View.Piece (Elt F) S256x1024 .bf16) := [piece5 x s h 3, piece5 x s h 2, piece5 x s h 1, piece5 x s h 0]

theorem coords (a : Fin 4) (z : (rect a).shape.Idx) : ((rect a).emb z 0).val = (z 0).val ∧ ((rect a).emb z 1).val = 256 * a.val + (z 1).val := by
  constructor
  · show 0 + 1 * (z 0).val = _; omega
  · show 256 * a.val + 1 * (z 1).val = _; omega

theorem piece4_eq (a : Fin 4) (z : (piece4 x s h a).1.shape.Idx) : (piece4 x s h a).2 z = ordered x s h ((piece4 x s h a).1.emb z) := by
  obtain ⟨h0, h1⟩ := coords a z
  have hz : (z 1).val < 256 := (z 1).isLt
  unfold ordered
  have e1 : (⟨((rect a).emb z 1).val / 256, by have : ((rect a).emb z 1).val < 1024 := ((rect a).emb z 1).isLt; omega⟩ : Fin 4) = a := Fin.ext (by show _ / 256 = _; rw [h1]; omega)
  show scaled x s h a _ = scaled x s h ⟨((rect a).emb z 1).val / 256, _⟩ _
  rw [e1]
  refine congrArg (scaled x s h a) (funext fun d => ?_)
  fin_cases d
  · refine Fin.ext ?_
    show 0 + (z 0).val = ((rect a).emb z 0).val; omega
  · refine Fin.ext ?_
    show 0 + (z 1).val = ((rect a).emb z 1).val % 256; omega

theorem piece5_eq (a : Fin 4) (z : (piece5 x s h a).1.shape.Idx) : (piece5 x s h a).2 z = permuted x s h ((piece5 x s h a).1.emb z) := by
  obtain ⟨h0, h1⟩ := coords a z
  have hz : (z 1).val < 256 := (z 1).isLt
  unfold permuted
  have e1 : (⟨((rect a).emb z 1).val / 256, by have : ((rect a).emb z 1).val < 1024 := ((rect a).emb z 1).isLt; omega⟩ : Fin 4) = a := Fin.ext (by show _ / 256 = _; rw [h1]; omega)
  show scaled x s h a _ = scaled x s h ⟨((rect a).emb z 1).val / 256, _⟩ _
  rw [e1]
  refine congrArg (scaled x s h a) (funext fun d => ?_)
  fin_cases d
  · refine Fin.ext ?_
    show 0 + (z 0).val = ((rect a).emb z 0).val; omega
  · refine Fin.ext ?_
    show 256 + (z 1).val = 256 + ((rect a).emb z 1).val % 256; omega

/-- The four rectangles cover the block. -/
theorem mem_rect (y : S256x1024.Idx) : y ∈ (rect ⟨(y 1).val / 256, by have : (y 1).val < 1024 := (y 1).isLt; omega⟩).set := by
  have hy : (y 1).val < 1024 := (y 1).isLt
  rw [← Rect.map_emb_univ]
  refine Finset.mem_map.mpr ⟨ix2 (n0 := 256) (n1 := 256) (y 0) ⟨(y 1).val % 256, by omega⟩, Finset.mem_univ _, ?_⟩
  funext d; fin_cases d
  · refine Fin.ext ?_
    show 0 + 1 * (y 0).val = (y 0).val; omega
  · refine Fin.ext ?_
    show 256 * ((y 1).val / 256) + 1 * ((y 1).val % 256) = (y 1).val; omega

theorem mem4 (a : Fin 4) : piece4 x s h a ∈ pieces4 x s h := by fin_cases a <;> simp [pieces4]
theorem mem5 (a : Fin 4) : piece5 x s h a ∈ pieces5 x s h := by fin_cases a <;> simp [pieces5]

theorem read4 {sp : Space} (M : Memref sig .tc sp S256x1024 .bf16) (f : M.view.ty.Contents (Elt F)) :
    M.view.read (Elt F) (M.view.writes (Elt F) f (pieces4 x s h)) = ordered x s h := by
  funext y
  refine View.read_writes_apply_of_pieces _ _ _ _ (fun P hP z => ?_) y ⟨_, mem4 x s h _, mem_rect y⟩
  simp only [List.mem_cons, List.not_mem_nil, or_false] at hP
  rcases hP with rfl | rfl | rfl | rfl <;> exact piece4_eq x s h _ z

theorem read5 {sp : Space} (M : Memref sig .tc sp S256x1024 .bf16) (f : M.view.ty.Contents (Elt F)) :
    M.view.read (Elt F) (M.view.writes (Elt F) f (pieces5 x s h)) = permuted x s h := by
  funext y
  refine View.read_writes_apply_of_pieces _ _ _ _ (fun P hP z => ?_) y ⟨_, mem5 x s h _, mem_rect y⟩
  simp only [List.mem_cons, List.not_mem_nil, or_false] at hP
  rcases hP with rfl | rfl | rfl | rfl <;> exact piece5_eq x s h _ z

end Values

/-- THE BODY at a grid point. -/
theorem body_run (c : Dev nD) (i : grid0.Coords) (arg1 : Memref sig .tc .vmem S256x1024 .bf16) (harg1 : arg1.IsWhole) (arg2 : Memref sig .tc .vmem S1x1024 .bf16) (harg2 : arg2.IsWhole)
    (arg3 : Memref sig .tc .vmem S256x512 .bf16) (harg3 : arg3.IsWhole) (arg4 : Memref sig .tc .vmem S256x1024 .bf16) (harg4 : arg4.IsWhole)
    (arg5 : Memref sig .tc .vmem S256x1024 .bf16) (harg5 : arg5.IsWhole)
    (f1 : Bf (F := F) c arg1) (f2 : Bf (F := F) c arg2) (f3 : Bf (F := F) c arg3) (f4 : Bf (F := F) c arg4) (f5 : Bf (F := F) c arg5) (E : Set ℕ) (Q : PUnit → sProp 𝕄) :
    iprop(pt c arg1 f1 ∗ pt c arg2 f2 ∗ pt c arg3 f3 ∗ pt c arg4 f4 ∗ pt c arg5 f5
        ∗ (∀ (f4' : Bf (F := F) c arg4) (f5' : Bf (F := F) c arg5),
            (⌜arg4.view.read (Elt F) f4' = ordered (arg1.view.read (Elt F) f1) (arg2.view.read (Elt F) f2) (arg3.view.read (Elt F) f3)
                ∧ arg5.view.read (Elt F) f5' = permuted (arg1.view.read (Elt F) f1) (arg2.view.read (Elt F) f2) (arg3.view.read (Elt F) f3)⌝
              ∗ pt c arg1 f1 ∗ pt c arg2 f2 ∗ pt c arg3 f3 ∗ pt c arg4 f4' ∗ pt c arg5 f5') -∗ Q ⟨⟩))
      ⊢ wp frame (wpE (defs₀ (F := F)) Variants.none c none) E (cc0_rotate i arg1 harg1 arg2 harg2 arg3 harg3 arg4 harg4 arg5 harg5) Q := by
  unfold cc0_rotate k0_part1
  iintro ⟨H1, H2, H3, H4, H5, Hk⟩
  sl_exec!
  sl_step
  iapply Hk
  isplitr
  swap
  · isplitl [H1]; · iexact H1
    isplitl [H2]; · iexact H2
    isplitl [H3]; · iexact H3
    isplitl [H4]; · iexact H4
    iexact H5
  · ipureintro
    have a1 : body_run.sl.v1 c arg1 f1 = shapeCast S256x1024 (arg1.view.read (Elt F) f1) (by decide : S256x1024.ShapeCasts S256x1024) := by
      unfold body_run.sl.v1; rw [View.readAt_full]
    have a5 : body_run.sl.v5 c arg1 arg2 f1 f2 = signed (arg1.view.read (Elt F) f1) (arg2.view.read (Elt F) f2) := by
      unfold body_run.sl.v5 body_run.sl.v4; rw [a1]; first | rfl | (unfold body_run.sl.v3; rw [View.readAt_full]; rfl)
    have a8 : body_run.sl.v8 c arg1 arg2 arg3 f1 f2 f3 = part0 (arg1.view.read (Elt F) f1) (arg2.view.read (Elt F) f2) (arg3.view.read (Elt F) f3) := by
      unfold body_run.sl.v8 body_run.sl.v6; rw [a5, View.readAt_full]; rfl
    have a11 : body_run.sl.v11 c arg1 arg2 arg3 f1 f2 f3 = part1 (arg1.view.read (Elt F) f1) (arg2.view.read (Elt F) f2) (arg3.view.read (Elt F) f3) := by
      unfold body_run.sl.v11 body_run.sl.v9; rw [a5, View.readAt_full]; rfl
    have a14 : body_run.sl.v14 c arg1 arg2 arg3 f1 f2 f3 = part2 (arg1.view.read (Elt F) f1) (arg2.view.read (Elt F) f2) (arg3.view.read (Elt F) f3) := by
      unfold body_run.sl.v14 body_run.sl.v12; rw [a5, View.readAt_full]; rfl
    have a17 : body_run.sl.v17 c arg1 arg2 arg3 f1 f2 f3 = part3 (arg1.view.read (Elt F) f1) (arg2.view.read (Elt F) f2) (arg3.view.read (Elt F) f3) := by
      unfold body_run.sl.v17 body_run.sl.v15; rw [a5, View.readAt_full]; rfl
    refine ⟨?_, ?_⟩
    · have k : body_run.sl.H4_4 c arg1 arg2 arg3 f1 f2 f3 = pieces4 (arg1.view.read (Elt F) f1) (arg2.view.read (Elt F) f2) (arg3.view.read (Elt F) f3) := by
        unfold body_run.sl.H4_4 body_run.sl.v50 body_run.sl.v43 body_run.sl.v36 body_run.sl.v29 body_run.sl.v49 body_run.sl.v42 body_run.sl.v35 body_run.sl.v28 body_run.sl.v48 body_run.sl.v41 body_run.sl.v34 body_run.sl.v27 body_run.sl.v25 body_run.sl.v24 body_run.sl.v23 body_run.sl.v22 body_run.sl.v21 body_run.sl.v20 body_run.sl.v19 body_run.sl.v18
        rw [a8, a11, a14, a17]; rfl
      exact (congrArg (fun L => arg4.view.read (Elt F) (arg4.view.writes (Elt F) arg4.view.junk L)) k).trans (read4 _ _ _ arg4 _)
    · have k : body_run.sl.H5_4 c arg1 arg2 arg3 f1 f2 f3 = pieces5 (arg1.view.read (Elt F) f1) (arg2.view.read (Elt F) f2) (arg3.view.read (Elt F) f3) := by
        unfold body_run.sl.H5_4 body_run.sl.v52 body_run.sl.v45 body_run.sl.v38 body_run.sl.v31 body_run.sl.v49 body_run.sl.v42 body_run.sl.v35 body_run.sl.v28 body_run.sl.v48 body_run.sl.v41 body_run.sl.v34 body_run.sl.v27 body_run.sl.v25 body_run.sl.v24 body_run.sl.v23 body_run.sl.v22 body_run.sl.v21 body_run.sl.v20 body_run.sl.v19 body_run.sl.v18
        rw [a8, a11, a14, a17]; rfl
      exact (congrArg (fun L => arg5.view.read (Elt F) (arg5.view.writes (Elt F) arg5.view.junk L)) k).trans (read5 _ _ _ arg5 _)

end Cert.Proof.Rot

end
-- ==== Proof.Region0.lean ====
/-
  The rotating kernel's region: what each window's buffer holds at each grid point, and the region entered from any
  contents of the unscoped buffers and left with its two results' arrays as the write-backs fill them.
-/
module

public import proofs.«01_k».proof.Proof.Rotate
public import proofs.«01_k».proof.Proof.Gen.KernelIdeal.Points
public import proofs.«01_k».proof.Proof.Gen.KernelIdeal.Regions

@[expose] public section

set_option maxRecDepth 16384

noncomputable section

namespace Cert.Proof.Rot

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- The block of an input's array at a grid point. -/
abbrev blk0 (c : Dev nD) (t : Fin cfg0.N) : S256x1024.Idx → F .bf16 := ((cfg0.win 0).blk t).view.read (Elt F) (V c main_v0)
abbrev blk1 (c : Dev nD) (t : Fin cfg0.N) : S1x1024.Idx → F .bf16 := ((cfg0.win 1).blk t).view.read (Elt F) (V c main_v4)
abbrev blk2 (c : Dev nD) (t : Fin cfg0.N) : S256x512.Idx → F .bf16 := ((cfg0.win 2).blk t).view.read (Elt F) (V c main_cst)

/-- The invariant between grid points: the buffers the region does not stage, at something. -/
abbrev Φc (c : Dev nD) : sProp 𝕄 := Pipeline.scopedRest (Ix := Unit) (Name := ℕ) (U := UU) (Lvl := ℕ) (Val := Elt F) spec0 c

/-- What each window's buffer holds after the body at each point. -/
def dat (c : Dev nD) : Dat τ (Elt F) Unit ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => ordered (blk0 V c t) (blk1 V c t) (blk2 V c t)
    | ⟨4, _⟩ => permuted (blk0 V c t) (blk1 V c t) (blk2 V c t)
  Φ _ := Φc c
  q _ := fullShare
  owed _ := 0

theorem before0 (c : Dev nD) (t : Fin cfg0.N) (d) : (dat V c).before 0 t d = blk0 V c t :=
  ((dat V c).before_in_eq_fetched 0 rfl (fun _ => rfl) (fun _ _ _ => rfl) (fun _ => rfl) t d).trans rfl
theorem before1 (c : Dev nD) (t : Fin cfg0.N) (d) : (dat V c).before 1 t d = blk1 V c t :=
  ((dat V c).before_in_eq_fetched 1 rfl (fun _ => rfl) (fun _ _ _ => rfl) (fun _ => rfl) t d).trans rfl
theorem before2 (c : Dev nD) (t : Fin cfg0.N) (d) : (dat V c).before 2 t d = blk2 V c t :=
  ((dat V c).before_in_eq_fetched 2 rfl (fun _ => rfl) (fun _ _ _ => rfl) (fun _ => rfl) t d).trans rfl

/-- The body at each grid point, from the buffers as the pipeline hands them over. -/
theorem body_obligation (c : Dev nD) : BodyObligation (dat V c) (defs₀ (F := F)) Variants.none () Set.univ := fun t => by
  rw [bigSep_W0, bigSep_W0]
  rw [show (dat V c).Φ t.castSucc = Φc c from rfl, show (dat V c).Φ t.succ = Φc c from rfl,
    show (dat V c).owesAt () t.succ = (dat V c).owesAt () t.castSucc from rfl]
  simp only [before0, before1, before2]
  iintro ⟨HΦ, Howes, ⟨%d0, H0⟩, ⟨%d1, H1⟩, ⟨%d2, H2⟩, ⟨%d3, H3⟩, ⟨%d4, H4⟩⟩
  ihave H0 := owns_elim c (st0_0 t) (hstage0_0 ((cfg0.slots t 0).cast nbuf0_0)) _ $$ H0
  ihave H1 := owns_elim c (st0_1 t) (hstage0_1 ((cfg0.slots t 1).cast nbuf0_1)) _ $$ H1
  ihave H2 := owns_elim c (st0_2 t) (hstage0_2 ((cfg0.slots t 2).cast nbuf0_2)) _ $$ H2
  ihave H3 := owns_elim c (st0_3 t) (hstage0_3 ((cfg0.slots t 3).cast nbuf0_3)) _ $$ H3
  ihave H4 := owns_elim c (st0_4 t) (hstage0_4 ((cfg0.slots t 4).cast nbuf0_4)) _ $$ H4
  icases H0 with ⟨%f0, %h0, H0⟩
  icases H1 with ⟨%f1, %h1, H1⟩
  icases H2 with ⟨%f2, %h2, H2⟩
  icases H3 with ⟨%f3, -, H3⟩
  icases H4 with ⟨%f4, -, H4⟩
  iapply body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    f0 f1 f2 f3 f4 Set.univ _
  isplitl [H0]; · iexact H0
  isplitl [H1]; · iexact H1
  isplitl [H2]; · iexact H2
  isplitl [H3]; · iexact H3
  isplitl [H4]; · iexact H4
  iintro %f3' %f4' ⟨%h, H0, H1, H2, H3, H4⟩
  rw [h0, h1, h2] at h
  isplitl [HΦ]; · iexact HΦ
  isplitl [Howes]; · iexact Howes
  isplitl [H0]; · iapply owns_intro c (st0_0 t) (hstage0_0 ((cfg0.slots t 0).cast nbuf0_0)) _ f0 h0; iexact H0
  isplitl [H1]; · iapply owns_intro c (st0_1 t) (hstage0_1 ((cfg0.slots t 1).cast nbuf0_1)) _ f1 h1; iexact H1
  isplitl [H2]; · iapply owns_intro c (st0_2 t) (hstage0_2 ((cfg0.slots t 2).cast nbuf0_2)) _ f2 h2; iexact H2
  isplitl [H3]; · iapply owns_intro c (st0_3 t) (hstage0_3 ((cfg0.slots t 3).cast nbuf0_3)) _ f3' h.1; iexact H3
  iapply owns_intro c (st0_4 t) (hstage0_4 ((cfg0.slots t 4).cast nbuf0_4)) _ f4' h.2; iexact H4

end Cert.Proof.Rot

end
-- ==== Proof.Body.lean ====
/-
  The body of the decoding kernel as a program of small pieces: the reset of the accumulator at group 0, thirty-two row
  blocks of four column blocks each, and the product with its store.  `body_eq` states that the printed body is that program.
-/
module

public import proofs.«01_k».proof.Proof.Gen.KernelIdeal
public import Idealize.ShloMosaic.Lib.Pipeline.Regions
public import Idealize.ShloMosaic.Lib.Affine

@[expose] public section

set_option maxRecDepth 16384

noncomputable section

namespace Cert.Proof.Dec

open Cert.KernelIdeal
open Idealize.ShloMosaic Idealize.SL.Sem

variable {F : FTy → Type} [FloatOps F]

/-! ## The arithmetic of one block -/

/-- The entries of a 128-lane table at the positions `idx` (a negative position counts from the end). -/
def look (tab idx : IVec S8x128 32) : IVec S8x128 32 :=
  dynamicGather 1 tab (shapeCast S8x128 (shapeCast S8x128x1
    (select (cmpi .slt idx (broadcast S8x128 0#32)) (addi idx (broadcast S8x128 128#32)) idx)
    (by decide : S8x128.ShapeCasts S8x128x1)) (by decide : S8x128x1.ShapeCasts S8x128))

/-- The table entry of each code: its low seven bits choose a lane, `top` chooses the half. -/
def entry (lo hi sh : IVec S8x128 32) (top : IVec S8x128 1) : IVec S8x128 32 :=
  select top (look hi (andi sh (broadcast S8x128 127#32))) (look lo (andi sh (broadcast S8x128 127#32)))

/-- Bit 7 of a byte: the half of the table it addresses. -/
def half (sh : IVec S8x128 32) : IVec S8x128 1 := cmpi .ne (andi sh (broadcast S8x128 128#32)) (broadcast S8x128 0#32)

/-- The entries of byte 0 of each word. -/
def entry0 (lo hi word : IVec S8x128 32) : IVec S8x128 32 := entry lo hi word (half word)
/-- The entries of byte 1 of each word. -/
def entry1 (lo hi word : IVec S8x128 32) : IVec S8x128 32 :=
  entry lo hi (shrui word (broadcast S8x128 8#32)) (half (shrui word (broadcast S8x128 8#32)))
/-- The entries of byte 2 of each word. -/
def entry2 (lo hi word : IVec S8x128 32) : IVec S8x128 32 :=
  entry lo hi (shrui word (broadcast S8x128 16#32)) (half (shrui word (broadcast S8x128 16#32)))
/-- The entries of byte 3 of each word, whose bit 7 is the word's sign. -/
def entry3 (lo hi word : IVec S8x128 32) : IVec S8x128 32 :=
  entry lo hi (shrui word (broadcast S8x128 24#32)) (cmpi .slt word (broadcast S8x128 0#32))

/-- The first values of two entries side by side in one word. -/
def evens (a b : IVec S8x128 32) : IVec S8x128 32 :=
  ori (andi a (broadcast S8x128 65535#32)) (shli b (broadcast S8x128 16#32))
/-- The second values of two entries side by side in one word. -/
def odds (a b : IVec S8x128 32) : IVec S8x128 32 :=
  ori (shrui a (broadcast S8x128 16#32)) (andi b (broadcast S8x128 4294901760#32))

/-- Eight rows of words read as sixteen rows of bf16 values. -/
def asBf (w : IVec S8x128 32) : FVec F S16x128 .bf16 :=
  bitcastToFloat .bf16 (bitcast S16x128 16 w (by decide : S8x128.Bitcasts 32 S16x128 16))

/-- The words of a block of byte codes: word row `i` holds byte rows `4i … 4i+3`. -/
def words (v : Vec F S32x128 .i8) : IVec S8x128 32 := bitcast S8x128 32 v (by decide : S32x128.Bitcasts 8 S8x128 32)

/-- The group's column of scale words, from a block's sixteen rows of words. -/
def scaleWords (g : BitVec 32) (v : Vec F S1x16x128 .i32) : IVec S16x128 32 :=
  dynamicGather 1 (shapeCast S16x128 v (by decide : S1x16x128.ShapeCasts S16x128))
    (shapeCast S16x128 (shapeCast S16x128x1
      (select (cmpi .slt (broadcast S16x128 g) (broadcast S16x128 0#32)) (addi (broadcast S16x128 g) (broadcast S16x128 128#32)) (broadcast S16x128 g))
      (by decide : S16x128.ShapeCasts S16x128x1)) (by decide : S16x128x1.ShapeCasts S16x128))

/-- The scales of the block's first sixteen rows. -/
def scale0 (g : BitVec 32) (v : Vec F S1x16x128 .i32) : FVec F S16x128 .bf16 :=
  asBf (extractStridedSlice S8x128 ![0, 0] (scaleWords g v) (by decide : S16x128.Slices ![0, 0] S8x128))
/-- The scales of the block's last sixteen rows. -/
def scale1 (g : BitVec 32) (v : Vec F S1x16x128 .i32) : FVec F S16x128 .bf16 :=
  asBf (extractStridedSlice S8x128 ![8, 0] (scaleWords g v) (by decide : S16x128.Slices ![8, 0] S8x128))

/-- One half of the table, the same on eight rows. -/
def tab (v : Vec F S1x128 .i32) : IVec S8x128 32 :=
  broadcastTo S8x128 (shapeCast S1x128 (shapeCast S1x128 v (by decide : S1x128.ShapeCasts S1x128)) (by decide : S1x128.ShapeCasts S1x128))
    (by decide : S1x128.Broadcasts S8x128)

/-! ## The program -/

section Prog

variable (arg2 : Memref sig .tc .vmem S256x12288 .bf16) (harg2 : arg2.IsWhole) (arg3 : Memref sig .tc .vmem S1024x512 .i8) (harg3 : arg3.IsWhole)
  (arg4 : Memref sig .tc .vmem S2x128 .i32) (harg4 : arg4.IsWhole) (arg5 : Memref sig .tc .vmem S1x512x128 .i32) (harg5 : arg5.IsWhole)
  (arg6 : Memref sig .tc .vmem S256x1024 .bf16) (harg6 : arg6.IsWhole) (arg7 : Memref sig .tc .vmem S1024x256 .f32) (harg7 : arg7.IsWhole)
  (arg8 : Memref sig .tc .vmem S1024x1024 .bf16) (harg8 : arg8.IsWhole)

abbrev P (α : Type) : Type _ := Prog (TpuEff nD τ sig (Elt F) Λ₀ .tc) α

theorem inb8 (r : Fin 32) (q : Fin 2) (c : Fin 8) : ∀ a, (![32 * r.val + 16 * q.val, 128 * c.val] : Fin 2 → Nat) a + S16x128.size a ≤ S1024x1024.size a := by
  intro a
  have := r.isLt; have := q.isLt; have := c.isLt
  fin_cases a
  · show 32 * r.val + 16 * q.val + 16 ≤ 1024; omega
  · show 128 * c.val + 128 ≤ 1024; omega

/-- The rectangle of row block `r`, half `q`, and column block `c` of the decoded weights. -/
abbrev rect8 (r : Fin 32) (q : Fin 2) (c : Fin 8) : Rect S1024x1024 :=
  Rect.unit (s := S1024x1024) ![32 * r.val + 16 * q.val, 128 * c.val] S16x128.size (inb8 r q c)

theorem packed8 (r : Fin 32) (q : Fin 2) (c : Fin 8) : (rect8 r q c).PackedRows (EltTy.packing .bf16) :=
  Affine.packed_dvd (by decide) (by show 2 ∣ 32 * r.val + 16 * q.val; omega) (by show 2 ∣ 16; decide)

theorem inb5 (r : Fin 32) : ∀ a, (![0, 16 * r.val, 0] : Fin 3 → Nat) a + S1x16x128.size a ≤ S1x512x128.size a := by
  intro a
  have := r.isLt
  fin_cases a
  · show 0 + 1 ≤ 1; omega
  · show 16 * r.val + 16 ≤ 512; omega
  · show 0 + 128 ≤ 128; omega

/-- The rectangle of row block `r` of the scale words. -/
abbrev rect5 (r : Fin 32) : Rect S1x512x128 := Rect.unit (s := S1x512x128) ![0, 16 * r.val, 0] S1x16x128.size (inb5 r)

theorem inb3 (r : Fin 32) (l : Fin 4) : ∀ a, (![32 * r.val, 128 * l.val] : Fin 2 → Nat) a + S32x128.size a ≤ S1024x512.size a := by
  intro a
  have := r.isLt; have := l.isLt
  fin_cases a
  · show 32 * r.val + 32 ≤ 1024; omega
  · show 128 * l.val + 128 ≤ 512; omega

/-- The rectangle of row block `r` and column block `l` of the codes. -/
abbrev rect3 (r : Fin 32) (l : Fin 4) : Rect S1024x512 := Rect.unit (s := S1024x512) ![32 * r.val, 128 * l.val] S32x128.size (inb3 r l)

/-- Store one rectangle of decoded weights (after reading what it held). -/
def put (r : Fin 32) (q : Fin 2) (c : Fin 8) (v : FVec F S16x128 .bf16) : P (F := F) PUnit := do
  let _ : Vec F S16x128 .bf16 ← Prog.lift (.load arg8 (rect8 r q c).toLoadRect (View.loadsAt_vmem (by decide : 0 < S16x128.numel)))
  Prog.lift (.store arg8 (rect8 r q c) (shapeCast S16x128 v (by decide : S16x128.ShapeCasts S16x128)) Finset.univ
    (View.stores_vmem (by decide : 0 < S16x128.numel) (harg8.storeExact_slice rfl _ (packed8 r q c)) (fun _ => rfl)) (.inl rfl))

/-- Column block `l` of row block `r`: its codes decoded, scaled and stored. -/
def column (lo hi : IVec S8x128 32) (s0 s1 : FVec F S16x128 .bf16) (r : Fin 32) (l : Fin 4) : P (F := F) PUnit := do
  let v : Vec F S32x128 .i8 ← Prog.lift (.load arg3 (rect3 r l).toLoadRect (View.loadsAt_vmem (by decide : 0 < S32x128.numel)))
  put arg8 harg8 r 0 ⟨2 * l.val, by omega⟩ (mulf (asBf (evens (entry0 lo hi (words v)) (entry1 lo hi (words v)))) s0)
  put arg8 harg8 r 0 ⟨2 * l.val + 1, by omega⟩ (mulf (asBf (odds (entry0 lo hi (words v)) (entry1 lo hi (words v)))) s0)
  put arg8 harg8 r 1 ⟨2 * l.val, by omega⟩ (mulf (asBf (evens (entry2 lo hi (words v)) (entry3 lo hi (words v)))) s1)
  put arg8 harg8 r 1 ⟨2 * l.val + 1, by omega⟩ (mulf (asBf (odds (entry2 lo hi (words v)) (entry3 lo hi (words v)))) s1)

/-- Row block `r`: its scales read, then its four column blocks. -/
def block (g : BitVec 32) (lo hi : IVec S8x128 32) (r : Fin 32) : P (F := F) PUnit := do
  let v : Vec F S1x16x128 .i32 ← Prog.lift (.load arg5 (rect5 r).toLoadRect (View.loadsAt_vmem (by decide : 0 < S1x16x128.numel)))
  column arg3 arg8 harg8 lo hi (scale0 g v) (scale1 g v) r 0
  column arg3 arg8 harg8 lo hi (scale0 g v) (scale1 g v) r 1
  column arg3 arg8 harg8 lo hi (scale0 g v) (scale1 g v) r 2
  column arg3 arg8 harg8 lo hi (scale0 g v) (scale1 g v) r 3

/-- The row blocks of a list, in order. -/
def blocks (g : BitVec 32) (lo hi : IVec S8x128 32) : List (Fin 32) → P (F := F) PUnit
  | [] => pure ⟨⟩
  | r :: rs => do
    block arg3 arg5 arg8 harg8 g lo hi r
    blocks g lo hi rs

/-- The row blocks of the kernel. -/
def allBlocks : List (Fin 32) := [0, 1, 2, 3, 4, 5, 6, 7, 8, 9, 10, 11, 12, 13, 14, 15, 16, 17, 18, 19, 20, 21, 22, 23, 24, 25, 26, 27, 28, 29, 30, 31]

abbrev rect7 : Rect S1024x256 := Rect.unit (s := S1024x256) ![0, 0] S1024x256.size (by decide)
abbrev rectW : Rect S1024x1024 := Rect.unit (s := S1024x1024) ![0, 0] S1024x1024.size (by decide)
abbrev rect6 : Rect S256x1024 := Rect.unit (s := S256x1024) ![0, 0] S256x1024.size (by decide)
abbrev rect2 (i : grid1.Coords) : Rect S256x12288 := Rect.unit (s := S256x12288) (k1_off1 i) S256x1024.size (K1.Facts₀.k1_off1_inb i)

/-- The accumulator overwritten (after reading what it held). -/
def putAcc (v : FVec F S1024x256 .f32) : P (F := F) PUnit := do
  let _ : Vec F S1024x256 .f32 ← Prog.lift (.load arg7 rect7.toLoadRect (View.loadsAt_vmem (by decide : 0 < S1024x256.numel)))
  Prog.lift (.store arg7 rect7 (shapeCast S1024x256 v (by decide : S1024x256.ShapeCasts S1024x256)) Finset.univ
    (View.stores_vmem_bits_univ (by decide : 0 < S1024x256.numel) rfl) (.inl rfl))

/-- The condition of the reset: the group is the first. -/
def first (i : grid1.Coords) : BitVec 1 := Scalar.cmpi .ne (Scalar.extui (Scalar.cmpi .eq (BitVec.ofNat 32 (i 1).val) 0#32) : BitVec 32) 0#32

/-- The accumulator reset to zero at the first group. -/
def reset (i : grid1.Coords) : P (F := F) PUnit :=
  if first i = 1#1 then do
    putAcc arg7 (broadcast S1024x256 (Scalar.ofBits .f32 0x00000000#32 : F .f32))
    pure ⟨⟩
  else do
    pure ⟨⟩

/-- The product of the decoded weights with the group's columns added to the accumulator; at the last group the result stored. -/
def finish (i : grid1.Coords) : P (F := F) PUnit := do
  let acc : Vec F S1024x256 .f32 ← Prog.lift (.load arg7 rect7.toLoadRect (View.loadsAt_vmem (by decide : 0 < S1024x256.numel)))
  let w : Vec F S1024x1024 .bf16 ← Prog.lift (.load arg8 rectW.toLoadRect (View.loadsAt_vmem (by decide : 0 < S1024x1024.numel)))
  let x : Vec F S256x1024 .bf16 ← Prog.lift (.load arg2 (rect2 i).toLoadRect (View.loadsAt_vmem (by decide : 0 < S256x1024.numel)))
  putAcc arg7 (addf acc (matmul dot_S1024x1024_S256x1024_S1024x256_1_1_0_0_n_n none w
    (shapeCast S256x1024 x (by decide : S256x1024.ShapeCasts S256x1024)) (constant S1024x256 .f32 0x00000000#32)))
  if k1_cond2 i = 1#1 then do
    let out : Vec F S1024x256 .f32 ← Prog.lift (.load arg7 rect7.toLoadRect (View.loadsAt_vmem (by decide : 0 < S1024x256.numel)))
    let _ : Vec F S256x1024 .bf16 ← Prog.lift (.load arg6 rect6.toLoadRect (View.loadsAt_vmem (by decide : 0 < S256x1024.numel)))
    Prog.lift (.store arg6 rect6 (truncf .bf16 (transpose S256x1024 [1, 0] out (by decide : S1024x256.Transposes [1, 0] S256x1024)) (by decide : FTy.bits .bf16 < FTy.bits .f32)) Finset.univ
      (View.stores_vmem (by decide : 0 < S256x1024.numel) (harg6.storeExact_slice rfl _ (by decide : (rect6).PackedRows (EltTy.packing .bf16))) (fun _ => rfl)) (.inl rfl))
    pure ⟨⟩
  else do
    pure ⟨⟩
  pure ⟨⟩

/-- The kernel's body, in pieces. -/
def body (i : grid1.Coords) : P (F := F) PUnit := do
  let v0 : Vec F S1x128 .i32 ← Prog.lift (.load arg4 (Rect.unit (s := S2x128) ![0, 0] S1x128.size (by decide)).toLoadRect (View.loadsAt_vmem (by decide : 0 < S1x128.numel)))
  let v4 : Vec F S1x128 .i32 ← Prog.lift (.load arg4 (Rect.unit (s := S2x128) ![1, 0] S1x128.size (by decide)).toLoadRect (View.loadsAt_vmem (by decide : 0 < S1x128.numel)))
  reset arg7 i
  blocks arg3 arg5 arg8 harg8 (BitVec.ofNat 32 (i 1).val) (tab v0) (tab v4) allBlocks
  finish arg2 arg6 harg6 arg7 arg8 i

end Prog

end Cert.Proof.Dec

end
-- ==== Proof.Block.lean ====
/-
  What the thirty-two row blocks of the decoding kernel leave in the scratch of decoded weights: each element of it read
  off one code byte, the table and one scale word (`decoded`).
-/
module

public import proofs.«01_k».proof.Proof.Body
public import proofs.«01_k».proof.Proof.Common
public import Idealize.ShloMosaic.Lib.Pipeline.Kit
public import Idealize.ShloMosaic.Lib.Pipeline.FrameBody
public import Idealize.ShloMosaic.Lib.Pipeline.Value
public import Idealize.ShloMosaic.Lib.ValueIdxCore
public import Idealize.ShloMosaic.Lib.Tactic

@[expose] public section

set_option maxRecDepth 16384

noncomputable section

namespace Cert.Proof.Dec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The stores of one row block -/

/-- The sixteen rows that half `q` of a row block decodes from one block of words: parity `p` of each pair. -/
def tile (lo hi w : IVec S8x128 32) (g : BitVec 32) (v5 : Vec F S1x16x128 .i32) : Fin 2 → Fin 2 → FVec F S16x128 .bf16
  | 0, 0 => mulf (asBf (evens (entry0 lo hi w) (entry1 lo hi w))) (scale0 g v5)
  | 0, 1 => mulf (asBf (odds (entry0 lo hi w) (entry1 lo hi w))) (scale0 g v5)
  | 1, 0 => mulf (asBf (evens (entry2 lo hi w) (entry3 lo hi w))) (scale1 g v5)
  | 1, 1 => mulf (asBf (odds (entry2 lo hi w) (entry3 lo hi w))) (scale1 g v5)

/-- The column block that column block `l` of the codes decodes to, at parity `p`. -/
abbrev col (l : Fin 4) (p : Fin 2) : Fin 8 := ⟨2 * l.val + p.val, by omega⟩

section Pieces

variable (X3 : S1024x512.Idx → Elt F .i8) (X5 : S1x512x128.Idx → Elt F .i32) (g : BitVec 32) (lo hi : IVec S8x128 32)

/-- One store: half `q`, parity `p` of column block `l` of row block `r`. -/
def piece (r : Fin 32) (l : Fin 4) (q p : Fin 2) : View.Piece (Elt F) S1024x1024 .bf16 :=
  ⟨rect8 r q (col l p), shapeCast S16x128 (tile lo hi (words (View.ld X3 (rect3 r l))) g (View.ld X5 (rect5 r)) q p)
    (by decide : S16x128.ShapeCasts S16x128)⟩

/-- The four stores of a column block, the latest first. -/
def columnPieces (r : Fin 32) (l : Fin 4) : List (View.Piece (Elt F) S1024x1024 .bf16) :=
  [piece X3 X5 g lo hi r l 1 1, piece X3 X5 g lo hi r l 1 0, piece X3 X5 g lo hi r l 0 1, piece X3 X5 g lo hi r l 0 0]

/-- The sixteen stores of a row block, the latest first. -/
def blockPieces (r : Fin 32) : List (View.Piece (Elt F) S1024x1024 .bf16) :=
  columnPieces X3 X5 g lo hi r 3 ++ (columnPieces X3 X5 g lo hi r 2 ++ (columnPieces X3 X5 g lo hi r 1 ++ columnPieces X3 X5 g lo hi r 0))

/-- The stores of a list of row blocks, the latest first. -/
def blocksPieces : List (Fin 32) → List (View.Piece (Elt F) S1024x1024 .bf16)
  | [] => []
  | r :: rs => blocksPieces rs ++ blockPieces X3 X5 g lo hi r

end Pieces

section Run

variable (c : Dev nD) (arg3 : Memref sig .tc .vmem S1024x512 .i8) (arg5 : Memref sig .tc .vmem S1x512x128 .i32)
  (arg8 : Memref sig .tc .vmem S1024x1024 .bf16) (harg8 : arg8.IsWhole) (g : BitVec 32) (lo hi : IVec S8x128 32)
  (f3 : Bf (F := F) c arg3) (f5 : Bf (F := F) c arg5)

/-- A row block runs, leaving its sixteen stores in the scratch. -/
theorem block_run (r : Fin 32) (f8 : Bf (F := F) c arg8) (E : Set ℕ) (Q : PUnit → sProp 𝕄) :
    iprop(pt c arg3 f3 ∗ pt c arg5 f5 ∗ pt c arg8 f8
        ∗ ((pt c arg3 f3 ∗ pt c arg5 f5 ∗ pt c arg8 (arg8.view.writes (Elt F) f8
            (blockPieces (arg3.view.read (Elt F) f3) (arg5.view.read (Elt F) f5) g lo hi r))) -∗ Q ⟨⟩))
      ⊢ wp frame (wpE (defs₀ (F := F)) Variants.none c none) E (block arg3 arg5 arg8 harg8 g lo hi r) Q := by
  unfold block column put
  iintro ⟨H3, H5, H0, Hk⟩
  sl_exec!
  sl_step
  iapply Hk
  isplitl [H3]; · iexact H3
  isplitl [H5]; · iexact H5
  iexact H0

/-- The row blocks of a list run one after another. -/
theorem blocks_run : ∀ (rs : List (Fin 32)) (f8 : Bf (F := F) c arg8) (E : Set ℕ) (Q : PUnit → sProp 𝕄),
    iprop(pt c arg3 f3 ∗ pt c arg5 f5 ∗ pt c arg8 f8
        ∗ ((pt c arg3 f3 ∗ pt c arg5 f5 ∗ pt c arg8 (arg8.view.writes (Elt F) f8
            (blocksPieces (arg3.view.read (Elt F) f3) (arg5.view.read (Elt F) f5) g lo hi rs))) -∗ Q ⟨⟩))
      ⊢ wp frame (wpE (defs₀ (F := F)) Variants.none c none) E (blocks arg3 arg5 arg8 harg8 g lo hi rs) Q
  | [], f8, E, Q => by
    unfold blocks blocksPieces
    iintro ⟨H3, H5, H0, Hk⟩
    sl_step
    iapply Hk
    isplitl [H3]; · iexact H3
    isplitl [H5]; · iexact H5
    iexact H0
  | r :: rs, f8, E, Q => by
    unfold blocks blocksPieces
    rw [wp_bind, View.writes_append]
    iintro ⟨H3, H5, H0, Hk⟩
    iapply block_run c arg3 arg5 arg8 harg8 g lo hi f3 f5 r f8 E _
    isplitl [H3]; · iexact H3
    isplitl [H5]; · iexact H5
    isplitl [H0]; · iexact H0
    iintro ⟨H3, H5, H0⟩
    iapply blocks_run rs _ E Q
    isplitl [H3]; · iexact H3
    isplitl [H5]; · iexact H5
    isplitl [H0]; · iexact H0
    iexact Hk

end Run

/-! ## What they leave -/

section Decoded

variable (X3 : S1024x512.Idx → Elt F .i8) (X5 : S1x512x128.Idx → Elt F .i32) (g : BitVec 32) (lo hi : IVec S8x128 32)

/-- The decoded weights of one group and one block of 1024 rows: row `32r + 16q + i`, column `128(2l + p) + j`. -/
def decoded (y : S1024x1024.Idx) : F .bf16 :=
  tile lo hi (words (View.ld X3 (rect3 ⟨(y 0).val / 32, by have : (y 0).val < 1024 := (y 0).isLt; omega⟩ ⟨(y 1).val / 256, by have : (y 1).val < 1024 := (y 1).isLt; omega⟩))) g
    (View.ld X5 (rect5 ⟨(y 0).val / 32, by have : (y 0).val < 1024 := (y 0).isLt; omega⟩))
    ⟨(y 0).val / 16 % 2, by omega⟩ ⟨(y 1).val / 128 % 2, by omega⟩
    (ix2 (n0 := 16) (n1 := 128) ⟨(y 0).val % 16, by omega⟩ ⟨(y 1).val % 128, by omega⟩)

/-- Each store's payload is `decoded` on its rectangle. -/
theorem piece_eq (r : Fin 32) (l : Fin 4) (q p : Fin 2) (x : (piece X3 X5 g lo hi r l q p).1.shape.Idx) :
    (piece X3 X5 g lo hi r l q p).2 x = decoded X3 X5 g lo hi ((piece X3 X5 g lo hi r l q p).1.emb x) := by
  have hx0 : (x 0).val < 16 := (x 0).isLt
  have hx1 : (x 1).val < 128 := (x 1).isLt
  have h0 : (((piece X3 X5 g lo hi r l q p).1.emb x) 0).val = 32 * r.val + 16 * q.val + (x 0).val := by
    show 32 * r.val + 16 * q.val + 1 * (x 0).val = _; omega
  have h1 : (((piece X3 X5 g lo hi r l q p).1.emb x) 1).val = 128 * (2 * l.val + p.val) + (x 1).val := by
    show 128 * (2 * l.val + p.val) + 1 * (x 1).val = _; omega
  unfold decoded
  have e1 : (⟨(((piece X3 X5 g lo hi r l q p).1.emb x) 0).val / 32, by rw [h0]; omega⟩ : Fin 32) = r := Fin.ext (by show _ / 32 = _; rw [h0]; omega)
  have e2 : (⟨(((piece X3 X5 g lo hi r l q p).1.emb x) 1).val / 256, by rw [h1]; omega⟩ : Fin 4) = l := Fin.ext (by show _ / 256 = _; rw [h1]; omega)
  have e3 : (⟨(((piece X3 X5 g lo hi r l q p).1.emb x) 0).val / 16 % 2, by omega⟩ : Fin 2) = q := Fin.ext (by show _ / 16 % 2 = _; rw [h0]; omega)
  have e4 : (⟨(((piece X3 X5 g lo hi r l q p).1.emb x) 1).val / 128 % 2, by omega⟩ : Fin 2) = p := Fin.ext (by show _ / 128 % 2 = _; rw [h1]; omega)
  have e5 : (ix2 (n0 := 16) (n1 := 128) ⟨(((piece X3 X5 g lo hi r l q p).1.emb x) 0).val % 16, by omega⟩ ⟨(((piece X3 X5 g lo hi r l q p).1.emb x) 1).val % 128, by omega⟩) = x := by
    funext a; fin_cases a
    · exact Fin.ext (by show _ % 16 = _; rw [h0]; show _ = (x 0).val; omega)
    · exact Fin.ext (by show _ % 128 = _; rw [h1]; show _ = (x 1).val; omega)
  rw [e1, e2, e3, e4, e5]
  unfold piece
  exact congrFun (shapeCast_self _ _) x

theorem mem_blocksPieces (r : Fin 32) (l : Fin 4) (q p : Fin 2) :
    ∀ rs : List (Fin 32), r ∈ rs → piece X3 X5 g lo hi r l q p ∈ blocksPieces X3 X5 g lo hi rs
  | [], h => absurd h List.not_mem_nil
  | r' :: rs, h => by
    unfold blocksPieces
    rcases List.mem_cons.mp h with rfl | h
    · refine List.mem_append_right _ ?_
      unfold blockPieces columnPieces
      fin_cases l <;> fin_cases q <;> fin_cases p <;> simp
    · exact List.mem_append_left _ (mem_blocksPieces r l q p rs h)

theorem of_mem_blocksPieces (P : View.Piece (Elt F) S1024x1024 .bf16) :
    ∀ rs : List (Fin 32), P ∈ blocksPieces X3 X5 g lo hi rs → ∃ r l q p, P = piece X3 X5 g lo hi r l q p
  | [], h => absurd h List.not_mem_nil
  | r' :: rs, h => by
    unfold blocksPieces at h
    rcases List.mem_append.mp h with h | h
    · exact of_mem_blocksPieces P rs h
    · unfold blockPieces columnPieces at h
      simp only [List.cons_append, List.nil_append, List.mem_cons, List.not_mem_nil, or_false] at h
      rcases h with h | h | h | h | h | h | h | h | h | h | h | h | h | h | h | h <;> exact ⟨_, _, _, _, h⟩

/-- After all the row blocks the scratch reads as `decoded`, whatever it held. -/
theorem read_blocks {sp : Space} (M : Memref sig .tc sp S1024x1024 .bf16) (f : M.view.ty.Contents (Elt F)) :
    M.view.read (Elt F) (M.view.writes (Elt F) f (blocksPieces X3 X5 g lo hi allBlocks)) = decoded X3 X5 g lo hi := by
  funext y
  refine View.read_writes_apply_of_pieces _ _ _ _ (fun P hP x => ?_) y ?_
  · obtain ⟨r, l, q, p, rfl⟩ := of_mem_blocksPieces X3 X5 g lo hi P _ hP
    exact piece_eq X3 X5 g lo hi r l q p x
  · have hy0 : (y 0).val < 1024 := (y 0).isLt
    have hy1 : (y 1).val < 1024 := (y 1).isLt
    refine ⟨piece X3 X5 g lo hi ⟨(y 0).val / 32, by omega⟩ ⟨(y 1).val / 256, by omega⟩ ⟨(y 0).val / 16 % 2, by omega⟩ ⟨(y 1).val / 128 % 2, by omega⟩,
      mem_blocksPieces X3 X5 g lo hi _ _ _ _ _ ?_, ?_⟩
    · generalize (⟨(y 0).val / 32, _⟩ : Fin 32) = r
      revert r; decide
    · have hm : (piece X3 X5 g lo hi ⟨(y 0).val / 32, by omega⟩ ⟨(y 1).val / 256, by omega⟩ ⟨(y 0).val / 16 % 2, by omega⟩ ⟨(y 1).val / 128 % 2, by omega⟩).1.emb
          (ix2 (n0 := 16) (n1 := 128) ⟨(y 0).val % 16, by omega⟩ ⟨(y 1).val % 128, by omega⟩) = y := by
        funext a; fin_cases a
        · refine Fin.ext ?_
          show 32 * ((y 0).val / 32) + 16 * ((y 0).val / 16 % 2) + 1 * ((y 0).val % 16) = (y 0).val; omega
        · refine Fin.ext ?_
          show 128 * (2 * ((y 1).val / 256) + (y 1).val / 128 % 2) + 1 * ((y 1).val % 128) = (y 1).val; omega
      have h := Rect.map_emb_univ (piece X3 X5 g lo hi ⟨(y 0).val / 32, by omega⟩ ⟨(y 1).val / 256, by omega⟩ ⟨(y 0).val / 16 % 2, by omega⟩ ⟨(y 1).val / 128 % 2, by omega⟩).1
      rw [← h]
      exact Finset.mem_map.mpr ⟨_, Finset.mem_univ _, hm⟩

end Decoded

end Cert.Proof.Dec

end
-- ==== Proof.BodyEq.lean ====
/-
  The printed body of the decoding kernel is the program of Body.lean.
-/
module

public import proofs.«01_k».proof.Proof.Body

@[expose] public section

set_option maxRecDepth 65536

noncomputable section

namespace Cert.Proof.Dec

open Cert.KernelIdeal
open Idealize.ShloMosaic Idealize.SL.Sem

variable {F : FTy → Type} [FloatOps F]

/-- What the first window of the printed body hands on. -/
def handOn (g : BitVec 32) (v0 v4 : Vec F S1x128 .i32) (v11 : Vec F S1x16x128 .i32) (v26 : Vec F S32x128 .i8) :
    Σ' (_ : BitVec 32) (_ : IVec S8x128 32) (_ : IVec S8x128 32) (_ : FVec F S16x128 .bf16) (_ : FVec F S16x128 .bf16) (_ : IVec S8x128 32) (_ : IVec S8x128 32) (_ : IVec S8x128 32), IVec S8x128 1 :=
  ⟨g, tab v0, tab v4, scale0 g v11, scale1 g v11, words v26, andi (words v26) (broadcast S8x128 127#32),
    look (tab v0) (andi (words v26) (broadcast S8x128 127#32)), cmpi .slt (andi (words v26) (broadcast S8x128 127#32)) (broadcast S8x128 0#32)⟩

/-- The first window of the printed body: the table read, the accumulator reset at the first group, the first scales and codes read. -/
theorem part1_eq (i : grid1.Coords)
    (arg2 : Memref sig .tc .vmem S256x12288 .bf16) (harg2 : arg2.IsWhole) (arg3 : Memref sig .tc .vmem S1024x512 .i8) (harg3 : arg3.IsWhole)
    (arg4 : Memref sig .tc .vmem S2x128 .i32) (harg4 : arg4.IsWhole) (arg5 : Memref sig .tc .vmem S1x512x128 .i32) (harg5 : arg5.IsWhole)
    (arg6 : Memref sig .tc .vmem S256x1024 .bf16) (harg6 : arg6.IsWhole) (arg7 : Memref sig .tc .vmem S1024x256 .f32) (harg7 : arg7.IsWhole)
    (arg8 : Memref sig .tc .vmem S1024x1024 .bf16) (harg8 : arg8.IsWhole) :
    k1_part1 (F := F) i arg2 harg2 arg3 harg3 arg4 harg4 arg5 harg5 arg6 harg6 arg7 harg7 arg8 harg8
      = (Prog.lift (.load arg4 (Rect.unit (s := S2x128) ![0, 0] S1x128.size (by decide)).toLoadRect (View.loadsAt_vmem (by decide : 0 < S1x128.numel))) >>= fun v0 =>
          Prog.lift (.load arg4 (Rect.unit (s := S2x128) ![1, 0] S1x128.size (by decide)).toLoadRect (View.loadsAt_vmem (by decide : 0 < S1x128.numel))) >>= fun v4 =>
          reset arg7 i >>= fun _ =>
          Prog.lift (.load arg5 (rect5 0).toLoadRect (View.loadsAt_vmem (by decide : 0 < S1x16x128.numel))) >>= fun v11 =>
          Prog.lift (.load arg3 (rect3 0 0).toLoadRect (View.loadsAt_vmem (by decide : 0 < S32x128.numel))) >>= fun v26 =>
          pure (handOn (BitVec.ofNat 32 (i 1).val) v0 v4 v11 v26)) := by
  unfold k1_part1
  refine congrArg (bind _) (funext fun v0 => congrArg (bind _) (funext fun v4 => ?_))
  by_cases h : first i = 1#1
  · exact (dif_pos h).trans (by rw [reset, if_pos h]; chain_rfl)
  · exact (dif_neg h).trans (by rw [reset, if_neg h]; chain_rfl)

set_option maxHeartbeats 2000000 in
/-- The printed body is the program in pieces. -/
theorem body_eq (i : grid1.Coords)
    (arg2 : Memref sig .tc .vmem S256x12288 .bf16) (harg2 : arg2.IsWhole) (arg3 : Memref sig .tc .vmem S1024x512 .i8) (harg3 : arg3.IsWhole)
    (arg4 : Memref sig .tc .vmem S2x128 .i32) (harg4 : arg4.IsWhole) (arg5 : Memref sig .tc .vmem S1x512x128 .i32) (harg5 : arg5.IsWhole)
    (arg6 : Memref sig .tc .vmem S256x1024 .bf16) (harg6 : arg6.IsWhole) (arg7 : Memref sig .tc .vmem S1024x256 .f32) (harg7 : arg7.IsWhole)
    (arg8 : Memref sig .tc .vmem S1024x1024 .bf16) (harg8 : arg8.IsWhole) :
    cc1_decode_matmul (F := F) i arg2 harg2 arg3 harg3 arg4 harg4 arg5 harg5 arg6 harg6 arg7 harg7 arg8 harg8
      = body arg2 arg3 arg4 arg5 arg6 harg6 arg7 arg8 harg8 i := by
  unfold cc1_decode_matmul k1_part417
  rw [part1_eq]
  simp only [bind_assoc]
  chain_rfl

end Cert.Proof.Dec

end
-- ==== Proof.BodyRun.lean ====
/-
  What the body of the decoding kernel does at one grid point: the accumulator, reset at the first group, gains the product
  of the decoded weights with the group's columns; at the last group the result is the transposed accumulator.
-/
module

public import proofs.«01_k».proof.Proof.Block
public import proofs.«01_k».proof.Proof.BodyEq
public import Idealize.ShloMosaic.Lib.VecWindow

@[expose] public section

set_option maxRecDepth 16384

noncomputable section

namespace Cert.Proof.Dec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The accumulator after a point: the one before it, or zero at the first group, plus the product of the decoded weights `w`
    with the group's columns of `x`. -/
def gain (i : grid1.Coords) (x : S256x12288.Idx → F .bf16) (w : S1024x1024.Idx → F .bf16) (a : S1024x256.Idx → F .f32) : FVec F S1024x256 .f32 :=
  addf (if first i = 1#1 then broadcast S1024x256 (Scalar.ofBits .f32 0x00000000#32) else a)
    (matmul dot_S1024x1024_S256x1024_S1024x256_1_1_0_0_n_n none w
      (shapeCast S256x1024 (View.ld (Val := Elt F) (e' := .bf16) x (rect2 i)) (by decide : S256x1024.ShapeCasts S256x1024)) (constant S1024x256 .f32 0x00000000#32))

/-- The result block of an accumulator: transposed, in bf16. -/
def result (a : S1024x256.Idx → F .f32) : FVec F S256x1024 .bf16 :=
  truncf .bf16 (transpose S256x1024 [1, 0] a (by decide : S1024x256.Transposes [1, 0] S256x1024)) (by decide : FTy.bits .bf16 < FTy.bits .f32)

section Run

variable (c : Dev nD) (arg2 : Memref sig .tc .vmem S256x12288 .bf16) (harg2 : arg2.IsWhole) (arg3 : Memref sig .tc .vmem S1024x512 .i8) (harg3 : arg3.IsWhole)
  (arg4 : Memref sig .tc .vmem S2x128 .i32) (harg4 : arg4.IsWhole) (arg5 : Memref sig .tc .vmem S1x512x128 .i32) (harg5 : arg5.IsWhole)
  (arg6 : Memref sig .tc .vmem S256x1024 .bf16) (harg6 : arg6.IsWhole) (arg7 : Memref sig .tc .vmem S1024x256 .f32) (harg7 : arg7.IsWhole)
  (arg8 : Memref sig .tc .vmem S1024x1024 .bf16) (harg8 : arg8.IsWhole) (i : grid1.Coords)

/-- The reset: at the first group the accumulator reads zero afterwards, else it is as before. -/
theorem reset_run (f7 : Bf (F := F) c arg7) (E : Set ℕ) (Q : PUnit → sProp 𝕄) :
    iprop(pt c arg7 f7 ∗ (∀ f7' : Bf (F := F) c arg7, (⌜arg7.view.read (Elt F) f7'
        = if first i = 1#1 then broadcast S1024x256 (Scalar.ofBits .f32 0x00000000#32) else arg7.view.read (Elt F) f7⌝ ∗ pt c arg7 f7') -∗ Q ⟨⟩))
      ⊢ wp frame (wpE (defs₀ (F := F)) Variants.none c none) E (reset arg7 i) Q := by
  unfold reset putAcc
  by_cases h : first i = 1#1
  · rw [if_pos h, if_pos h]
    iintro ⟨H7, Hk⟩
    sl_exec!
    sl_step
    iapply Hk
    isplitr; swap; (· iexact H7)
    ipureintro
    rw [View.read_writes_full, shapeCast_self]
  · rw [if_neg h, if_neg h]
    iintro ⟨H7, Hk⟩
    sl_step
    iapply Hk
    isplitr; swap; (· iexact H7)
    ipureintro; rfl

/-- The product and, at the last group, the store of the result. -/
theorem finish_run (f2 : Bf (F := F) c arg2) (f6 : Bf (F := F) c arg6) (f7 : Bf (F := F) c arg7) (f8 : Bf (F := F) c arg8)
    (a : S1024x256.Idx → F .f32) (ha : arg7.view.read (Elt F) f7 = if first i = 1#1 then broadcast S1024x256 (Scalar.ofBits .f32 0x00000000#32) else a)
    (E : Set ℕ) (Q : PUnit → sProp 𝕄) :
    iprop(pt c arg2 f2 ∗ pt c arg6 f6 ∗ pt c arg7 f7 ∗ pt c arg8 f8
        ∗ (∀ (f6' : Bf (F := F) c arg6) (f7' : Bf (F := F) c arg7),
            (⌜arg7.view.read (Elt F) f7' = gain i (arg2.view.read (Elt F) f2) (arg8.view.read (Elt F) f8) a
                ∧ (k1_cond2 i = 1#1 → arg6.view.read (Elt F) f6' = result (gain i (arg2.view.read (Elt F) f2) (arg8.view.read (Elt F) f8) a))
                ∧ (k1_cond2 i ≠ 1#1 → f6' = f6)⌝
              ∗ pt c arg2 f2 ∗ pt c arg6 f6' ∗ pt c arg7 f7' ∗ pt c arg8 f8) -∗ Q ⟨⟩))
      ⊢ wp frame (wpE (defs₀ (F := F)) Variants.none c none) E (finish arg2 arg6 harg6 arg7 arg8 i) Q := by
  unfold finish putAcc
  by_cases h : k1_cond2 i = 1#1
  · rw [if_pos h]
    iintro ⟨H2, H6, H7, H8, Hk⟩
    sl_exec!
    sl_step
    iapply Hk
    isplitr
    swap
    · isplitl [H2]; · iexact H2
      isplitl [H6]; · iexact H6
      isplitl [H7]; · iexact H7
      iexact H8
    · ipureintro
      have h7 : ∀ f : Bf (F := F) c arg7, arg7.view.read (Elt F) (arg7.view.writes (Elt F) f (finish_run.sl.H7_1 c arg2 arg7 arg8 i f2 f7 f8))
          = gain i (arg2.view.read (Elt F) f2) (arg8.view.read (Elt F) f8) a := fun f => by
        unfold finish_run.sl.H7_1
        rw [View.read_writes_full, shapeCast_self]
        unfold gain
        rw [← ha, View.readAt_full, View.readAt_full]
        rfl
      refine ⟨h7 _, fun _ => ?_, fun hn => absurd h hn⟩
      unfold finish_run.sl.H6_1
      rw [View.read_writes_full]
      unfold result
      rw [← h7 arg7.view.junk]
      unfold finish_run.sl.out
      exact congrArg (fun z => truncf .bf16 (transpose S256x1024 [1, 0] z (by decide : S1024x256.Transposes [1, 0] S256x1024)) (by decide : FTy.bits .bf16 < FTy.bits .f32))
        (View.readAt_full _ _ _)
  · rw [if_neg h]
    iintro ⟨H2, H6, H7, H8, Hk⟩
    sl_exec!
    sl_step
    iapply Hk
    isplitr
    swap
    · isplitl [H2]; · iexact H2
      isplitl [H6]; · iexact H6
      isplitl [H7]; · iexact H7
      iexact H8
    · ipureintro
      refine ⟨?_, fun hp => absurd hp h, fun _ => rfl⟩
      rw [View.read_writes_full, shapeCast_self]
      unfold gain
      rw [← ha, View.readAt_full, View.readAt_full]
      rfl

/-- The decoded weights of a point, from the blocks it stages: the table `x4`, the codes `x3` and the scale words `x5`. -/
abbrev weights (x4 : S2x128.Idx → Elt F .i32) (x3 : S1024x512.Idx → Elt F .i8) (x5 : S1x512x128.Idx → Elt F .i32) : S1024x1024.Idx → F .bf16 :=
  decoded x3 x5 (BitVec.ofNat 32 (i 1).val)
    (tab (F := F) (View.ld (Val := Elt F) (e' := .i32) x4 (Rect.unit (s := S2x128) ![0, 0] S1x128.size (by decide))))
    (tab (F := F) (View.ld (Val := Elt F) (e' := .i32) x4 (Rect.unit (s := S2x128) ![1, 0] S1x128.size (by decide))))

/-- The two halves of the table are read first. -/
theorem tables_run (f4 : Bf (F := F) c arg4) (K : Vec F S1x128 .i32 → Vec F S1x128 .i32 → P (F := F) PUnit) (E : Set ℕ) (Q : PUnit → sProp 𝕄) :
    iprop(pt c arg4 f4 ∗ (pt c arg4 f4 -∗ wp frame (wpE (defs₀ (F := F)) Variants.none c none) E
        (K (View.ld (Val := Elt F) (e' := .i32) (arg4.view.read (Elt F) f4) (Rect.unit (s := S2x128) ![0, 0] S1x128.size (by decide)))
          (View.ld (Val := Elt F) (e' := .i32) (arg4.view.read (Elt F) f4) (Rect.unit (s := S2x128) ![1, 0] S1x128.size (by decide)))) Q))
      ⊢ wp frame (wpE (defs₀ (F := F)) Variants.none c none) E (do
          let v0 : Vec F S1x128 .i32 ← Prog.lift (.load arg4 (Rect.unit (s := S2x128) ![0, 0] S1x128.size (by decide)).toLoadRect (View.loadsAt_vmem (by decide : 0 < S1x128.numel)))
          let v4 : Vec F S1x128 .i32 ← Prog.lift (.load arg4 (Rect.unit (s := S2x128) ![1, 0] S1x128.size (by decide)).toLoadRect (View.loadsAt_vmem (by decide : 0 < S1x128.numel)))
          K v0 v4) Q := by
  iintro ⟨H4, Hk⟩
  sl_exec!
  iapply Hk
  iexact H4

/-- THE BODY at a grid point: what it leaves in the accumulator and in the result block. -/
theorem body_run (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (E : Set ℕ) (Q : PUnit → sProp 𝕄) :
    iprop(pt c arg2 f2 ∗ pt c arg3 f3 ∗ pt c arg4 f4 ∗ pt c arg5 f5 ∗ pt c arg6 f6 ∗ pt c arg7 f7 ∗ pt c arg8 f8
        ∗ (∀ (f6' : Bf (F := F) c arg6) (f7' : Bf (F := F) c arg7) (f8' : Bf (F := F) c arg8),
            (⌜arg7.view.read (Elt F) f7' = gain i (arg2.view.read (Elt F) f2) (weights i (arg4.view.read (Elt F) f4) (arg3.view.read (Elt F) f3) (arg5.view.read (Elt F) f5)) (arg7.view.read (Elt F) f7)
                ∧ (k1_cond2 i = 1#1 → arg6.view.read (Elt F) f6' = result (gain i (arg2.view.read (Elt F) f2) (weights i (arg4.view.read (Elt F) f4) (arg3.view.read (Elt F) f3) (arg5.view.read (Elt F) f5)) (arg7.view.read (Elt F) f7)))
                ∧ (k1_cond2 i ≠ 1#1 → f6' = f6)⌝
              ∗ pt c arg2 f2 ∗ pt c arg3 f3 ∗ pt c arg4 f4 ∗ pt c arg5 f5 ∗ pt c arg6 f6' ∗ pt c arg7 f7' ∗ pt c arg8 f8') -∗ Q ⟨⟩))
      ⊢ wp frame (wpE (defs₀ (F := F)) Variants.none c none) E
          (cc1_decode_matmul (F := F) i arg2 harg2 arg3 harg3 arg4 harg4 arg5 harg5 arg6 harg6 arg7 harg7 arg8 harg8) Q := by
  rw [body_eq]
  unfold body
  iintro ⟨H2, H3, H4, H5, H6, H7, H8, Hk⟩
  iapply tables_run c arg4 f4 (fun v0 v4 => do
    reset arg7 i
    blocks arg3 arg5 arg8 harg8 (BitVec.ofNat 32 (i 1).val) (tab v0) (tab v4) allBlocks
    finish arg2 arg6 harg6 arg7 arg8 i) E Q
  isplitl [H4]; · iexact H4
  iintro H4
  rw [wp_bind]
  iapply reset_run c arg7 i f7 E _
  isplitl [H7]; · iexact H7
  iintro %f7' ⟨%h7, H7⟩
  rw [wp_bind]
  iapply blocks_run c arg3 arg5 arg8 harg8 _ _ _ f3 f5 allBlocks f8 E _
  isplitl [H3]; · iexact H3
  isplitl [H5]; · iexact H5
  isplitl [H8]; · iexact H8
  iintro ⟨H3, H5, H8⟩
  iapply finish_run c arg2 arg6 harg6 arg7 arg8 i f2 f6 f7' _ (arg7.view.read (Elt F) f7) h7 E Q
  isplitl [H2]; · iexact H2
  isplitl [H6]; · iexact H6
  isplitl [H7]; · iexact H7
  isplitl [H8]; · iexact H8
  rw [read_blocks]
  iintro %f6' %f7'' ⟨%hf, H2, H6, H7, H8⟩
  iapply Hk
  isplitr; · ipureintro; exact hf
  isplitl [H2]; · iexact H2
  isplitl [H3]; · iexact H3
  isplitl [H4]; · iexact H4
  isplitl [H5]; · iexact H5
  isplitl [H6]; · iexact H6
  isplitl [H7]; · iexact H7
  iexact H8

end Run

end Cert.Proof.Dec

end
-- ==== Proof.Region1.lean ====
/-
  The multiplying kernel's region: what the accumulator holds before each grid point, what each window's buffer holds, and the
  body's specification at each point.
-/
module

public import proofs.«01_k».proof.Proof.BodyRun
public import proofs.«01_k».proof.Proof.Gen.KernelIdeal.Points
public import proofs.«01_k».proof.Proof.Gen.KernelIdeal.Regions

@[expose] public section

set_option maxRecDepth 16384

noncomputable section

namespace Cert.Proof.Dec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- The block of an input's array at a grid point. -/
abbrev blk0 (c : Dev nD) (t : Fin cfg1.N) : S256x12288.Idx → F .bf16 := ((cfg1.win 0).blk t).view.read (Elt F) (V c main_v5_1)
abbrev blk1 (c : Dev nD) (t : Fin cfg1.N) : S1024x512.Idx → BitVec 8 := ((cfg1.win 1).blk t).view.read (Elt F) (V c main_arg3)
abbrev blk2 (c : Dev nD) (t : Fin cfg1.N) : S2x128.Idx → BitVec 32 := ((cfg1.win 2).blk t).view.read (Elt F) (V c main_v7)
abbrev blk3 (c : Dev nD) (t : Fin cfg1.N) : S1x512x128.Idx → BitVec 32 := ((cfg1.win 3).blk t).view.read (Elt F) (V c main_v12)

/-- One grid point's accumulation over what the accumulator held. -/
def step (c : Dev nD) (t : Fin cfg1.N) (a : S1024x256.Idx → F .f32) : S1024x256.Idx → F .f32 :=
  gain (grid1.coords t) (blk0 V c t) (weights (grid1.coords t) (blk2 V c t) (blk1 V c t) (blk3 V c t)) a

/-- What the accumulator holds before grid point `n`. -/
def accBefore (c : Dev nD) : ℕ → S1024x256.Idx → F .f32
  | 0 => fun _ => FloatOps.ofBits .f32 0
  | n + 1 => if h : n < cfg1.N then step V c ⟨n, h⟩ (accBefore c n) else accBefore c n

theorem accBefore_succ (c : Dev nD) (t : Fin cfg1.N) : accBefore V c (t.val + 1) = step V c t (accBefore V c t.val) := by
  show (if h : t.val < cfg1.N then _ else _) = _
  rw [dif_pos t.isLt]

/-- The buffers the region neither stages nor accumulates in, at something. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before grid point `n`: the accumulator, unless about to be cleared, holds the sum so far. -/
def Φc (c : Dev nD) (n : ℕ) : sProp 𝕄 :=
  iprop(∃ (f7 : Bf (F := F) c (Memref.whole cc1_scratch0)) (f8 : Bf (F := F) c (Memref.whole cc1_scratch1)),
    ⌜n % 12 ≠ 0 → (Memref.whole cc1_scratch0).view.read (Elt F) f7 = accBefore V c n⌝
      ∗ pt c (Memref.whole cc1_scratch0) f7 ∗ pt c (Memref.whole cc1_scratch1) f8 ∗ others c)

theorem inv_intro (c : Dev nD) (n : ℕ) (f7 : Bf (F := F) c (Memref.whole cc1_scratch0)) (f8 : Bf (F := F) c (Memref.whole cc1_scratch1))
    (h : (Memref.whole cc1_scratch0).view.read (Elt F) f7 = accBefore V c n) :
    iprop(pt c (Memref.whole cc1_scratch0) f7 ∗ pt c (Memref.whole cc1_scratch1) f8 ∗ others c) ⊢ Φc V c n := by
  unfold Φc
  iintro H
  iexists f7
  iexists f8
  isplitr
  · ipureintro; exact fun _ => h
  iexact H

/-- Every scoped buffer the region does not stage, at something. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The buffers at the region's entry make the invariant, which asks nothing of the accumulator there. -/
theorem inv_of_rest (c : Dev nD) : rest (F := F) c ⊢ Φc V c 0 := by
  unfold rest Φc others
  iintro ⟨G0, G1, G2, G3, G4, G5, G6, G7, G8, ⟨%f7, H7⟩, ⟨%f8, H8⟩⟩
  iexists f7
  iexists f8
  isplitr
  · ipureintro; exact fun h => absurd rfl h
  isplitl [H7]; · iexact H7
  isplitl [H8]; · iexact H8
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

/-- The invariant gives them back. -/
theorem rest_of_inv (c : Dev nD) (n : ℕ) : Φc V c n ⊢ rest (F := F) c := by
  unfold rest Φc others
  iintro ⟨%f7, %f8, -, H7, H8, G0, G1, G2, G3, G4, G5, G6, G7, G8⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [H7]; · iexists f7; iexact H7
  iexists f8; iexact H8

/-- What each window's buffer holds after the body at each point. -/
def dat (c : Dev nD) : Dat τ (Elt F) Unit ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => result (accBefore V c (t.val + 1))
  Φ t := Φc V c t.val
  q _ := fullShare
  owed _ := 0

theorem before0 (c : Dev nD) (t : Fin cfg1.N) (d) : (dat V c).before 0 t d = blk0 V c t :=
  ((dat V c).before_in_eq_fetched 0 rfl (fun _ => rfl) (fun _ _ _ => rfl) (fun _ => rfl) t d).trans rfl
theorem before1 (c : Dev nD) (t : Fin cfg1.N) (d) : (dat V c).before 1 t d = blk1 V c t :=
  ((dat V c).before_in_eq_fetched 1 rfl (fun _ => rfl) (fun _ _ _ => rfl) (fun _ => rfl) t d).trans rfl
theorem before2 (c : Dev nD) (t : Fin cfg1.N) (d) : (dat V c).before 2 t d = blk2 V c t :=
  ((dat V c).before_in_eq_fetched 2 rfl (fun _ => rfl) (fun _ _ _ => rfl) (fun _ => rfl) t d).trans rfl
theorem before3 (c : Dev nD) (t : Fin cfg1.N) (d) : (dat V c).before 3 t d = blk3 V c t :=
  ((dat V c).before_in_eq_fetched 3 rfl (fun _ => rfl) (fun _ _ _ => rfl) (fun _ => rfl) t d).trans rfl

/-- The first point of a row block of the output clears the accumulator; the last one writes the block. -/
theorem first_of : ∀ t : Fin grid1.N, t.val % 12 = 0 → first (grid1.coords t) = 1#1 := by decide +kernel
theorem last_of : ∀ t : Fin grid1.N, k1_cond2 (grid1.coords t) = 1#1 ↔ t.val % 12 = 11 := by decide +kernel

/-- The sum after a point, from what the accumulator held before. -/
theorem step_acc (c : Dev nD) (t : Fin cfg1.N) (a : S1024x256.Idx → F .f32) (h : t.val % 12 ≠ 0 → a = accBefore V c t.val) :
    step V c t a = accBefore V c (t.val + 1) := by
  rw [accBefore_succ]
  by_cases h0 : t.val % 12 = 0
  · unfold step gain
    rw [if_pos (first_of t h0), if_pos (first_of t h0)]
  · rw [h h0]

set_option maxHeartbeats 2000000 in
/-- The body at each grid point, from the buffers as the pipeline hands them over. -/
theorem body_obligation (c : Dev nD) : BodyObligation (dat V c) (defs₀ (F := F)) Variants.none () Set.univ := fun t => by
  rw [bigSep_W1, bigSep_W1]
  rw [show (dat V c).Φ t.castSucc = Φc V c t.val from rfl, show (dat V c).Φ t.succ = Φc V c (t.val + 1) from rfl,
    show (dat V c).owesAt () t.succ = (dat V c).owesAt () t.castSucc from rfl]
  simp only [before0, before1, before2, before3]
  iintro ⟨HΦ, Howes, ⟨%d0, H0⟩, ⟨%d1, H1⟩, ⟨%d2, H2⟩, ⟨%d3, H3⟩, ⟨%d4, H4⟩⟩
  ihave HΦ := (show Φc V c t.val ⊢ _ by unfold Φc; exact BI.Entails.refl _) $$ HΦ
  icases HΦ with ⟨%f7, %f8, %ha, H7, H8, Ho⟩
  ihave H0 := owns_elim c (st1_0 t) (hstage1_0 ((cfg1.slots t 0).cast nbuf1_0)) _ $$ H0
  ihave H1 := owns_elim c (st1_1 t) (hstage1_1 ((cfg1.slots t 1).cast nbuf1_1)) _ $$ H1
  ihave H2 := owns_elim c (st1_2 t) (hstage1_2 ((cfg1.slots t 2).cast nbuf1_2)) _ $$ H2
  ihave H3 := owns_elim c (st1_3 t) (hstage1_3 ((cfg1.slots t 3).cast nbuf1_3)) _ $$ H3
  ihave H4 := owns_elim c (st1_4 t) (hstage1_4 ((cfg1.slots t 4).cast nbuf1_4)) _ $$ H4
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  iapply body_run c (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (Memref.whole cc1_scratch0) (Memref.isWhole_whole _) (Memref.whole cc1_scratch1) (Memref.isWhole_whole _) (grid1.coords t)
    f0 f1 f2 f3 f4 f7 f8 Set.univ _
  isplitl [H0]; · iexact H0
  isplitl [H1]; · iexact H1
  isplitl [H2]; · iexact H2
  isplitl [H3]; · iexact H3
  isplitl [H4]; · iexact H4
  isplitl [H7]; · iexact H7
  isplitl [H8]; · iexact H8
  iintro %f4' %f7' %f8' ⟨%h, H0, H1, H2, H3, H4, H7, H8⟩
  rw [h0, h1, h2, h3] at h
  have hs := step_acc V c t _ ha
  obtain ⟨hg, hw, hk⟩ := h
  have hg' := hg.trans hs
  isplitl [H7 H8 Ho]
  · iapply inv_intro V c (t.val + 1) f7' f8' hg'
    isplitl [H7]; · iexact H7
    isplitl [H8]; · iexact H8
    iexact Ho
  isplitl [Howes]; · iexact Howes
  isplitl [H0]; · iapply owns_intro c (st1_0 t) (hstage1_0 ((cfg1.slots t 0).cast nbuf1_0)) _ f0 h0; iexact H0
  isplitl [H1]; · iapply owns_intro c (st1_1 t) (hstage1_1 ((cfg1.slots t 1).cast nbuf1_1)) _ f1 h1; iexact H1
  isplitl [H2]; · iapply owns_intro c (st1_2 t) (hstage1_2 ((cfg1.slots t 2).cast nbuf1_2)) _ f2 h2; iexact H2
  isplitl [H3]; · iapply owns_intro c (st1_3 t) (hstage1_3 ((cfg1.slots t 3).cast nbuf1_3)) _ f3 h3; iexact H3
  by_cases hl : k1_cond2 (grid1.coords t) = 1#1
  · have hi : idle1 4 (grid1.coords t) = false := by show (!(k1_cond2 (grid1.coords t) == 1#1)) = false; rw [hl]; rfl
    rw [hi]
    iapply owns_intro c (st1_4 t) (hstage1_4 ((cfg1.slots t 4).cast nbuf1_4)) _ f4' ((hw hl).trans (congrArg result hs))
    iexact H4
  · have hi : idle1 4 (grid1.coords t) = true := by show (!(k1_cond2 (grid1.coords t) == 1#1)) = true; simpa using hl
    have hf : (win1 4).flush t = false := by
      cases hb : (win1 4).flush t
      · rfl
      · exact absurd ((last_of t).mpr ((flush1_4 t).mp hb)) hl
    rw [hi, hf]
    rw [hk hl]
    iexists d4
    iapply owns_intro c (st1_4 t) (hstage1_4 ((cfg1.slots t 4).cast nbuf1_4)) _ f4 h4
    iexact H4

end Cert.Proof.Dec

end
-- ==== Proof.Segs.lean ====
/-
  The two regions as segments of the whole program: each entered from every unscoped buffer at given contents, and left with
  its results' arrays as the write-backs fill them and every other buffer as it was.
-/
module

public import proofs.«01_k».proof.Proof.Region0
public import proofs.«01_k».proof.Proof.Region1
public import Idealize.ShloMosaic.Lib.Pipeline.RegionsLoop

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Contents of every unscoped buffer. -/
abbrev Vals : Type := (c : Dev nD) → (b : Ref sig .tc) → Buf (Elt F) ((c : Thread nD τ).loc b)

variable (V W : Vals (F := F))

/-- The proof data of both regions, the first entered from `V`, the second from `W`. -/
def pdats : (p : Fin 2) → (c : Dev nD) → Dat τ (Elt F) Unit ℕ UU ℕ (cfgs p) c
  | ⟨0, _⟩ => fun c => Rot.dat V c
  | ⟨1, _⟩ => fun c => Dec.dat W c

/-- No core owes another anything: no level is assigned. -/
abbrev L : GSem nD τ sig → Finset Unit := fun _ => ∅
abbrev lv : GSem nD τ sig → Unit → ℕ := fun _ _ => 0

/-- What a core carries beside the buffers: it owes nothing. -/
abbrev free (c : Dev nD) : sProp 𝕄 := iprop(∃ W, owes (c : Thread nD τ) (0 : CellTallies nD τ sig Unit) W)

/-- The scoped buffers the second region does not stage, listed. -/
theorem to_rest (c : Dev nD) : (Pipeline.scopedRest (Ix := Unit) (Name := ℕ) (U := UU) (Lvl := ℕ) (Val := Elt F) spec1 c : sProp 𝕄) ⊢ Dec.rest c := by
  rw [scopedRest1_eq]; exact .rfl
theorem of_rest (c : Dev nD) : Dec.rest c ⊢ (Pipeline.scopedRest (Ix := Unit) (Name := ℕ) (U := UU) (Lvl := ℕ) (Val := Elt F) spec1 c : sProp 𝕄) := by
  rw [scopedRest1_eq]; exact .rfl

-- the launch lemmas unify only when plain definitions may be unfolded in a metavariable's type
set_option backward.isDefEq.respectTransparency.types false in
/-- The rotating kernel's region. -/
def reg0 (V' : Vals (F := F)) (h3 : ∀ c, V' c main_v5_0 = (Rot.dat V c).arrAt 3 cfg0.N) (h4 : ∀ c, V' c main_v5_1 = (Rot.dat V c).arrAt 4 cfg0.N)
    (hne : ∀ c (b : Ref sig .tc), b ≠ main_v5_0 → b ≠ main_v5_1 → V' c b = V c b) :
    Pipeline.RegionSeg (pcfgs (F := F)) adm (pdats V W) () defs₀ Variants.none L lv 0 where
  win := (launch0).win.to₀
  block_pos := (launch0).block_pos
  stage_whole := (launch0).stage_whole
  K := PEmpty
  osem k := k.elim
  ho := Pipeline.OwnSemFacts.none _
  hbody c := (Rot.body_obligation V c).loose
  hwaits := Pipeline.hwaits_of_owed_zero _ _ _ _ L lv 0 fun _ _ => rfl
  pre c := iprop(unscopedBufs c (V c) ∗ free c)
  post c := iprop(unscopedBufs c (V' c) ∗ free c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V W) (launch0).win (launch0).arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Rot.Φc c from rfl]
    iintro ⟨-, -, Hr⟩; iexact Hr
  hout c := by
    rw [Pipeline.ownSems0_none, show (pdats V W 0 c).Φ (Fin.last _) = Rot.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      (pdats V W) ((pdats V W 0 c).share_full fun _ => rfl) (V c) (V' c) ((pdats V W 0 c).arrAt · cfg0.N)
      (fun w => by
        fin_cases w
        · exact ((pdats V W 0 c).arrAt_in 0 rfl _).trans (hne c main_v0 (by decide) (by decide)).symm
        · exact ((pdats V W 0 c).arrAt_in 1 rfl _).trans (hne c main_v4 (by decide) (by decide)).symm
        · exact ((pdats V W 0 c).arrAt_in 2 rfl _).trans (hne c main_cst (by decide) (by decide)).symm
        · exact (h3 c).symm
        · exact (h4 c).symm
        )
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The multiplying kernel's region. -/
def reg1 (W' : Vals (F := F)) (h4 : ∀ c, W' c main_v13 = (Dec.dat W c).arrAt 4 cfg1.N)
    (hne : ∀ c (b : Ref sig .tc), b ≠ main_v13 → W' c b = W c b) :
    Pipeline.RegionSeg (pcfgs (F := F)) adm (pdats V W) () defs₀ Variants.none L lv 1 where
  win := (launch1).win.to₀
  block_pos := (launch1).block_pos
  stage_whole := (launch1).stage_whole
  K := PEmpty
  osem k := k.elim
  ho := Pipeline.OwnSemFacts.none _
  hbody c := (Dec.body_obligation W c).loose
  hwaits := Pipeline.hwaits_of_owed_zero _ _ _ _ L lv 1 fun _ _ => rfl
  pre c := iprop(unscopedBufs c (W c) ∗ free c)
  post c := iprop(unscopedBufs c (W' c) ∗ free c)
  X _ := BI.emp
  Y _ := BI.emp
  Z c := Pipeline.unscopedRest (Ix := Unit) (Name := ℕ) (U := UU) (Lvl := ℕ) spec1 c (W c)
  hentry c := by
    rw [Pipeline.ownSems0_none]
    have hsplit := Pipeline.arrays_of_unscopedBufs (p := 1) (pcfgs (F := F)) adm (pdats V W) (launch1).win (launch1).arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = Dec.Φc W c 0 from rfl]
    iintro ⟨-, -, Hr⟩
    iapply Dec.inv_of_rest W c
    iapply to_rest c
    iexact Hr
  hout c := by
    rw [Pipeline.ownSems0_none, show (pdats V W 1 c).Φ (Fin.last _) = Dec.Φc W c cfg1.N from rfl]
    iintro Hr
    isplitr; · iempintro
    isplitr; · iempintro
    iapply of_rest c
    iapply Dec.rest_of_inv W c cfg1.N
    iexact Hr
  hexit c := by
    have hjoin := Pipeline.unscopedBufs_of_arrays (p := 1) (pcfgs (F := F)) adm (Ix := Unit) (Name := ℕ) (U := UU) (Lvl := ℕ) (launch1).win (launch1).arr_whole c
      (pdats V W) ((pdats V W 1 c).share_full fun _ => rfl) (W c) (W' c) ((pdats V W 1 c).arrAt · cfg1.N)
      (fun w => by
        fin_cases w
        · exact ((pdats V W 1 c).arrAt_in 0 rfl _).trans (hne c main_v5_1 (by decide)).symm
        · exact ((pdats V W 1 c).arrAt_in 1 rfl _).trans (hne c main_arg3 (by decide)).symm
        · exact ((pdats V W 1 c).arrAt_in 2 rfl _).trans (hne c main_v7 (by decide)).symm
        · exact ((pdats V W 1 c).arrAt_in 3 rfl _).trans (hne c main_v12 (by decide)).symm
        · exact (h4 c).symm
        )
      (fun b hb => hne c b (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof

end
-- ==== Proof.Run.lean ====
/-
  The whole program run: from any memory every weakly fair execution terminates with every semaphore at zero and every unscoped
  buffer at the contents the host operations and the two regions leave, in order.
-/
module

public import proofs.«01_k».proof.Proof.Segs

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The contents before the first region. -/
abbrev at1 : Vals (F := F) := fun c b => V1 m c b

/-- What the first region leaves in its two results' arrays. -/
def outs1 : Outs (F := F) := fun _ r c =>
  Function.update (β := fun r : Ref sig .tc => Buf (Elt F) ((c : Thread nD τ).loc r))
    (Function.update (β := fun r : Ref sig .tc => Buf (Elt F) ((c : Thread nD τ).loc r)) (fun r => m ((c : Thread nD τ).loc r)) main_v5_0 ((Rot.dat (at1 m) c).arrAt 3 cfg0.N))
    main_v5_1 ((Rot.dat (at1 m) c).arrAt 4 cfg0.N) r

/-- The contents before the second region. -/
abbrev at5 : Vals (F := F) := fun c b => V5 m (outs1 m) c b

/-- What both regions leave in their results' arrays. -/
def outs : Outs (F := F) := fun J r c =>
  if J = 6 then Function.update (β := fun r : Ref sig .tc => Buf (Elt F) ((c : Thread nD τ).loc r)) (fun r => m ((c : Thread nD τ).loc r)) main_v13 ((Dec.dat (at5 m) c).arrAt 4 cfg1.N) r
  else outs1 m J r c

theorem outs_2 (r : Ref sig .tc) (c : Dev nD) : outs m 2 r c = outs1 m 2 r c := by
  unfold outs; rw [if_neg (by decide)]
theorem outs_6 (c : Dev nD) : outs m 6 main_v13 c = (Dec.dat (at5 m) c).arrAt 4 cfg1.N := by
  unfold outs; rw [if_pos rfl, Function.update_self]
theorem outs1_0 (c : Dev nD) : outs1 m 2 main_v5_0 c = (Rot.dat (at1 m) c).arrAt 3 cfg0.N := by
  unfold outs1; rw [Function.update_of_ne (by decide), Function.update_self]
theorem outs1_1 (c : Dev nD) : outs1 m 2 main_v5_1 c = (Rot.dat (at1 m) c).arrAt 4 cfg0.N := by
  unfold outs1; rw [Function.update_self]

theorem V2_outs (c : Dev nD) : V2 m (outs m) c = V2 m (outs1 m) c := by
  unfold V2; rw [outs_2, outs_2]
theorem V5_outs (c : Dev nD) : V5 m (outs m) c = V5 m (outs1 m) c := by
  unfold V5 V4 V3; rw [V2_outs]

theorem V2_0 (c : Dev nD) : V2 m (outs m) c main_v5_0 = (Rot.dat (at1 m) c).arrAt 3 cfg0.N := by
  unfold V2
  rw [Function.update_of_ne (StableHlo.devRef_ne_of_ne (by decide) : (Proc.devRef .tc main_v5_0 : DevRef τ sig) ≠ Proc.devRef .tc main_v5_1), Function.update_self, outs_2, outs1_0]
theorem V2_1 (c : Dev nD) : V2 m (outs m) c main_v5_1 = (Rot.dat (at1 m) c).arrAt 4 cfg0.N := by
  unfold V2
  rw [Function.update_self, outs_2, outs1_1]
theorem V6_0 (c : Dev nD) : V6 m (outs m) c main_v13 = (Dec.dat (at5 m) c).arrAt 4 cfg1.N := by
  unfold V6
  rw [Function.update_self, outs_6]

/-- The first region, between the contents before it and after it. -/
def R0 : Pipeline.RegionSeg (pcfgs (F := F)) adm (pdats (at1 m) (at5 m)) () defs₀ Variants.none L lv 0 :=
  reg0 (at1 m) (at5 m) (fun c b => V2 m (outs m) c b) (fun c => V2_0 m c) (fun c => V2_1 m c)
    (fun c b h0 h1 => V2_of m (outs m) c b (by simp only [List.mem_cons, List.not_mem_nil, or_false, not_or]; exact ⟨h0, h1⟩))

/-- The second region, between the contents before it and after it. -/
def R1 : Pipeline.RegionSeg (pcfgs (F := F)) adm (pdats (at1 m) (at5 m)) () defs₀ Variants.none L lv 1 :=
  reg1 (at1 m) (at5 m) (fun c b => V6 m (outs m) c b) (fun c => V6_0 m c)
    (fun c b h0 => (V6_of m (outs m) c b (by simp only [List.mem_cons, List.not_mem_nil, or_false]; exact h0)).trans (congrFun (V5_outs m c) _))

/-- The pipelines' own resources, funded at launch. -/
abbrev EP : Emb (URounds (GSem nD τ sig) Unit) 𝕄 := embL
def u₀ : UU := (initOf (Pipeline.cells cfgs cellOf_inj) (Pipeline.launchToks cfgs cellOf_inj), 1)

theorem fund : (ownU u₀ : sProp 𝕄) ⊢ |={Set.univ}=> iprop(BI.own (EP (F := F) (initOf (Pipeline.cells cfgs cellOf_inj) (Pipeline.launchToks cfgs cellOf_inj)))
    ∗ bigSep (Finset.univ : Finset (Dev nD)) fun _ => (BI.emp : sProp 𝕄)) := by
  have h : (ownU u₀ : sProp 𝕄) ⊢ iprop(BI.own (EP (F := F) (initOf (Pipeline.cells cfgs cellOf_inj) (Pipeline.launchToks cfgs cellOf_inj)))
      ∗ BI.own (embR (A := URounds (GSem nD τ sig) Unit) (1 : Counters) : 𝕄)) := ownU_pair _ _
  iintro H
  ihave H := h $$ H
  icases H with ⟨H, -⟩
  imodintro
  isplitl [H]; · iexact H
  rw [BI.bigSep_emp_const]
  iempintro

/-- The state beside the buffers on every core at launch: nothing owed. -/
theorem start (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts L lv)
      ⊢ (|={Set.univ}=> bigSep Finset.univ fun c : Dev nD => free (F := F) c : sProp 𝕄) := by
  iintro ⟨H, -⟩
  imodintro
  have h : (bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
      ⊢ (bigSep Finset.univ fun c : Dev nD => free (F := F) c : sProp 𝕄) := bigSep_mono fun c _ => by
    show iprop(unscopedSems0 c ∗ owes (c : Thread nD τ) (0 : CellTallies nD τ sig Unit) ∅ ∗ Pipeline.launchCred (fun _ => 0) c ∗ prngReg c (ρ c) ∗ (BI.emp : sProp 𝕄))
      ⊢ (iprop(∃ W, owes (c : Thread nD τ) (0 : CellTallies nD τ sig Unit) W) : sProp 𝕄)
    iintro ⟨-, H, -⟩
    iexists ∅
    iexact H
  iapply h
  iexact H

theorem pre0 (c : Dev nD) : iprop(StableHlo.held (c : Thread nD τ) (Pipeline.ucRefs τ sig) (V1 m c) ∗ free (F := F) c) ⊢ (iprop(unscopedBufs c (fun b => V1 m c b) ∗ free (F := F) c) : sProp 𝕄) := by
  rw [Pipeline.unscopedBufs_held]
theorem post0 (c : Dev nD) : iprop(unscopedBufs c (fun b => V2 m (outs m) c b) ∗ free (F := F) c) ⊢ (iprop(StableHlo.held (c : Thread nD τ) (Pipeline.ucRefs τ sig) (V2 m (outs m) c) ∗ free (F := F) c) : sProp 𝕄) := by
  rw [Pipeline.unscopedBufs_held]
theorem pre1 (c : Dev nD) : iprop(StableHlo.held (c : Thread nD τ) (Pipeline.ucRefs τ sig) (V5 m (outs m) c) ∗ free (F := F) c) ⊢ (iprop(unscopedBufs c (fun b => V5 m (outs1 m) c b) ∗ free (F := F) c) : sProp 𝕄) := by
  rw [Pipeline.unscopedBufs_held, V5_outs]
theorem post1 (c : Dev nD) : iprop(unscopedBufs c (fun b => V6 m (outs m) c b) ∗ free (F := F) c) ⊢ (iprop(StableHlo.held (c : Thread nD τ) (Pipeline.ucRefs τ sig) (V6 m (outs m) c) ∗ free (F := F) c) : sProp 𝕄) := by
  rw [Pipeline.unscopedBufs_held]

set_option maxRecDepth 1824 in
set_option maxHeartbeats 2000000 in
set_option backward.isDefEq.respectTransparency.types false in
/-- THE RUN: every unscoped buffer of every core ends at the last contents, every semaphore at zero. -/
theorem run (ρ : Dev nD → PrngReg) :
    θ_run defs (onTc (τ := τ) (main (F := F))) ⟨m, fun _ => 0, ρ⟩ (fun r => (∀ c : Dev nD, ∀ b ∈ Pipeline.ucRefs τ sig, r.2.mem ((c : Thread nD τ).1, b) = V7 m (outs m) c b)
      ∧ r.2.sem = fun _ => 0) := by
  refine Pipeline.θ_run_regions_kit_dev_sems (pcfgs (F := F)) adm (pdats (at1 m) (at5 m)) () cellOf_inj EP defs₀ Variants.none L lv m ρ main
    (segs m (outs m) Variants.none L lv (fun _ c => free c) () (pdats (at1 m) (at5 m)) (R0 m) (R1 m))
    (fun c Q => by
      rewrite [main_chain c, Pipeline.Seg.run_eq_chain,
        show (segs m (outs m) Variants.none L lv (fun _ c => free c) () (pdats (at1 m) (at5 m)) (R0 m) (R1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) (fun g _ => rfl) (fun _ => BI.emp) u₀ fund
    (T₀ := fun c => iprop(StableHlo.held (c : Thread nD τ) (Pipeline.ucRefs τ sig) (V0 m c) ∗ free c))
    (Tₙ := fun c => StableHlo.held (c : Thread nD τ) (Pipeline.ucRefs τ sig) (V7 m (outs m) c))
    (hch := fun c => ⟨.rfl, pre0 m c, post0 m c, .rfl, .rfl, pre1 m c, post1 m c, .rfl⟩)
    (hinit := ?_) (QY := fun c s => ∀ b ∈ Pipeline.ucRefs τ sig, s.mem ((c : Thread nD τ).1, b) = V7 m (outs m) c b)
    (hfin := fun c s' => ?_) (hQ := fun _ h hz => ⟨h, funext fun g => hz g (.inr (regions_no_unscoped g.2))⟩)
  · -- the launch: the unscoped buffers are held at the first contents; nothing is owed
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start ρ) $$ [Hr Hla] with HE
    · isplitl [Hr]; · iexact Hr
      iexact Hla
    imodintro
    rw [bigSep_sep']
    isplitl [Hh]; · iexact Hh
    iexact HE
  · -- the end: every buffer read off the last contents
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact h
    · iexact HSI

end Cert.Proof

end
-- ==== Proof.Frame.lean ====
/-
  The whole program terminates, leaves its arguments as they were, and leaves every semaphore at zero.
-/
module

public import proofs.«01_k».proof.Proof.Run

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- An unscoped buffer is among those whose last contents the run states. -/
theorem final {s : (ℓ : Loc nD τ sig) → Buf (Elt F) ℓ} {c : Dev nD}
    (h : ∀ b ∈ Pipeline.ucRefs τ sig, s ((c : Thread nD τ).1, b) = V7 m (outs m) c b) (b : Ref sig .tc) (hb : b.isScoped = false) :
    s ((c.tc : Thread nD τ).loc b) = V7 m (outs m) c b :=
  h (Proc.devRef .tc b) (Finset.mem_filter.mpr ⟨StableHlo.devRef_mem_tcRefs b, by simp [hb]⟩)

/-- The arguments end as launched. -/
theorem kept {s : (ℓ : Loc nD τ sig) → Buf (Elt F) ℓ} {c : Dev nD}
    (h : ∀ b ∈ Pipeline.ucRefs τ sig, s ((c : Thread nD τ).1, b) = V7 m (outs m) c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4) :=
  ⟨(final m h main_arg0 rfl).trans (V7_main_arg0 m (outs m) c), (final m h main_arg1 rfl).trans (V7_main_arg1 m (outs m) c),
    (final m h main_arg2 rfl).trans (V7_main_arg2 m (outs m) c), (final m h main_arg3 rfl).trans (V7_main_arg3 m (outs m) c),
    (final m h main_arg4 rfl).trans (V7_main_arg4 m (outs m) c)⟩

/-- The frame: termination, arguments unchanged, semaphores at zero. -/
theorem framed (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => kept m (h.1 c), h.2⟩) (run m ρ)

end Cert.Proof

end
-- ==== Proof.Bits.Common.lean ====
/-
  What the proofs of both kernels share: the resources of the whole program's proof, and a memref's buffer held whole.
-/
module

public import proofs.«01_k».proof.Proof.Gen.Kernel.Launch
public import Idealize.ShloMosaic.Lib.Pipeline.Kit
public import Idealize.ShloMosaic.Lib.Tactic

@[expose] public section

noncomputable section

namespace Cert.ProofBits

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the whole program's proof. -/
abbrev UU : Type := UR sig nD τ × Counters
local notation "𝕄" => MT nD τ sig Unit (Elt F) ℕ UU ℕ

/-- The contents of a memref's buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned is its buffer held whole at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The same, one direction each. -/
theorem owns_elim (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  rw [owns_pt c M h X]
theorem owns_intro (c : Dev nD) {sp : Space} {S : Shape} {e : EltTy} (M : Memref sig .tc sp S e) (h : M.IsWhole) (X : S.Idx → Elt F e)
    (f : Bf (F := F) c M) (hf : M.view.read (Elt F) f = X) :
    (pt c M f : sProp 𝕄) ⊢ owns (c : Thread nD τ) M fullShare X := by
  rw [owns_pt c M h X]
  iintro H
  iexists f
  isplitr
  · ipureintro; exact hf
  iexact H

end Cert.ProofBits

end
-- ==== Proof.Bits.Rotate.lean ====
/-
  What the body of the rotating kernel does at one grid point: the block of 1024 columns, its signs applied, is multiplied in
  four parts of 256 columns by the Hadamard matrix, the parts combined by sums and differences, scaled, and stored twice, with
  the columns in order and with the even columns of each part before the odd ones.
-/
module

public import proofs.«01_k».proof.Proof.Bits.Common
public import Idealize.ShloMosaic.Lib.Pipeline.FrameBody
public import Idealize.ShloMosaic.Lib.Pipeline.Value
public import Idealize.ShloMosaic.Lib.VecWindow
public import Idealize.ShloMosaic.Lib.ValueIdxCore

@[expose] public section

set_option maxRecDepth 16384

noncomputable section

namespace Cert.ProofBits.Rot

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Values

variable (x : S256x1024.Idx → F .bf16) (s : S1x1024.Idx → F .bf16) (h : S256x512.Idx → F .bf16)

/-- The block with the signs applied. -/
def signed : FVec F S256x1024 .bf16 :=
  mulf (shapeCast S256x1024 x (by decide : S256x1024.ShapeCasts S256x1024))
    (broadcastTo S256x1024 (shapeCast S1x1024 s (by decide : S1x1024.ShapeCasts S1x1024)) (by decide : S1x1024.Broadcasts S256x1024))

/-- A part of 256 columns multiplied by the matrix. -/
def part (v : FVec F S256x256 .bf16) : FVec F S256x512 .f32 :=
  matmul dot_S256x256_S256x512_S256x512_1_0_0_1_n_n none v h (constant S256x512 .f32 0x00000000#32)

def part0 : FVec F S256x512 .f32 := part h (extractStridedSlice S256x256 ![0, 0] (signed x s) (by decide : S256x1024.Slices ![0, 0] S256x256))
def part1 : FVec F S256x512 .f32 := part h (extractStridedSlice S256x256 ![0, 256] (signed x s) (by decide : S256x1024.Slices ![0, 256] S256x256))
def part2 : FVec F S256x512 .f32 := part h (extractStridedSlice S256x256 ![0, 512] (signed x s) (by decide : S256x1024.Slices ![0, 512] S256x256))
def part3 : FVec F S256x512 .f32 := part h (extractStridedSlice S256x256 ![0, 768] (signed x s) (by decide : S256x1024.Slices ![0, 768] S256x256))

/-- The parts combined: part `a` of the result before scaling. -/
def combined : Fin 4 → FVec F S256x512 .f32
  | 0 => addf (addf (part0 x s h) (part1 x s h)) (addf (part2 x s h) (part3 x s h))
  | 1 => addf (subf (part0 x s h) (part1 x s h)) (subf (part2 x s h) (part3 x s h))
  | 2 => subf (addf (part0 x s h) (part1 x s h)) (addf (part2 x s h) (part3 x s h))
  | 3 => subf (subf (part0 x s h) (part1 x s h)) (subf (part2 x s h) (part3 x s h))

/-- Part `a` of the result: scaled, in bf16. -/
def scaled (a : Fin 4) : FVec F S256x512 .bf16 :=
  truncf .bf16 (mulf (combined x s h a) (broadcast S256x512 (Scalar.ofBits .f32 0x3D000000#32))) (by decide : FTy.bits .bf16 < FTy.bits .f32)

/-- The result's block with the columns in order. -/
def ordered (y : S256x1024.Idx) : F .bf16 :=
  scaled x s h ⟨(y 1).val / 256, by have : (y 1).val < 1024 := (y 1).isLt; omega⟩ (ix2 (n0 := 256) (n1 := 512) (y 0) ⟨(y 1).val % 256, by omega⟩)

/-- The result's block with the even columns of each part before the odd ones. -/
def permuted (y : S256x1024.Idx) : F .bf16 :=
  scaled x s h ⟨(y 1).val / 256, by have : (y 1).val < 1024 := (y 1).isLt; omega⟩ (ix2 (n0 := 256) (n1 := 512) (y 0) ⟨256 + (y 1).val % 256, by omega⟩)

theorem inb (a : Fin 4) : ∀ d, (![0, 256 * a.val] : Fin 2 → Nat) d + S256x256.size d ≤ S256x1024.size d := by
  intro d
  have := a.isLt
  fin_cases d
  · show 0 + 256 ≤ 256; omega
  · show 256 * a.val + 256 ≤ 1024; omega

/-- The rectangle of part `a`. -/
abbrev rect (a : Fin 4) : Rect S256x1024 := Rect.unit (s := S256x1024) ![0, 256 * a.val] S256x256.size (inb a)

def piece4 (a : Fin 4) : View.Piece (Elt F) S256x1024 .bf16 :=
  ⟨rect a, extractStridedSlice S256x256 ![0, 0] (scaled x s h a) (by decide : S256x512.Slices ![0, 0] S256x256)⟩
def piece5 (a : Fin 4) : View.Piece (Elt F) S256x1024 .bf16 :=
  ⟨rect a, extractStridedSlice S256x256 ![0, 256] (scaled x s h a) (by decide : S256x512.Slices ![0, 256] S256x256)⟩

abbrev pieces4 : List (View.Piece (Elt F) S256x1024 .bf16) := [piece4 x s h 3, piece4 x s h 2, piece4 x s h 1, piece4 x s h 0]
abbrev pieces5 : List (View.Piece (Elt F) S256x1024 .bf16) := [piece5 x s h 3, piece5 x s h 2, piece5 x s h 1, piece5 x s h 0]

theorem coords (a : Fin 4) (z : (rect a).shape.Idx) : ((rect a).emb z 0).val = (z 0).val ∧ ((rect a).emb z 1).val = 256 * a.val + (z 1).val := by
  constructor
  · show 0 + 1 * (z 0).val = _; omega
  · show 256 * a.val + 1 * (z 1).val = _; omega

theorem piece4_eq (a : Fin 4) (z : (piece4 x s h a).1.shape.Idx) : (piece4 x s h a).2 z = ordered x s h ((piece4 x s h a).1.emb z) := by
  obtain ⟨h0, h1⟩ := coords a z
  have hz : (z 1).val < 256 := (z 1).isLt
  unfold ordered
  have e1 : (⟨((rect a).emb z 1).val / 256, by have : ((rect a).emb z 1).val < 1024 := ((rect a).emb z 1).isLt; omega⟩ : Fin 4) = a := Fin.ext (by show _ / 256 = _; rw [h1]; omega)
  show scaled x s h a _ = scaled x s h ⟨((rect a).emb z 1).val / 256, _⟩ _
  rw [e1]
  refine congrArg (scaled x s h a) (funext fun d => ?_)
  fin_cases d
  · refine Fin.ext ?_
    show 0 + (z 0).val = ((rect a).emb z 0).val; omega
  · refine Fin.ext ?_
    show 0 + (z 1).val = ((rect a).emb z 1).val % 256; omega

theorem piece5_eq (a : Fin 4) (z : (piece5 x s h a).1.shape.Idx) : (piece5 x s h a).2 z = permuted x s h ((piece5 x s h a).1.emb z) := by
  obtain ⟨h0, h1⟩ := coords a z
  have hz : (z 1).val < 256 := (z 1).isLt
  unfold permuted
  have e1 : (⟨((rect a).emb z 1).val / 256, by have : ((rect a).emb z 1).val < 1024 := ((rect a).emb z 1).isLt; omega⟩ : Fin 4) = a := Fin.ext (by show _ / 256 = _; rw [h1]; omega)
  show scaled x s h a _ = scaled x s h ⟨((rect a).emb z 1).val / 256, _⟩ _
  rw [e1]
  refine congrArg (scaled x s h a) (funext fun d => ?_)
  fin_cases d
  · refine Fin.ext ?_
    show 0 + (z 0).val = ((rect a).emb z 0).val; omega
  · refine Fin.ext ?_
    show 256 + (z 1).val = 256 + ((rect a).emb z 1).val % 256; omega

/-- The four rectangles cover the block. -/
theorem mem_rect (y : S256x1024.Idx) : y ∈ (rect ⟨(y 1).val / 256, by have : (y 1).val < 1024 := (y 1).isLt; omega⟩).set := by
  have hy : (y 1).val < 1024 := (y 1).isLt
  rw [← Rect.map_emb_univ]
  refine Finset.mem_map.mpr ⟨ix2 (n0 := 256) (n1 := 256) (y 0) ⟨(y 1).val % 256, by omega⟩, Finset.mem_univ _, ?_⟩
  funext d; fin_cases d
  · refine Fin.ext ?_
    show 0 + 1 * (y 0).val = (y 0).val; omega
  · refine Fin.ext ?_
    show 256 * ((y 1).val / 256) + 1 * ((y 1).val % 256) = (y 1).val; omega

theorem mem4 (a : Fin 4) : piece4 x s h a ∈ pieces4 x s h := by fin_cases a <;> simp [pieces4]
theorem mem5 (a : Fin 4) : piece5 x s h a ∈ pieces5 x s h := by fin_cases a <;> simp [pieces5]

theorem read4 {sp : Space} (M : Memref sig .tc sp S256x1024 .bf16) (f : M.view.ty.Contents (Elt F)) :
    M.view.read (Elt F) (M.view.writes (Elt F) f (pieces4 x s h)) = ordered x s h := by
  funext y
  refine View.read_writes_apply_of_pieces _ _ _ _ (fun P hP z => ?_) y ⟨_, mem4 x s h _, mem_rect y⟩
  simp only [List.mem_cons, List.not_mem_nil, or_false] at hP
  rcases hP with rfl | rfl | rfl | rfl <;> exact piece4_eq x s h _ z

theorem read5 {sp : Space} (M : Memref sig .tc sp S256x1024 .bf16) (f : M.view.ty.Contents (Elt F)) :
    M.view.read (Elt F) (M.view.writes (Elt F) f (pieces5 x s h)) = permuted x s h := by
  funext y
  refine View.read_writes_apply_of_pieces _ _ _ _ (fun P hP z => ?_) y ⟨_, mem5 x s h _, mem_rect y⟩
  simp only [List.mem_cons, List.not_mem_nil, or_false] at hP
  rcases hP with rfl | rfl | rfl | rfl <;> exact piece5_eq x s h _ z

end Values

/-- THE BODY at a grid point. -/
theorem body_run (c : Dev nD) (i : grid0.Coords) (arg1 : Memref sig .tc .vmem S256x1024 .bf16) (harg1 : arg1.IsWhole) (arg2 : Memref sig .tc .vmem S1x1024 .bf16) (harg2 : arg2.IsWhole)
    (arg3 : Memref sig .tc .vmem S256x512 .bf16) (harg3 : arg3.IsWhole) (arg4 : Memref sig .tc .vmem S256x1024 .bf16) (harg4 : arg4.IsWhole)
    (arg5 : Memref sig .tc .vmem S256x1024 .bf16) (harg5 : arg5.IsWhole)
    (f1 : Bf (F := F) c arg1) (f2 : Bf (F := F) c arg2) (f3 : Bf (F := F) c arg3) (f4 : Bf (F := F) c arg4) (f5 : Bf (F := F) c arg5) (E : Set ℕ) (Q : PUnit → sProp 𝕄) :
    iprop(pt c arg1 f1 ∗ pt c arg2 f2 ∗ pt c arg3 f3 ∗ pt c arg4 f4 ∗ pt c arg5 f5
        ∗ (∀ (f4' : Bf (F := F) c arg4) (f5' : Bf (F := F) c arg5),
            (⌜arg4.view.read (Elt F) f4' = ordered (arg1.view.read (Elt F) f1) (arg2.view.read (Elt F) f2) (arg3.view.read (Elt F) f3)
                ∧ arg5.view.read (Elt F) f5' = permuted (arg1.view.read (Elt F) f1) (arg2.view.read (Elt F) f2) (arg3.view.read (Elt F) f3)⌝
              ∗ pt c arg1 f1 ∗ pt c arg2 f2 ∗ pt c arg3 f3 ∗ pt c arg4 f4' ∗ pt c arg5 f5') -∗ Q ⟨⟩))
      ⊢ wp frame (wpE (defs₀ (F := F)) Variants.none c none) E (cc0_rotate i arg1 harg1 arg2 harg2 arg3 harg3 arg4 harg4 arg5 harg5) Q := by
  unfold cc0_rotate k0_part1
  iintro ⟨H1, H2, H3, H4, H5, Hk⟩
  sl_exec!
  sl_step
  iapply Hk
  isplitr
  swap
  · isplitl [H1]; · iexact H1
    isplitl [H2]; · iexact H2
    isplitl [H3]; · iexact H3
    isplitl [H4]; · iexact H4
    iexact H5
  · ipureintro
    have a1 : body_run.sl.v1 c arg1 f1 = shapeCast S256x1024 (arg1.view.read (Elt F) f1) (by decide : S256x1024.ShapeCasts S256x1024) := by
      unfold body_run.sl.v1; rw [View.readAt_full]
    have a5 : body_run.sl.v5 c arg1 arg2 f1 f2 = signed (arg1.view.read (Elt F) f1) (arg2.view.read (Elt F) f2) := by
      unfold body_run.sl.v5 body_run.sl.v4; rw [a1]; first | rfl | (unfold body_run.sl.v3; rw [View.readAt_full]; rfl)
    have a8 : body_run.sl.v8 c arg1 arg2 arg3 f1 f2 f3 = part0 (arg1.view.read (Elt F) f1) (arg2.view.read (Elt F) f2) (arg3.view.read (Elt F) f3) := by
      unfold body_run.sl.v8 body_run.sl.v6; rw [a5, View.readAt_full]; rfl
    have a11 : body_run.sl.v11 c arg1 arg2 arg3 f1 f2 f3 = part1 (arg1.view.read (Elt F) f1) (arg2.view.read (Elt F) f2) (arg3.view.read (Elt F) f3) := by
      unfold body_run.sl.v11 body_run.sl.v9; rw [a5, View.readAt_full]; rfl
    have a14 : body_run.sl.v14 c arg1 arg2 arg3 f1 f2 f3 = part2 (arg1.view.read (Elt F) f1) (arg2.view.read (Elt F) f2) (arg3.view.read (Elt F) f3) := by
      unfold body_run.sl.v14 body_run.sl.v12; rw [a5, View.readAt_full]; rfl
    have a17 : body_run.sl.v17 c arg1 arg2 arg3 f1 f2 f3 = part3 (arg1.view.read (Elt F) f1) (arg2.view.read (Elt F) f2) (arg3.view.read (Elt F) f3) := by
      unfold body_run.sl.v17 body_run.sl.v15; rw [a5, View.readAt_full]; rfl
    refine ⟨?_, ?_⟩
    · have k : body_run.sl.H4_4 c arg1 arg2 arg3 f1 f2 f3 = pieces4 (arg1.view.read (Elt F) f1) (arg2.view.read (Elt F) f2) (arg3.view.read (Elt F) f3) := by
        unfold body_run.sl.H4_4 body_run.sl.v50 body_run.sl.v43 body_run.sl.v36 body_run.sl.v29 body_run.sl.v49 body_run.sl.v42 body_run.sl.v35 body_run.sl.v28 body_run.sl.v48 body_run.sl.v41 body_run.sl.v34 body_run.sl.v27 body_run.sl.v25 body_run.sl.v24 body_run.sl.v23 body_run.sl.v22 body_run.sl.v21 body_run.sl.v20 body_run.sl.v19 body_run.sl.v18
        rw [a8, a11, a14, a17]; rfl
      exact (congrArg (fun L => arg4.view.read (Elt F) (arg4.view.writes (Elt F) arg4.view.junk L)) k).trans (read4 _ _ _ arg4 _)
    · have k : body_run.sl.H5_4 c arg1 arg2 arg3 f1 f2 f3 = pieces5 (arg1.view.read (Elt F) f1) (arg2.view.read (Elt F) f2) (arg3.view.read (Elt F) f3) := by
        unfold body_run.sl.H5_4 body_run.sl.v52 body_run.sl.v45 body_run.sl.v38 body_run.sl.v31 body_run.sl.v49 body_run.sl.v42 body_run.sl.v35 body_run.sl.v28 body_run.sl.v48 body_run.sl.v41 body_run.sl.v34 body_run.sl.v27 body_run.sl.v25 body_run.sl.v24 body_run.sl.v23 body_run.sl.v22 body_run.sl.v21 body_run.sl.v20 body_run.sl.v19 body_run.sl.v18
        rw [a8, a11, a14, a17]; rfl
      exact (congrArg (fun L => arg5.view.read (Elt F) (arg5.view.writes (Elt F) arg5.view.junk L)) k).trans (read5 _ _ _ arg5 _)

end Cert.ProofBits.Rot

end
-- ==== Proof.Bits.Region0.lean ====
/-
  The rotating kernel's region: what each window's buffer holds at each grid point, and the region entered from any
  contents of the unscoped buffers and left with its two results' arrays as the write-backs fill them.
-/
module

public import proofs.«01_k».proof.Proof.Bits.Rotate
public import proofs.«01_k».proof.Proof.Gen.Kernel.Points
public import proofs.«01_k».proof.Proof.Gen.Kernel.Regions

@[expose] public section

set_option maxRecDepth 16384

noncomputable section

namespace Cert.ProofBits.Rot

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- The block of an input's array at a grid point. -/
abbrev blk0 (c : Dev nD) (t : Fin cfg0.N) : S256x1024.Idx → F .bf16 := ((cfg0.win 0).blk t).view.read (Elt F) (V c main_v0)
abbrev blk1 (c : Dev nD) (t : Fin cfg0.N) : S1x1024.Idx → F .bf16 := ((cfg0.win 1).blk t).view.read (Elt F) (V c main_v4)
abbrev blk2 (c : Dev nD) (t : Fin cfg0.N) : S256x512.Idx → F .bf16 := ((cfg0.win 2).blk t).view.read (Elt F) (V c main_cst)

/-- The invariant between grid points: the buffers the region does not stage, at something. -/
abbrev Φc (c : Dev nD) : sProp 𝕄 := Pipeline.scopedRest (Ix := Unit) (Name := ℕ) (U := UU) (Lvl := ℕ) (Val := Elt F) spec0 c

/-- What each window's buffer holds after the body at each point. -/
def dat (c : Dev nD) : Dat τ (Elt F) Unit ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => ordered (blk0 V c t) (blk1 V c t) (blk2 V c t)
    | ⟨4, _⟩ => permuted (blk0 V c t) (blk1 V c t) (blk2 V c t)
  Φ _ := Φc c
  q _ := fullShare
  owed _ := 0

theorem before0 (c : Dev nD) (t : Fin cfg0.N) (d) : (dat V c).before 0 t d = blk0 V c t :=
  ((dat V c).before_in_eq_fetched 0 rfl (fun _ => rfl) (fun _ _ _ => rfl) (fun _ => rfl) t d).trans rfl
theorem before1 (c : Dev nD) (t : Fin cfg0.N) (d) : (dat V c).before 1 t d = blk1 V c t :=
  ((dat V c).before_in_eq_fetched 1 rfl (fun _ => rfl) (fun _ _ _ => rfl) (fun _ => rfl) t d).trans rfl
theorem before2 (c : Dev nD) (t : Fin cfg0.N) (d) : (dat V c).before 2 t d = blk2 V c t :=
  ((dat V c).before_in_eq_fetched 2 rfl (fun _ => rfl) (fun _ _ _ => rfl) (fun _ => rfl) t d).trans rfl

/-- The body at each grid point, from the buffers as the pipeline hands them over. -/
theorem body_obligation (c : Dev nD) : BodyObligation (dat V c) (defs₀ (F := F)) Variants.none () Set.univ := fun t => by
  rw [bigSep_W0, bigSep_W0]
  rw [show (dat V c).Φ t.castSucc = Φc c from rfl, show (dat V c).Φ t.succ = Φc c from rfl,
    show (dat V c).owesAt () t.succ = (dat V c).owesAt () t.castSucc from rfl]
  simp only [before0, before1, before2]
  iintro ⟨HΦ, Howes, ⟨%d0, H0⟩, ⟨%d1, H1⟩, ⟨%d2, H2⟩, ⟨%d3, H3⟩, ⟨%d4, H4⟩⟩
  ihave H0 := owns_elim c (st0_0 t) (hstage0_0 ((cfg0.slots t 0).cast nbuf0_0)) _ $$ H0
  ihave H1 := owns_elim c (st0_1 t) (hstage0_1 ((cfg0.slots t 1).cast nbuf0_1)) _ $$ H1
  ihave H2 := owns_elim c (st0_2 t) (hstage0_2 ((cfg0.slots t 2).cast nbuf0_2)) _ $$ H2
  ihave H3 := owns_elim c (st0_3 t) (hstage0_3 ((cfg0.slots t 3).cast nbuf0_3)) _ $$ H3
  ihave H4 := owns_elim c (st0_4 t) (hstage0_4 ((cfg0.slots t 4).cast nbuf0_4)) _ $$ H4
  icases H0 with ⟨%f0, %h0, H0⟩
  icases H1 with ⟨%f1, %h1, H1⟩
  icases H2 with ⟨%f2, %h2, H2⟩
  icases H3 with ⟨%f3, -, H3⟩
  icases H4 with ⟨%f4, -, H4⟩
  iapply body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    f0 f1 f2 f3 f4 Set.univ _
  isplitl [H0]; · iexact H0
  isplitl [H1]; · iexact H1
  isplitl [H2]; · iexact H2
  isplitl [H3]; · iexact H3
  isplitl [H4]; · iexact H4
  iintro %f3' %f4' ⟨%h, H0, H1, H2, H3, H4⟩
  rw [h0, h1, h2] at h
  isplitl [HΦ]; · iexact HΦ
  isplitl [Howes]; · iexact Howes
  isplitl [H0]; · iapply owns_intro c (st0_0 t) (hstage0_0 ((cfg0.slots t 0).cast nbuf0_0)) _ f0 h0; iexact H0
  isplitl [H1]; · iapply owns_intro c (st0_1 t) (hstage0_1 ((cfg0.slots t 1).cast nbuf0_1)) _ f1 h1; iexact H1
  isplitl [H2]; · iapply owns_intro c (st0_2 t) (hstage0_2 ((cfg0.slots t 2).cast nbuf0_2)) _ f2 h2; iexact H2
  isplitl [H3]; · iapply owns_intro c (st0_3 t) (hstage0_3 ((cfg0.slots t 3).cast nbuf0_3)) _ f3' h.1; iexact H3
  iapply owns_intro c (st0_4 t) (hstage0_4 ((cfg0.slots t 4).cast nbuf0_4)) _ f4' h.2; iexact H4

end Cert.ProofBits.Rot

end
-- ==== Proof.Bits.Body.lean ====
/-
  The body of the decoding kernel as a program of small pieces: the reset of the accumulator at group 0, thirty-two row
  blocks of four column blocks each, and the product with its store.  `body_eq` states that the printed body is that program.
-/
module

public import proofs.«01_k».proof.Proof.Gen.Kernel
public import Idealize.ShloMosaic.Lib.Pipeline.Regions
public import Idealize.ShloMosaic.Lib.Affine

@[expose] public section

set_option maxRecDepth 16384

noncomputable section

namespace Cert.ProofBits.Dec

open Cert.Kernel
open Idealize.ShloMosaic Idealize.SL.Sem

variable {F : FTy → Type} [FloatOps F]

/-! ## The arithmetic of one block -/

/-- The entries of a 128-lane table at the positions `idx` (a negative position counts from the end). -/
def look (tab idx : IVec S8x128 32) : IVec S8x128 32 :=
  dynamicGather 1 tab (shapeCast S8x128 (shapeCast S8x128x1
    (select (cmpi .slt idx (broadcast S8x128 0#32)) (addi idx (broadcast S8x128 128#32)) idx)
    (by decide : S8x128.ShapeCasts S8x128x1)) (by decide : S8x128x1.ShapeCasts S8x128))

/-- The table entry of each code: its low seven bits choose a lane, `top` chooses the half. -/
def entry (lo hi sh : IVec S8x128 32) (top : IVec S8x128 1) : IVec S8x128 32 :=
  select top (look hi (andi sh (broadcast S8x128 127#32))) (look lo (andi sh (broadcast S8x128 127#32)))

/-- Bit 7 of a byte: the half of the table it addresses. -/
def half (sh : IVec S8x128 32) : IVec S8x128 1 := cmpi .ne (andi sh (broadcast S8x128 128#32)) (broadcast S8x128 0#32)

/-- The entries of byte 0 of each word. -/
def entry0 (lo hi word : IVec S8x128 32) : IVec S8x128 32 := entry lo hi word (half word)
/-- The entries of byte 1 of each word. -/
def entry1 (lo hi word : IVec S8x128 32) : IVec S8x128 32 :=
  entry lo hi (shrui word (broadcast S8x128 8#32)) (half (shrui word (broadcast S8x128 8#32)))
/-- The entries of byte 2 of each word. -/
def entry2 (lo hi word : IVec S8x128 32) : IVec S8x128 32 :=
  entry lo hi (shrui word (broadcast S8x128 16#32)) (half (shrui word (broadcast S8x128 16#32)))
/-- The entries of byte 3 of each word, whose bit 7 is the word's sign. -/
def entry3 (lo hi word : IVec S8x128 32) : IVec S8x128 32 :=
  entry lo hi (shrui word (broadcast S8x128 24#32)) (cmpi .slt word (broadcast S8x128 0#32))

/-- The first values of two entries side by side in one word. -/
def evens (a b : IVec S8x128 32) : IVec S8x128 32 :=
  ori (andi a (broadcast S8x128 65535#32)) (shli b (broadcast S8x128 16#32))
/-- The second values of two entries side by side in one word. -/
def odds (a b : IVec S8x128 32) : IVec S8x128 32 :=
  ori (shrui a (broadcast S8x128 16#32)) (andi b (broadcast S8x128 4294901760#32))

/-- Eight rows of words read as sixteen rows of bf16 values. -/
def asBf (w : IVec S8x128 32) : FVec F S16x128 .bf16 :=
  bitcastToFloat .bf16 (bitcast S16x128 16 w (by decide : S8x128.Bitcasts 32 S16x128 16))

/-- The words of a block of byte codes: word row `i` holds byte rows `4i … 4i+3`. -/
def words (v : Vec F S32x128 .i8) : IVec S8x128 32 := bitcast S8x128 32 v (by decide : S32x128.Bitcasts 8 S8x128 32)

/-- The group's column of scale words, from a block's sixteen rows of words. -/
def scaleWords (g : BitVec 32) (v : Vec F S1x16x128 .i32) : IVec S16x128 32 :=
  dynamicGather 1 (shapeCast S16x128 v (by decide : S1x16x128.ShapeCasts S16x128))
    (shapeCast S16x128 (shapeCast S16x128x1
      (select (cmpi .slt (broadcast S16x128 g) (broadcast S16x128 0#32)) (addi (broadcast S16x128 g) (broadcast S16x128 128#32)) (broadcast S16x128 g))
      (by decide : S16x128.ShapeCasts S16x128x1)) (by decide : S16x128x1.ShapeCasts S16x128))

/-- The scales of the block's first sixteen rows. -/
def scale0 (g : BitVec 32) (v : Vec F S1x16x128 .i32) : FVec F S16x128 .bf16 :=
  asBf (extractStridedSlice S8x128 ![0, 0] (scaleWords g v) (by decide : S16x128.Slices ![0, 0] S8x128))
/-- The scales of the block's last sixteen rows. -/
def scale1 (g : BitVec 32) (v : Vec F S1x16x128 .i32) : FVec F S16x128 .bf16 :=
  asBf (extractStridedSlice S8x128 ![8, 0] (scaleWords g v) (by decide : S16x128.Slices ![8, 0] S8x128))

/-- One half of the table, the same on eight rows. -/
def tab (v : Vec F S1x128 .i32) : IVec S8x128 32 :=
  broadcastTo S8x128 (shapeCast S1x128 (shapeCast S1x128 v (by decide : S1x128.ShapeCasts S1x128)) (by decide : S1x128.ShapeCasts S1x128))
    (by decide : S1x128.Broadcasts S8x128)

/-! ## The program -/

section Prog

variable (arg2 : Memref sig .tc .vmem S256x12288 .bf16) (harg2 : arg2.IsWhole) (arg3 : Memref sig .tc .vmem S1024x512 .i8) (harg3 : arg3.IsWhole)
  (arg4 : Memref sig .tc .vmem S2x128 .i32) (harg4 : arg4.IsWhole) (arg5 : Memref sig .tc .vmem S1x512x128 .i32) (harg5 : arg5.IsWhole)
  (arg6 : Memref sig .tc .vmem S256x1024 .bf16) (harg6 : arg6.IsWhole) (arg7 : Memref sig .tc .vmem S1024x256 .f32) (harg7 : arg7.IsWhole)
  (arg8 : Memref sig .tc .vmem S1024x1024 .bf16) (harg8 : arg8.IsWhole)

abbrev P (α : Type) : Type _ := Prog (TpuEff nD τ sig (Elt F) Λ₀ .tc) α

theorem inb8 (r : Fin 32) (q : Fin 2) (c : Fin 8) : ∀ a, (![32 * r.val + 16 * q.val, 128 * c.val] : Fin 2 → Nat) a + S16x128.size a ≤ S1024x1024.size a := by
  intro a
  have := r.isLt; have := q.isLt; have := c.isLt
  fin_cases a
  · show 32 * r.val + 16 * q.val + 16 ≤ 1024; omega
  · show 128 * c.val + 128 ≤ 1024; omega

/-- The rectangle of row block `r`, half `q`, and column block `c` of the decoded weights. -/
abbrev rect8 (r : Fin 32) (q : Fin 2) (c : Fin 8) : Rect S1024x1024 :=
  Rect.unit (s := S1024x1024) ![32 * r.val + 16 * q.val, 128 * c.val] S16x128.size (inb8 r q c)

theorem packed8 (r : Fin 32) (q : Fin 2) (c : Fin 8) : (rect8 r q c).PackedRows (EltTy.packing .bf16) :=
  Affine.packed_dvd (by decide) (by show 2 ∣ 32 * r.val + 16 * q.val; omega) (by show 2 ∣ 16; decide)

theorem inb5 (r : Fin 32) : ∀ a, (![0, 16 * r.val, 0] : Fin 3 → Nat) a + S1x16x128.size a ≤ S1x512x128.size a := by
  intro a
  have := r.isLt
  fin_cases a
  · show 0 + 1 ≤ 1; omega
  · show 16 * r.val + 16 ≤ 512; omega
  · show 0 + 128 ≤ 128; omega

/-- The rectangle of row block `r` of the scale words. -/
abbrev rect5 (r : Fin 32) : Rect S1x512x128 := Rect.unit (s := S1x512x128) ![0, 16 * r.val, 0] S1x16x128.size (inb5 r)

theorem inb3 (r : Fin 32) (l : Fin 4) : ∀ a, (![32 * r.val, 128 * l.val] : Fin 2 → Nat) a + S32x128.size a ≤ S1024x512.size a := by
  intro a
  have := r.isLt; have := l.isLt
  fin_cases a
  · show 32 * r.val + 32 ≤ 1024; omega
  · show 128 * l.val + 128 ≤ 512; omega

/-- The rectangle of row block `r` and column block `l` of the codes. -/
abbrev rect3 (r : Fin 32) (l : Fin 4) : Rect S1024x512 := Rect.unit (s := S1024x512) ![32 * r.val, 128 * l.val] S32x128.size (inb3 r l)

/-- Store one rectangle of decoded weights (after reading what it held). -/
def put (r : Fin 32) (q : Fin 2) (c : Fin 8) (v : FVec F S16x128 .bf16) : P (F := F) PUnit := do
  let _ : Vec F S16x128 .bf16 ← Prog.lift (.load arg8 (rect8 r q c).toLoadRect (View.loadsAt_vmem (by decide : 0 < S16x128.numel)))
  Prog.lift (.store arg8 (rect8 r q c) (shapeCast S16x128 v (by decide : S16x128.ShapeCasts S16x128)) Finset.univ
    (View.stores_vmem (by decide : 0 < S16x128.numel) (harg8.storeExact_slice rfl _ (packed8 r q c)) (fun _ => rfl)) (.inl rfl))

/-- Column block `l` of row block `r`: its codes decoded, scaled and stored. -/
def column (lo hi : IVec S8x128 32) (s0 s1 : FVec F S16x128 .bf16) (r : Fin 32) (l : Fin 4) : P (F := F) PUnit := do
  let v : Vec F S32x128 .i8 ← Prog.lift (.load arg3 (rect3 r l).toLoadRect (View.loadsAt_vmem (by decide : 0 < S32x128.numel)))
  put arg8 harg8 r 0 ⟨2 * l.val, by omega⟩ (mulf (asBf (evens (entry0 lo hi (words v)) (entry1 lo hi (words v)))) s0)
  put arg8 harg8 r 0 ⟨2 * l.val + 1, by omega⟩ (mulf (asBf (odds (entry0 lo hi (words v)) (entry1 lo hi (words v)))) s0)
  put arg8 harg8 r 1 ⟨2 * l.val, by omega⟩ (mulf (asBf (evens (entry2 lo hi (words v)) (entry3 lo hi (words v)))) s1)
  put arg8 harg8 r 1 ⟨2 * l.val + 1, by omega⟩ (mulf (asBf (odds (entry2 lo hi (words v)) (entry3 lo hi (words v)))) s1)

/-- Row block `r`: its scales read, then its four column blocks. -/
def block (g : BitVec 32) (lo hi : IVec S8x128 32) (r : Fin 32) : P (F := F) PUnit := do
  let v : Vec F S1x16x128 .i32 ← Prog.lift (.load arg5 (rect5 r).toLoadRect (View.loadsAt_vmem (by decide : 0 < S1x16x128.numel)))
  column arg3 arg8 harg8 lo hi (scale0 g v) (scale1 g v) r 0
  column arg3 arg8 harg8 lo hi (scale0 g v) (scale1 g v) r 1
  column arg3 arg8 harg8 lo hi (scale0 g v) (scale1 g v) r 2
  column arg3 arg8 harg8 lo hi (scale0 g v) (scale1 g v) r 3

/-- The row blocks of a list, in order. -/
def blocks (g : BitVec 32) (lo hi : IVec S8x128 32) : List (Fin 32) → P (F := F) PUnit
  | [] => pure ⟨⟩
  | r :: rs => do
    block arg3 arg5 arg8 harg8 g lo hi r
    blocks g lo hi rs

/-- The row blocks of the kernel. -/
def allBlocks : List (Fin 32) := [0, 1, 2, 3, 4, 5, 6, 7, 8, 9, 10, 11, 12, 13, 14, 15, 16, 17, 18, 19, 20, 21, 22, 23, 24, 25, 26, 27, 28, 29, 30, 31]

abbrev rect7 : Rect S1024x256 := Rect.unit (s := S1024x256) ![0, 0] S1024x256.size (by decide)
abbrev rectW : Rect S1024x1024 := Rect.unit (s := S1024x1024) ![0, 0] S1024x1024.size (by decide)
abbrev rect6 : Rect S256x1024 := Rect.unit (s := S256x1024) ![0, 0] S256x1024.size (by decide)
abbrev rect2 (i : grid1.Coords) : Rect S256x12288 := Rect.unit (s := S256x12288) (k1_off1 i) S256x1024.size (K1.Facts₀.k1_off1_inb i)

/-- The accumulator overwritten (after reading what it held). -/
def putAcc (v : FVec F S1024x256 .f32) : P (F := F) PUnit := do
  let _ : Vec F S1024x256 .f32 ← Prog.lift (.load arg7 rect7.toLoadRect (View.loadsAt_vmem (by decide : 0 < S1024x256.numel)))
  Prog.lift (.store arg7 rect7 (shapeCast S1024x256 v (by decide : S1024x256.ShapeCasts S1024x256)) Finset.univ
    (View.stores_vmem_bits_univ (by decide : 0 < S1024x256.numel) rfl) (.inl rfl))

/-- The condition of the reset: the group is the first. -/
def first (i : grid1.Coords) : BitVec 1 := Scalar.cmpi .ne (Scalar.extui (Scalar.cmpi .eq (BitVec.ofNat 32 (i 1).val) 0#32) : BitVec 32) 0#32

/-- The accumulator reset to zero at the first group. -/
def reset (i : grid1.Coords) : P (F := F) PUnit :=
  if first i = 1#1 then do
    putAcc arg7 (broadcast S1024x256 (Scalar.ofBits .f32 0x00000000#32 : F .f32))
    pure ⟨⟩
  else do
    pure ⟨⟩

/-- The product of the decoded weights with the group's columns added to the accumulator; at the last group the result stored. -/
def finish (i : grid1.Coords) : P (F := F) PUnit := do
  let acc : Vec F S1024x256 .f32 ← Prog.lift (.load arg7 rect7.toLoadRect (View.loadsAt_vmem (by decide : 0 < S1024x256.numel)))
  let w : Vec F S1024x1024 .bf16 ← Prog.lift (.load arg8 rectW.toLoadRect (View.loadsAt_vmem (by decide : 0 < S1024x1024.numel)))
  let x : Vec F S256x1024 .bf16 ← Prog.lift (.load arg2 (rect2 i).toLoadRect (View.loadsAt_vmem (by decide : 0 < S256x1024.numel)))
  putAcc arg7 (addf acc (matmul dot_S1024x1024_S256x1024_S1024x256_1_1_0_0_n_n none w
    (shapeCast S256x1024 x (by decide : S256x1024.ShapeCasts S256x1024)) (constant S1024x256 .f32 0x00000000#32)))
  if k1_cond2 i = 1#1 then do
    let out : Vec F S1024x256 .f32 ← Prog.lift (.load arg7 rect7.toLoadRect (View.loadsAt_vmem (by decide : 0 < S1024x256.numel)))
    let _ : Vec F S256x1024 .bf16 ← Prog.lift (.load arg6 rect6.toLoadRect (View.loadsAt_vmem (by decide : 0 < S256x1024.numel)))
    Prog.lift (.store arg6 rect6 (truncf .bf16 (transpose S256x1024 [1, 0] out (by decide : S1024x256.Transposes [1, 0] S256x1024)) (by decide : FTy.bits .bf16 < FTy.bits .f32)) Finset.univ
      (View.stores_vmem (by decide : 0 < S256x1024.numel) (harg6.storeExact_slice rfl _ (by decide : (rect6).PackedRows (EltTy.packing .bf16))) (fun _ => rfl)) (.inl rfl))
    pure ⟨⟩
  else do
    pure ⟨⟩
  pure ⟨⟩

/-- The kernel's body, in pieces. -/
def body (i : grid1.Coords) : P (F := F) PUnit := do
  let v0 : Vec F S1x128 .i32 ← Prog.lift (.load arg4 (Rect.unit (s := S2x128) ![0, 0] S1x128.size (by decide)).toLoadRect (View.loadsAt_vmem (by decide : 0 < S1x128.numel)))
  let v4 : Vec F S1x128 .i32 ← Prog.lift (.load arg4 (Rect.unit (s := S2x128) ![1, 0] S1x128.size (by decide)).toLoadRect (View.loadsAt_vmem (by decide : 0 < S1x128.numel)))
  reset arg7 i
  blocks arg3 arg5 arg8 harg8 (BitVec.ofNat 32 (i 1).val) (tab v0) (tab v4) allBlocks
  finish arg2 arg6 harg6 arg7 arg8 i

end Prog

end Cert.ProofBits.Dec

end
-- ==== Proof.Bits.Block.lean ====
/-
  What the thirty-two row blocks of the decoding kernel leave in the scratch of decoded weights: each element of it read
  off one code byte, the table and one scale word (`decoded`).
-/
module

public import proofs.«01_k».proof.Proof.Bits.Body
public import proofs.«01_k».proof.Proof.Bits.Common
public import Idealize.ShloMosaic.Lib.Pipeline.Kit
public import Idealize.ShloMosaic.Lib.Pipeline.FrameBody
public import Idealize.ShloMosaic.Lib.Pipeline.Value
public import Idealize.ShloMosaic.Lib.ValueIdxCore
public import Idealize.ShloMosaic.Lib.Tactic

@[expose] public section

set_option maxRecDepth 16384

noncomputable section

namespace Cert.ProofBits.Dec

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The stores of one row block -/

/-- The sixteen rows that half `q` of a row block decodes from one block of words: parity `p` of each pair. -/
def tile (lo hi w : IVec S8x128 32) (g : BitVec 32) (v5 : Vec F S1x16x128 .i32) : Fin 2 → Fin 2 → FVec F S16x128 .bf16
  | 0, 0 => mulf (asBf (evens (entry0 lo hi w) (entry1 lo hi w))) (scale0 g v5)
  | 0, 1 => mulf (asBf (odds (entry0 lo hi w) (entry1 lo hi w))) (scale0 g v5)
  | 1, 0 => mulf (asBf (evens (entry2 lo hi w) (entry3 lo hi w))) (scale1 g v5)
  | 1, 1 => mulf (asBf (odds (entry2 lo hi w) (entry3 lo hi w))) (scale1 g v5)

/-- The column block that column block `l` of the codes decodes to, at parity `p`. -/
abbrev col (l : Fin 4) (p : Fin 2) : Fin 8 := ⟨2 * l.val + p.val, by omega⟩

section Pieces

variable (X3 : S1024x512.Idx → Elt F .i8) (X5 : S1x512x128.Idx → Elt F .i32) (g : BitVec 32) (lo hi : IVec S8x128 32)

/-- One store: half `q`, parity `p` of column block `l` of row block `r`. -/
def piece (r : Fin 32) (l : Fin 4) (q p : Fin 2) : View.Piece (Elt F) S1024x1024 .bf16 :=
  ⟨rect8 r q (col l p), shapeCast S16x128 (tile lo hi (words (View.ld X3 (rect3 r l))) g (View.ld X5 (rect5 r)) q p)
    (by decide : S16x128.ShapeCasts S16x128)⟩

/-- The four stores of a column block, the latest first. -/
def columnPieces (r : Fin 32) (l : Fin 4) : List (View.Piece (Elt F) S1024x1024 .bf16) :=
  [piece X3 X5 g lo hi r l 1 1, piece X3 X5 g lo hi r l 1 0, piece X3 X5 g lo hi r l 0 1, piece X3 X5 g lo hi r l 0 0]

/-- The sixteen stores of a row block, the latest first. -/
def blockPieces (r : Fin 32) : List (View.Piece (Elt F) S1024x1024 .bf16) :=
  columnPieces X3 X5 g lo hi r 3 ++ (columnPieces X3 X5 g lo hi r 2 ++ (columnPieces X3 X5 g lo hi r 1 ++ columnPieces X3 X5 g lo hi r 0))

/-- The stores of a list of row blocks, the latest first. -/
def blocksPieces : List (Fin 32) → List (View.Piece (Elt F) S1024x1024 .bf16)
  | [] => []
  | r :: rs => blocksPieces rs ++ blockPieces X3 X5 g lo hi r

end Pieces

section Run

variable (c : Dev nD) (arg3 : Memref sig .tc .vmem S1024x512 .i8) (arg5 : Memref sig .tc .vmem S1x512x128 .i32)
  (arg8 : Memref sig .tc .vmem S1024x1024 .bf16) (harg8 : arg8.IsWhole) (g : BitVec 32) (lo hi : IVec S8x128 32)
  (f3 : Bf (F := F) c arg3) (f5 : Bf (F := F) c arg5)

/-- A row block runs, leaving its sixteen stores in the scratch. -/
theorem block_run (r : Fin 32) (f8 : Bf (F := F) c arg8) (E : Set ℕ) (Q : PUnit → sProp 𝕄) :
    iprop(pt c arg3 f3 ∗ pt c arg5 f5 ∗ pt c arg8 f8
        ∗ ((pt c arg3 f3 ∗ pt c arg5 f5 ∗ pt c arg8 (arg8.view.writes (Elt F) f8
            (blockPieces (arg3.view.read (Elt F) f3) (arg5.view.read (Elt F) f5) g lo hi r))) -∗ Q ⟨⟩))
      ⊢ wp frame (wpE (defs₀ (F := F)) Variants.none c none) E (block arg3 arg5 arg8 harg8 g lo hi r) Q := by
  unfold block column put
  iintro ⟨H3, H5, H0, Hk⟩
  sl_exec!
  sl_step
  iapply Hk
  isplitl [H3]; · iexact H3
  isplitl [H5]; · iexact H5
  iexact H0

/-- The row blocks of a list run one after another. -/
theorem blocks_run : ∀ (rs : List (Fin 32)) (f8 : Bf (F := F) c arg8) (E : Set ℕ) (Q : PUnit → sProp 𝕄),
    iprop(pt c arg3 f3 ∗ pt c arg5 f5 ∗ pt c arg8 f8
        ∗ ((pt c arg3 f3 ∗ pt c arg5 f5 ∗ pt c arg8 (arg8.view.writes (Elt F) f8
            (blocksPieces (arg3.view.read (Elt F) f3) (arg5.view.read (Elt F) f5) g lo hi rs))) -∗ Q ⟨⟩))
      ⊢ wp frame (wpE (defs₀ (F := F)) Variants.none c none) E (blocks arg3 arg5 arg8 harg8 g lo hi rs) Q
  | [], f8, E, Q => by
    unfold blocks blocksPieces
    iintro ⟨H3, H5, H0, Hk⟩
    sl_step
    iapply Hk
    isplitl [H3]; · iexact H3
    isplitl [H5]; · iexact H5
    iexact H0
  | r :: rs, f8, E, Q => by
    unfold blocks blocksPieces
    rw [wp_bind, View.writes_append]
    iintro ⟨H3, H5, H0, Hk⟩
    iapply block_run c arg3 arg5 arg8 harg8 g lo hi f3 f5 r f8 E _
    isplitl [H3]; · iexact H3
    isplitl [H5]; · iexact H5
    isplitl [H0]; · iexact H0
    iintro ⟨H3, H5, H0⟩
    iapply blocks_run rs _ E Q
    isplitl [H3]; · iexact H3
    isplitl [H5]; · iexact H5
    isplitl [H0]; · iexact H0
    iexact Hk

end Run

/-! ## What they leave -/

section Decoded

variable (X3 : S1024x512.Idx → Elt F .i8) (X5 : S1x512x128.Idx → Elt F .i32) (g : BitVec 32) (lo hi : IVec S8x128 32)

/-- The decoded weights of one group and one block of 1024 rows: row `32r + 16q + i`, column `128(2l + p) + j`. -/
def decoded (y : S1024x1024.Idx) : F .bf16 :=
  tile lo hi (words (View.ld X3 (rect3 ⟨(y 0).val / 32, by have : (y 0).val < 1024 := (y 0).isLt; omega⟩ ⟨(y 1).val / 256, by have : (y 1).val < 1024 := (y 1).isLt; omega⟩))) g
    (View.ld X5 (rect5 ⟨(y 0).val / 32, by have : (y 0).val < 1024 := (y 0).isLt; omega⟩))
    ⟨(y 0).val / 16 % 2, by omega⟩ ⟨(y 1).val / 128 % 2, by omega⟩
    (ix2 (n0 := 16) (n1 := 128) ⟨(y 0).val % 16, by omega⟩ ⟨(y 1).val % 128, by omega⟩)

/-- Each store's payload is `decoded` on its rectangle. -/
theorem piece_eq (r : Fin 32) (l : Fin 4) (q p : Fin 2) (x : (piece X3 X5 g lo hi r l q p).1.shape.Idx) :
    (piece X3 X5 g lo hi r l q p).2 x = decoded X3 X5 g lo hi ((piece X3 X5 g lo hi r l q p).1.emb x) := by
  have hx0 : (x 0).val < 16 := (x 0).isLt
  have hx1 : (x 1).val < 128 := (x 1).isLt
  have h0 : (((piece X3 X5 g lo hi r l q p).1.emb x) 0).val = 32 * r.val + 16 * q.val + (x 0).val := by
    show 32 * r.val + 16 * q.val + 1 * (x 0).val = _; omega
  have h1 : (((piece X3 X5 g lo hi r l q p).1.emb x) 1).val = 128 * (2 * l.val + p.val) + (x 1).val := by
    show 128 * (2 * l.val + p.val) + 1 * (x 1).val = _; omega
  unfold decoded
  have e1 : (⟨(((piece X3 X5 g lo hi r l q p).1.emb x) 0).val / 32, by rw [h0]; omega⟩ : Fin 32) = r := Fin.ext (by show _ / 32 = _; rw [h0]; omega)
  have e2 : (⟨(((piece X3 X5 g lo hi r l q p).1.emb x) 1).val / 256, by rw [h1]; omega⟩ : Fin 4) = l := Fin.ext (by show _ / 256 = _; rw [h1]; omega)
  have e3 : (⟨(((piece X3 X5 g lo hi r l q p).1.emb x) 0).val / 16 % 2, by omega⟩ : Fin 2) = q := Fin.ext (by show _ / 16 % 2 = _; rw [h0]; omega)
  have e4 : (⟨(((piece X3 X5 g lo hi r l q p).1.emb x) 1).val / 128 % 2, by omega⟩ : Fin 2) = p := Fin.ext (by show _ / 128 % 2 = _; rw [h1]; omega)
  have e5 : (ix2 (n0 := 16) (n1 := 128) ⟨(((piece X3 X5 g lo hi r l q p).1.emb x) 0).val % 16, by omega⟩ ⟨(((piece X3 X5 g lo hi r l q p).1.emb x) 1).val % 128, by omega⟩) = x := by
    funext a; fin_cases a
    · exact Fin.ext (by show _ % 16 = _; rw [h0]; show _ = (x 0).val; omega)
    · exact Fin.ext (by show _ % 128 = _; rw [h1]; show _ = (x 1).val; omega)
  rw [e1, e2, e3, e4, e5]
  unfold piece
  exact congrFun (shapeCast_self _ _) x

theorem mem_blocksPieces (r : Fin 32) (l : Fin 4) (q p : Fin 2) :
    ∀ rs : List (Fin 32), r ∈ rs → piece X3 X5 g lo hi r l q p ∈ blocksPieces X3 X5 g lo hi rs
  | [], h => absurd h List.not_mem_nil
  | r' :: rs, h => by
    unfold blocksPieces
    rcases List.mem_cons.mp h with rfl | h
    · refine List.mem_append_right _ ?_
      unfold blockPieces columnPieces
      fin_cases l <;> fin_cases q <;> fin_cases p <;> simp
    · exact List.mem_append_left _ (mem_blocksPieces r l q p rs h)

theorem of_mem_blocksPieces (P : View.Piece (Elt F) S1024x1024 .bf16) :
    ∀ rs : List (Fin 32), P ∈ blocksPieces X3 X5 g lo hi rs → ∃ r l q p, P = piece X3 X5 g lo hi r l q p
  | [], h => absurd h List.not_mem_nil
  | r' :: rs, h => by
    unfold blocksPieces at h
    rcases List.mem_append.mp h with h | h
    · exact of_mem_blocksPieces P rs h
    · unfold blockPieces columnPieces at h
      simp only [List.cons_append, List.nil_append, List.mem_cons, List.not_mem_nil, or_false] at h
      rcases h with h | h | h | h | h | h | h | h | h | h | h | h | h | h | h | h <;> exact ⟨_, _, _, _, h⟩

/-- After all the row blocks the scratch reads as `decoded`, whatever it held. -/
theorem read_blocks {sp : Space} (M : Memref sig .tc sp S1024x1024 .bf16) (f : M.view.ty.Contents (Elt F)) :
    M.view.read (Elt F) (M.view.writes (Elt F) f (blocksPieces X3 X5 g lo hi allBlocks)) = decoded X3 X5 g lo hi := by
  funext y
  refine View.read_writes_apply_of_pieces _ _ _ _ (fun P hP x => ?_) y ?_
  · obtain ⟨r, l, q, p, rfl⟩ := of_mem_blocksPieces X3 X5 g lo hi P _ hP
    exact piece_eq X3 X5 g lo hi r l q p x
  · have hy0 : (y 0).val < 1024 := (y 0).isLt
    have hy1 : (y 1).val < 1024 := (y 1).isLt
    refine ⟨piece X3 X5 g lo hi ⟨(y 0).val / 32, by omega⟩ ⟨(y 1).val / 256, by omega⟩ ⟨(y 0).val / 16 % 2, by omega⟩ ⟨(y 1).val / 128 % 2, by omega⟩,
      mem_blocksPieces X3 X5 g lo hi _ _ _ _ _ ?_, ?_⟩
    · generalize (⟨(y 0).val / 32, _⟩ : Fin 32) = r
      revert r; decide
    · have hm : (piece X3 X5 g lo hi ⟨(y 0).val / 32, by omega⟩ ⟨(y 1).val / 256, by omega⟩ ⟨(y 0).val / 16 % 2, by omega⟩ ⟨(y 1).val / 128 % 2, by omega⟩).1.emb
          (ix2 (n0 := 16) (n1 := 128) ⟨(y 0).val % 16, by omega⟩ ⟨(y 1).val % 128, by omega⟩) = y := by
        funext a; fin_cases a
        · refine Fin.ext ?_
          show 32 * ((y 0).val / 32) + 16 * ((y 0).val / 16 % 2) + 1 * ((y 0).val % 16) = (y 0).val; omega
        · refine Fin.ext ?_
          show 128 * (2 * ((y 1).val / 256) + (y 1).val / 128 % 2) + 1 * ((y 1).val % 128) = (y 1).val; omega
      have h := Rect.map_emb_univ (piece X3 X5 g lo hi ⟨(y 0).val / 32, by omega⟩ ⟨(y 1).val / 256, by omega⟩ ⟨(y 0).val / 16 % 2, by omega⟩ ⟨(y 1).val / 128 % 2, by omega⟩).1
      rw [← h]
      exact Finset.mem_map.mpr ⟨_, Finset.mem_univ _, hm⟩

end Decoded

end Cert.ProofBits.Dec

end
-- ==== Proof.Bits.BodyEq.lean ====
/-
  The printed body of the decoding kernel is the program of Body.lean.
-/
module

public import proofs.«01_k».proof.Proof.Bits.Body

@[expose] public section

set_option maxRecDepth 65536

noncomputable section

namespace Cert.ProofBits.Dec

open Cert.Kernel
open Idealize.ShloMosaic Idealize.SL.Sem

variable {F : FTy → Type} [FloatOps F]

/-- What the first window of the printed body hands on. -/
def handOn (g : BitVec 32) (v0 v4 : Vec F S1x128 .i32) (v11 : Vec F S1x16x128 .i32) (v26 : Vec F S32x128 .i8) :
    Σ' (_ : BitVec 32) (_ : IVec S8x128 32) (_ : IVec S8x128 32) (_ : FVec F S16x128 .bf16) (_ : FVec F S16x128 .bf16) (_ : IVec S8x128 32) (_ : IVec S8x128 32) (_ : IVec S8x128 32), IVec S8x128 1 :=
  ⟨g, tab v0, tab v4, scale0 g v11, scale1 g v11, words v26, andi (words v26) (broadcast S8x128 127#32),
    look (tab v0) (andi (words v26) (broadcast S8x128 127#32)), cmpi .slt (andi (words v26) (broadcast S8x128 127#32)) (broadcast S8x128 0#32)⟩

/-- The first window of the printed body: the table read, the accumulator reset at the first group, the first scales and codes read. -/
theorem part1_eq (i : grid1.Coords)
    (arg2 : Memref sig .tc .vmem S256x12288 .bf16) (harg2 : arg2.IsWhole) (arg3 : Memref sig .tc .vmem S1024x512 .i8) (harg3 : arg3.IsWhole)
    (arg4 : Memref sig .tc .vmem S2x128 .i32) (harg4 : arg4.IsWhole) (arg5 : Memref sig .tc .vmem S1x512x128 .i32) (harg5 : arg5.IsWhole)
    (arg6 : Memref sig .tc .vmem S256x1024 .bf16) (harg6 : arg6.IsWhole) (arg7 : Memref sig .tc .vmem S1024x256 .f32) (harg7 : arg7.IsWhole)
    (arg8 : Memref sig .tc .vmem S1024x1024 .bf16) (harg8 : arg8.IsWhole) :
    k1_part1 (F := F) i arg2 harg2 arg3 harg3 arg4 harg4 arg5 harg5 arg6 harg6 arg7 harg7 arg8 harg8
      = (Prog.lift (.load arg4 (Rect.unit (s := S2x128) ![0, 0] S1x128.size (by decide)).toLoadRect (View.loadsAt_vmem (by decide : 0 < S1x128.numel))) >>= fun v0 =>
          Prog.lift (.load arg4 (Rect.unit (s := S2x128) ![1, 0] S1x128.size (by decide)).toLoadRect (View.loadsAt_vmem (by decide : 0 < S1x128.numel))) >>= fun v4 =>
          reset arg7 i >>= fun _ =>
          Prog.lift (.load arg5 (rect5 0).toLoadRect (View.loadsAt_vmem (by decide : 0 < S1x16x128.numel))) >>= fun v11 =>
          Prog.lift (.load arg3 (rect3 0 0).toLoadRect (View.loadsAt_vmem (by decide : 0 < S32x128.numel))) >>= fun v26 =>
          pure (handOn (BitVec.ofNat 32 (i 1).val) v0 v4 v11 v26)) := by
  unfold k1_part1
  refine congrArg (bind _) (funext fun v0 => congrArg (bind _) (funext fun v4 => ?_))
  by_cases h : first i = 1#1
  · exact (dif_pos h).trans (by rw [reset, if_pos h]; chain_rfl)
  · exact (dif_neg h).trans (by rw [reset, if_neg h]; chain_rfl)

set_option maxHeartbeats 2000000 in
/-- The printed body is the program in pieces. -/
theorem body_eq (i : grid1.Coords)
    (arg2 : Memref sig .tc .vmem S256x12288 .bf16) (harg2 : arg2.IsWhole) (arg3 : Memref sig .tc .vmem S1024x512 .i8) (harg3 : arg3.IsWhole)
    (arg4 : Memref sig .tc .vmem S2x128 .i32) (harg4 : arg4.IsWhole) (arg5 : Memref sig .tc .vmem S1x512x128 .i32) (harg5 : arg5.IsWhole)
    (arg6 : Memref sig .tc .vmem S256x1024 .bf16) (harg6 : arg6.IsWhole) (arg7 : Memref sig .tc .vmem S1024x256 .f32) (harg7 : arg7.IsWhole)
    (arg8 : Memref sig .tc .vmem S1024x1024 .bf16) (harg8 : arg8.IsWhole) :
    cc1_decode_matmul (F := F) i arg2 harg2 arg3 harg3 arg4 harg4 arg5 harg5 arg6 harg6 arg7 harg7 arg8 harg8
      = body arg2 arg3 arg4 arg5 arg6 harg6 arg7 arg8 harg8 i := by
  unfold cc1_decode_matmul k1_part417
  rw [part1_eq]
  simp only [bind_assoc]
  chain_rfl

end Cert.ProofBits.Dec

end
-- ==== Proof.Bits.BodyRun.lean ====
/-
  What the body of the decoding kernel does at one grid point: the accumulator, reset at the first group, gains the product
  of the decoded weights with the group's columns; at the last group the result is the transposed accumulator.
-/
module

public import proofs.«01_k».proof.Proof.Bits.Block
public import proofs.«01_k».proof.Proof.Bits.BodyEq
public import Idealize.ShloMosaic.Lib.VecWindow

@[expose] public section

set_option maxRecDepth 16384

noncomputable section

namespace Cert.ProofBits.Dec

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The accumulator after a point: the one before it, or zero at the first group, plus the product of the decoded weights `w`
    with the group's columns of `x`. -/
def gain (i : grid1.Coords) (x : S256x12288.Idx → F .bf16) (w : S1024x1024.Idx → F .bf16) (a : S1024x256.Idx → F .f32) : FVec F S1024x256 .f32 :=
  addf (if first i = 1#1 then broadcast S1024x256 (Scalar.ofBits .f32 0x00000000#32) else a)
    (matmul dot_S1024x1024_S256x1024_S1024x256_1_1_0_0_n_n none w
      (shapeCast S256x1024 (View.ld (Val := Elt F) (e' := .bf16) x (rect2 i)) (by decide : S256x1024.ShapeCasts S256x1024)) (constant S1024x256 .f32 0x00000000#32))

/-- The result block of an accumulator: transposed, in bf16. -/
def result (a : S1024x256.Idx → F .f32) : FVec F S256x1024 .bf16 :=
  truncf .bf16 (transpose S256x1024 [1, 0] a (by decide : S1024x256.Transposes [1, 0] S256x1024)) (by decide : FTy.bits .bf16 < FTy.bits .f32)

section Run

variable (c : Dev nD) (arg2 : Memref sig .tc .vmem S256x12288 .bf16) (harg2 : arg2.IsWhole) (arg3 : Memref sig .tc .vmem S1024x512 .i8) (harg3 : arg3.IsWhole)
  (arg4 : Memref sig .tc .vmem S2x128 .i32) (harg4 : arg4.IsWhole) (arg5 : Memref sig .tc .vmem S1x512x128 .i32) (harg5 : arg5.IsWhole)
  (arg6 : Memref sig .tc .vmem S256x1024 .bf16) (harg6 : arg6.IsWhole) (arg7 : Memref sig .tc .vmem S1024x256 .f32) (harg7 : arg7.IsWhole)
  (arg8 : Memref sig .tc .vmem S1024x1024 .bf16) (harg8 : arg8.IsWhole) (i : grid1.Coords)

/-- The reset: at the first group the accumulator reads zero afterwards, else it is as before. -/
theorem reset_run (f7 : Bf (F := F) c arg7) (E : Set ℕ) (Q : PUnit → sProp 𝕄) :
    iprop(pt c arg7 f7 ∗ (∀ f7' : Bf (F := F) c arg7, (⌜arg7.view.read (Elt F) f7'
        = if first i = 1#1 then broadcast S1024x256 (Scalar.ofBits .f32 0x00000000#32) else arg7.view.read (Elt F) f7⌝ ∗ pt c arg7 f7') -∗ Q ⟨⟩))
      ⊢ wp frame (wpE (defs₀ (F := F)) Variants.none c none) E (reset arg7 i) Q := by
  unfold reset putAcc
  by_cases h : first i = 1#1
  · rw [if_pos h, if_pos h]
    iintro ⟨H7, Hk⟩
    sl_exec!
    sl_step
    iapply Hk
    isplitr; swap; (· iexact H7)
    ipureintro
    rw [View.read_writes_full, shapeCast_self]
  · rw [if_neg h, if_neg h]
    iintro ⟨H7, Hk⟩
    sl_step
    iapply Hk
    isplitr; swap; (· iexact H7)
    ipureintro; rfl

/-- The product and, at the last group, the store of the result. -/
theorem finish_run (f2 : Bf (F := F) c arg2) (f6 : Bf (F := F) c arg6) (f7 : Bf (F := F) c arg7) (f8 : Bf (F := F) c arg8)
    (a : S1024x256.Idx → F .f32) (ha : arg7.view.read (Elt F) f7 = if first i = 1#1 then broadcast S1024x256 (Scalar.ofBits .f32 0x00000000#32) else a)
    (E : Set ℕ) (Q : PUnit → sProp 𝕄) :
    iprop(pt c arg2 f2 ∗ pt c arg6 f6 ∗ pt c arg7 f7 ∗ pt c arg8 f8
        ∗ (∀ (f6' : Bf (F := F) c arg6) (f7' : Bf (F := F) c arg7),
            (⌜arg7.view.read (Elt F) f7' = gain i (arg2.view.read (Elt F) f2) (arg8.view.read (Elt F) f8) a
                ∧ (k1_cond2 i = 1#1 → arg6.view.read (Elt F) f6' = result (gain i (arg2.view.read (Elt F) f2) (arg8.view.read (Elt F) f8) a))
                ∧ (k1_cond2 i ≠ 1#1 → f6' = f6)⌝
              ∗ pt c arg2 f2 ∗ pt c arg6 f6' ∗ pt c arg7 f7' ∗ pt c arg8 f8) -∗ Q ⟨⟩))
      ⊢ wp frame (wpE (defs₀ (F := F)) Variants.none c none) E (finish arg2 arg6 harg6 arg7 arg8 i) Q := by
  unfold finish putAcc
  by_cases h : k1_cond2 i = 1#1
  · rw [if_pos h]
    iintro ⟨H2, H6, H7, H8, Hk⟩
    sl_exec!
    sl_step
    iapply Hk
    isplitr
    swap
    · isplitl [H2]; · iexact H2
      isplitl [H6]; · iexact H6
      isplitl [H7]; · iexact H7
      iexact H8
    · ipureintro
      have h7 : ∀ f : Bf (F := F) c arg7, arg7.view.read (Elt F) (arg7.view.writes (Elt F) f (finish_run.sl.H7_1 c arg2 arg7 arg8 i f2 f7 f8))
          = gain i (arg2.view.read (Elt F) f2) (arg8.view.read (Elt F) f8) a := fun f => by
        unfold finish_run.sl.H7_1
        rw [View.read_writes_full, shapeCast_self]
        unfold gain
        rw [← ha, View.readAt_full, View.readAt_full]
        rfl
      refine ⟨h7 _, fun _ => ?_, fun hn => absurd h hn⟩
      unfold finish_run.sl.H6_1
      rw [View.read_writes_full]
      unfold result
      rw [← h7 arg7.view.junk]
      unfold finish_run.sl.out
      exact congrArg (fun z => truncf .bf16 (transpose S256x1024 [1, 0] z (by decide : S1024x256.Transposes [1, 0] S256x1024)) (by decide : FTy.bits .bf16 < FTy.bits .f32))
        (View.readAt_full _ _ _)
  · rw [if_neg h]
    iintro ⟨H2, H6, H7, H8, Hk⟩
    sl_exec!
    sl_step
    iapply Hk
    isplitr
    swap
    · isplitl [H2]; · iexact H2
      isplitl [H6]; · iexact H6
      isplitl [H7]; · iexact H7
      iexact H8
    · ipureintro
      refine ⟨?_, fun hp => absurd hp h, fun _ => rfl⟩
      rw [View.read_writes_full, shapeCast_self]
      unfold gain
      rw [← ha, View.readAt_full, View.readAt_full]
      rfl

/-- The decoded weights of a point, from the blocks it stages: the table `x4`, the codes `x3` and the scale words `x5`. -/
abbrev weights (x4 : S2x128.Idx → Elt F .i32) (x3 : S1024x512.Idx → Elt F .i8) (x5 : S1x512x128.Idx → Elt F .i32) : S1024x1024.Idx → F .bf16 :=
  decoded x3 x5 (BitVec.ofNat 32 (i 1).val)
    (tab (F := F) (View.ld (Val := Elt F) (e' := .i32) x4 (Rect.unit (s := S2x128) ![0, 0] S1x128.size (by decide))))
    (tab (F := F) (View.ld (Val := Elt F) (e' := .i32) x4 (Rect.unit (s := S2x128) ![1, 0] S1x128.size (by decide))))

/-- The two halves of the table are read first. -/
theorem tables_run (f4 : Bf (F := F) c arg4) (K : Vec F S1x128 .i32 → Vec F S1x128 .i32 → P (F := F) PUnit) (E : Set ℕ) (Q : PUnit → sProp 𝕄) :
    iprop(pt c arg4 f4 ∗ (pt c arg4 f4 -∗ wp frame (wpE (defs₀ (F := F)) Variants.none c none) E
        (K (View.ld (Val := Elt F) (e' := .i32) (arg4.view.read (Elt F) f4) (Rect.unit (s := S2x128) ![0, 0] S1x128.size (by decide)))
          (View.ld (Val := Elt F) (e' := .i32) (arg4.view.read (Elt F) f4) (Rect.unit (s := S2x128) ![1, 0] S1x128.size (by decide)))) Q))
      ⊢ wp frame (wpE (defs₀ (F := F)) Variants.none c none) E (do
          let v0 : Vec F S1x128 .i32 ← Prog.lift (.load arg4 (Rect.unit (s := S2x128) ![0, 0] S1x128.size (by decide)).toLoadRect (View.loadsAt_vmem (by decide : 0 < S1x128.numel)))
          let v4 : Vec F S1x128 .i32 ← Prog.lift (.load arg4 (Rect.unit (s := S2x128) ![1, 0] S1x128.size (by decide)).toLoadRect (View.loadsAt_vmem (by decide : 0 < S1x128.numel)))
          K v0 v4) Q := by
  iintro ⟨H4, Hk⟩
  sl_exec!
  iapply Hk
  iexact H4

/-- THE BODY at a grid point: what it leaves in the accumulator and in the result block. -/
theorem body_run (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (E : Set ℕ) (Q : PUnit → sProp 𝕄) :
    iprop(pt c arg2 f2 ∗ pt c arg3 f3 ∗ pt c arg4 f4 ∗ pt c arg5 f5 ∗ pt c arg6 f6 ∗ pt c arg7 f7 ∗ pt c arg8 f8
        ∗ (∀ (f6' : Bf (F := F) c arg6) (f7' : Bf (F := F) c arg7) (f8' : Bf (F := F) c arg8),
            (⌜arg7.view.read (Elt F) f7' = gain i (arg2.view.read (Elt F) f2) (weights i (arg4.view.read (Elt F) f4) (arg3.view.read (Elt F) f3) (arg5.view.read (Elt F) f5)) (arg7.view.read (Elt F) f7)
                ∧ (k1_cond2 i = 1#1 → arg6.view.read (Elt F) f6' = result (gain i (arg2.view.read (Elt F) f2) (weights i (arg4.view.read (Elt F) f4) (arg3.view.read (Elt F) f3) (arg5.view.read (Elt F) f5)) (arg7.view.read (Elt F) f7)))
                ∧ (k1_cond2 i ≠ 1#1 → f6' = f6)⌝
              ∗ pt c arg2 f2 ∗ pt c arg3 f3 ∗ pt c arg4 f4 ∗ pt c arg5 f5 ∗ pt c arg6 f6' ∗ pt c arg7 f7' ∗ pt c arg8 f8') -∗ Q ⟨⟩))
      ⊢ wp frame (wpE (defs₀ (F := F)) Variants.none c none) E
          (cc1_decode_matmul (F := F) i arg2 harg2 arg3 harg3 arg4 harg4 arg5 harg5 arg6 harg6 arg7 harg7 arg8 harg8) Q := by
  rw [body_eq]
  unfold body
  iintro ⟨H2, H3, H4, H5, H6, H7, H8, Hk⟩
  iapply tables_run c arg4 f4 (fun v0 v4 => do
    reset arg7 i
    blocks arg3 arg5 arg8 harg8 (BitVec.ofNat 32 (i 1).val) (tab v0) (tab v4) allBlocks
    finish arg2 arg6 harg6 arg7 arg8 i) E Q
  isplitl [H4]; · iexact H4
  iintro H4
  rw [wp_bind]
  iapply reset_run c arg7 i f7 E _
  isplitl [H7]; · iexact H7
  iintro %f7' ⟨%h7, H7⟩
  rw [wp_bind]
  iapply blocks_run c arg3 arg5 arg8 harg8 _ _ _ f3 f5 allBlocks f8 E _
  isplitl [H3]; · iexact H3
  isplitl [H5]; · iexact H5
  isplitl [H8]; · iexact H8
  iintro ⟨H3, H5, H8⟩
  iapply finish_run c arg2 arg6 harg6 arg7 arg8 i f2 f6 f7' _ (arg7.view.read (Elt F) f7) h7 E Q
  isplitl [H2]; · iexact H2
  isplitl [H6]; · iexact H6
  isplitl [H7]; · iexact H7
  isplitl [H8]; · iexact H8
  rw [read_blocks]
  iintro %f6' %f7'' ⟨%hf, H2, H6, H7, H8⟩
  iapply Hk
  isplitr; · ipureintro; exact hf
  isplitl [H2]; · iexact H2
  isplitl [H3]; · iexact H3
  isplitl [H4]; · iexact H4
  isplitl [H5]; · iexact H5
  isplitl [H6]; · iexact H6
  isplitl [H7]; · iexact H7
  iexact H8

end Run

end Cert.ProofBits.Dec

end
-- ==== Proof.Bits.Region1.lean ====
/-
  The multiplying kernel's region: what the accumulator holds before each grid point, what each window's buffer holds, and the
  body's specification at each point.
-/
module

public import proofs.«01_k».proof.Proof.Bits.BodyRun
public import proofs.«01_k».proof.Proof.Gen.Kernel.Points
public import proofs.«01_k».proof.Proof.Gen.Kernel.Regions

@[expose] public section

set_option maxRecDepth 16384

noncomputable section

namespace Cert.ProofBits.Dec

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- The block of an input's array at a grid point. -/
abbrev blk0 (c : Dev nD) (t : Fin cfg1.N) : S256x12288.Idx → F .bf16 := ((cfg1.win 0).blk t).view.read (Elt F) (V c main_v5_1)
abbrev blk1 (c : Dev nD) (t : Fin cfg1.N) : S1024x512.Idx → BitVec 8 := ((cfg1.win 1).blk t).view.read (Elt F) (V c main_arg3)
abbrev blk2 (c : Dev nD) (t : Fin cfg1.N) : S2x128.Idx → BitVec 32 := ((cfg1.win 2).blk t).view.read (Elt F) (V c main_v7)
abbrev blk3 (c : Dev nD) (t : Fin cfg1.N) : S1x512x128.Idx → BitVec 32 := ((cfg1.win 3).blk t).view.read (Elt F) (V c main_v12)

/-- One grid point's accumulation over what the accumulator held. -/
def step (c : Dev nD) (t : Fin cfg1.N) (a : S1024x256.Idx → F .f32) : S1024x256.Idx → F .f32 :=
  gain (grid1.coords t) (blk0 V c t) (weights (grid1.coords t) (blk2 V c t) (blk1 V c t) (blk3 V c t)) a

/-- What the accumulator holds before grid point `n`. -/
def accBefore (c : Dev nD) : ℕ → S1024x256.Idx → F .f32
  | 0 => fun _ => FloatOps.ofBits .f32 0
  | n + 1 => if h : n < cfg1.N then step V c ⟨n, h⟩ (accBefore c n) else accBefore c n

theorem accBefore_succ (c : Dev nD) (t : Fin cfg1.N) : accBefore V c (t.val + 1) = step V c t (accBefore V c t.val) := by
  show (if h : t.val < cfg1.N then _ else _) = _
  rw [dif_pos t.isLt]

/-- The buffers the region neither stages nor accumulates in, at something. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before grid point `n`: the accumulator, unless about to be cleared, holds the sum so far. -/
def Φc (c : Dev nD) (n : ℕ) : sProp 𝕄 :=
  iprop(∃ (f7 : Bf (F := F) c (Memref.whole cc1_scratch0)) (f8 : Bf (F := F) c (Memref.whole cc1_scratch1)),
    ⌜n % 12 ≠ 0 → (Memref.whole cc1_scratch0).view.read (Elt F) f7 = accBefore V c n⌝
      ∗ pt c (Memref.whole cc1_scratch0) f7 ∗ pt c (Memref.whole cc1_scratch1) f8 ∗ others c)

theorem inv_intro (c : Dev nD) (n : ℕ) (f7 : Bf (F := F) c (Memref.whole cc1_scratch0)) (f8 : Bf (F := F) c (Memref.whole cc1_scratch1))
    (h : (Memref.whole cc1_scratch0).view.read (Elt F) f7 = accBefore V c n) :
    iprop(pt c (Memref.whole cc1_scratch0) f7 ∗ pt c (Memref.whole cc1_scratch1) f8 ∗ others c) ⊢ Φc V c n := by
  unfold Φc
  iintro H
  iexists f7
  iexists f8
  isplitr
  · ipureintro; exact fun _ => h
  iexact H

/-- Every scoped buffer the region does not stage, at something. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The buffers at the region's entry make the invariant, which asks nothing of the accumulator there. -/
theorem inv_of_rest (c : Dev nD) : rest (F := F) c ⊢ Φc V c 0 := by
  unfold rest Φc others
  iintro ⟨G0, G1, G2, G3, G4, G5, G6, G7, G8, ⟨%f7, H7⟩, ⟨%f8, H8⟩⟩
  iexists f7
  iexists f8
  isplitr
  · ipureintro; exact fun h => absurd rfl h
  isplitl [H7]; · iexact H7
  isplitl [H8]; · iexact H8
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

/-- The invariant gives them back. -/
theorem rest_of_inv (c : Dev nD) (n : ℕ) : Φc V c n ⊢ rest (F := F) c := by
  unfold rest Φc others
  iintro ⟨%f7, %f8, -, H7, H8, G0, G1, G2, G3, G4, G5, G6, G7, G8⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [H7]; · iexists f7; iexact H7
  iexists f8; iexact H8

/-- What each window's buffer holds after the body at each point. -/
def dat (c : Dev nD) : Dat τ (Elt F) Unit ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => result (accBefore V c (t.val + 1))
  Φ t := Φc V c t.val
  q _ := fullShare
  owed _ := 0

theorem before0 (c : Dev nD) (t : Fin cfg1.N) (d) : (dat V c).before 0 t d = blk0 V c t :=
  ((dat V c).before_in_eq_fetched 0 rfl (fun _ => rfl) (fun _ _ _ => rfl) (fun _ => rfl) t d).trans rfl
theorem before1 (c : Dev nD) (t : Fin cfg1.N) (d) : (dat V c).before 1 t d = blk1 V c t :=
  ((dat V c).before_in_eq_fetched 1 rfl (fun _ => rfl) (fun _ _ _ => rfl) (fun _ => rfl) t d).trans rfl
theorem before2 (c : Dev nD) (t : Fin cfg1.N) (d) : (dat V c).before 2 t d = blk2 V c t :=
  ((dat V c).before_in_eq_fetched 2 rfl (fun _ => rfl) (fun _ _ _ => rfl) (fun _ => rfl) t d).trans rfl
theorem before3 (c : Dev nD) (t : Fin cfg1.N) (d) : (dat V c).before 3 t d = blk3 V c t :=
  ((dat V c).before_in_eq_fetched 3 rfl (fun _ => rfl) (fun _ _ _ => rfl) (fun _ => rfl) t d).trans rfl

/-- The first point of a row block of the output clears the accumulator; the last one writes the block. -/
theorem first_of : ∀ t : Fin grid1.N, t.val % 12 = 0 → first (grid1.coords t) = 1#1 := by decide +kernel
theorem last_of : ∀ t : Fin grid1.N, k1_cond2 (grid1.coords t) = 1#1 ↔ t.val % 12 = 11 := by decide +kernel

/-- The sum after a point, from what the accumulator held before. -/
theorem step_acc (c : Dev nD) (t : Fin cfg1.N) (a : S1024x256.Idx → F .f32) (h : t.val % 12 ≠ 0 → a = accBefore V c t.val) :
    step V c t a = accBefore V c (t.val + 1) := by
  rw [accBefore_succ]
  by_cases h0 : t.val % 12 = 0
  · unfold step gain
    rw [if_pos (first_of t h0), if_pos (first_of t h0)]
  · rw [h h0]

set_option maxHeartbeats 2000000 in
/-- The body at each grid point, from the buffers as the pipeline hands them over. -/
theorem body_obligation (c : Dev nD) : BodyObligation (dat V c) (defs₀ (F := F)) Variants.none () Set.univ := fun t => by
  rw [bigSep_W1, bigSep_W1]
  rw [show (dat V c).Φ t.castSucc = Φc V c t.val from rfl, show (dat V c).Φ t.succ = Φc V c (t.val + 1) from rfl,
    show (dat V c).owesAt () t.succ = (dat V c).owesAt () t.castSucc from rfl]
  simp only [before0, before1, before2, before3]
  iintro ⟨HΦ, Howes, ⟨%d0, H0⟩, ⟨%d1, H1⟩, ⟨%d2, H2⟩, ⟨%d3, H3⟩, ⟨%d4, H4⟩⟩
  ihave HΦ := (show Φc V c t.val ⊢ _ by unfold Φc; exact BI.Entails.refl _) $$ HΦ
  icases HΦ with ⟨%f7, %f8, %ha, H7, H8, Ho⟩
  ihave H0 := owns_elim c (st1_0 t) (hstage1_0 ((cfg1.slots t 0).cast nbuf1_0)) _ $$ H0
  ihave H1 := owns_elim c (st1_1 t) (hstage1_1 ((cfg1.slots t 1).cast nbuf1_1)) _ $$ H1
  ihave H2 := owns_elim c (st1_2 t) (hstage1_2 ((cfg1.slots t 2).cast nbuf1_2)) _ $$ H2
  ihave H3 := owns_elim c (st1_3 t) (hstage1_3 ((cfg1.slots t 3).cast nbuf1_3)) _ $$ H3
  ihave H4 := owns_elim c (st1_4 t) (hstage1_4 ((cfg1.slots t 4).cast nbuf1_4)) _ $$ H4
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  iapply body_run c (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (Memref.whole cc1_scratch0) (Memref.isWhole_whole _) (Memref.whole cc1_scratch1) (Memref.isWhole_whole _) (grid1.coords t)
    f0 f1 f2 f3 f4 f7 f8 Set.univ _
  isplitl [H0]; · iexact H0
  isplitl [H1]; · iexact H1
  isplitl [H2]; · iexact H2
  isplitl [H3]; · iexact H3
  isplitl [H4]; · iexact H4
  isplitl [H7]; · iexact H7
  isplitl [H8]; · iexact H8
  iintro %f4' %f7' %f8' ⟨%h, H0, H1, H2, H3, H4, H7, H8⟩
  rw [h0, h1, h2, h3] at h
  have hs := step_acc V c t _ ha
  obtain ⟨hg, hw, hk⟩ := h
  have hg' := hg.trans hs
  isplitl [H7 H8 Ho]
  · iapply inv_intro V c (t.val + 1) f7' f8' hg'
    isplitl [H7]; · iexact H7
    isplitl [H8]; · iexact H8
    iexact Ho
  isplitl [Howes]; · iexact Howes
  isplitl [H0]; · iapply owns_intro c (st1_0 t) (hstage1_0 ((cfg1.slots t 0).cast nbuf1_0)) _ f0 h0; iexact H0
  isplitl [H1]; · iapply owns_intro c (st1_1 t) (hstage1_1 ((cfg1.slots t 1).cast nbuf1_1)) _ f1 h1; iexact H1
  isplitl [H2]; · iapply owns_intro c (st1_2 t) (hstage1_2 ((cfg1.slots t 2).cast nbuf1_2)) _ f2 h2; iexact H2
  isplitl [H3]; · iapply owns_intro c (st1_3 t) (hstage1_3 ((cfg1.slots t 3).cast nbuf1_3)) _ f3 h3; iexact H3
  by_cases hl : k1_cond2 (grid1.coords t) = 1#1
  · have hi : idle1 4 (grid1.coords t) = false := by show (!(k1_cond2 (grid1.coords t) == 1#1)) = false; rw [hl]; rfl
    rw [hi]
    iapply owns_intro c (st1_4 t) (hstage1_4 ((cfg1.slots t 4).cast nbuf1_4)) _ f4' ((hw hl).trans (congrArg result hs))
    iexact H4
  · have hi : idle1 4 (grid1.coords t) = true := by show (!(k1_cond2 (grid1.coords t) == 1#1)) = true; simpa using hl
    have hf : (win1 4).flush t = false := by
      cases hb : (win1 4).flush t
      · rfl
      · exact absurd ((last_of t).mpr ((flush1_4 t).mp hb)) hl
    rw [hi, hf]
    rw [hk hl]
    iexists d4
    iapply owns_intro c (st1_4 t) (hstage1_4 ((cfg1.slots t 4).cast nbuf1_4)) _ f4 h4
    iexact H4

end Cert.ProofBits.Dec

end
-- ==== Proof.Bits.Segs.lean ====
/-
  The two regions as segments of the whole program: each entered from every unscoped buffer at given contents, and left with
  its results' arrays as the write-backs fill them and every other buffer as it was.
-/
module

public import proofs.«01_k».proof.Proof.Bits.Region0
public import proofs.«01_k».proof.Proof.Bits.Region1
public import Idealize.ShloMosaic.Lib.Pipeline.RegionsLoop

@[expose] public section

set_option maxRecDepth 16384

noncomputable section

namespace Cert.ProofBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Contents of every unscoped buffer. -/
abbrev Vals : Type := (c : Dev nD) → (b : Ref sig .tc) → Buf (Elt F) ((c : Thread nD τ).loc b)

variable (V W : Vals (F := F))

/-- The proof data of both regions, the first entered from `V`, the second from `W`. -/
def pdats : (p : Fin 2) → (c : Dev nD) → Dat τ (Elt F) Unit ℕ UU ℕ (cfgs p) c
  | ⟨0, _⟩ => fun c => Rot.dat V c
  | ⟨1, _⟩ => fun c => Dec.dat W c

/-- No core owes another anything: no level is assigned. -/
abbrev L : GSem nD τ sig → Finset Unit := fun _ => ∅
abbrev lv : GSem nD τ sig → Unit → ℕ := fun _ _ => 0

/-- What a core carries beside the buffers: it owes nothing. -/
abbrev free (c : Dev nD) : sProp 𝕄 := iprop(∃ W, owes (c : Thread nD τ) (0 : CellTallies nD τ sig Unit) W)

/-- The scoped buffers the second region does not stage, listed. -/
theorem to_rest (c : Dev nD) : (Pipeline.scopedRest (Ix := Unit) (Name := ℕ) (U := UU) (Lvl := ℕ) (Val := Elt F) spec1 c : sProp 𝕄) ⊢ Dec.rest c := by
  rw [scopedRest1_eq]; exact .rfl
theorem of_rest (c : Dev nD) : Dec.rest c ⊢ (Pipeline.scopedRest (Ix := Unit) (Name := ℕ) (U := UU) (Lvl := ℕ) (Val := Elt F) spec1 c : sProp 𝕄) := by
  rw [scopedRest1_eq]; exact .rfl

-- the launch lemmas unify only when plain definitions may be unfolded in a metavariable's type
set_option backward.isDefEq.respectTransparency.types false in
/-- The rotating kernel's region. -/
def reg0 (V' : Vals (F := F)) (h3 : ∀ c, V' c main_v5_0 = (Rot.dat V c).arrAt 3 cfg0.N) (h4 : ∀ c, V' c main_v5_1 = (Rot.dat V c).arrAt 4 cfg0.N)
    (hne : ∀ c (b : Ref sig .tc), b ≠ main_v5_0 → b ≠ main_v5_1 → V' c b = V c b) :
    Pipeline.RegionSeg (pcfgs (F := F)) adm (pdats V W) () defs₀ Variants.none L lv 0 where
  win := (launch0).win.to₀
  block_pos := (launch0).block_pos
  stage_whole := (launch0).stage_whole
  K := PEmpty
  osem k := k.elim
  ho := Pipeline.OwnSemFacts.none _
  hbody c := (Rot.body_obligation V c).loose
  hwaits := Pipeline.hwaits_of_owed_zero _ _ _ _ L lv 0 fun _ _ => rfl
  pre c := iprop(unscopedBufs c (V c) ∗ free c)
  post c := iprop(unscopedBufs c (V' c) ∗ free c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V W) (launch0).win (launch0).arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Rot.Φc c from rfl]
    iintro ⟨-, -, Hr⟩; iexact Hr
  hout c := by
    rw [Pipeline.ownSems0_none, show (pdats V W 0 c).Φ (Fin.last _) = Rot.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      (pdats V W) ((pdats V W 0 c).share_full fun _ => rfl) (V c) (V' c) ((pdats V W 0 c).arrAt · cfg0.N)
      (fun w => by
        fin_cases w
        · exact ((pdats V W 0 c).arrAt_in 0 rfl _).trans (hne c main_v0 (by decide) (by decide)).symm
        · exact ((pdats V W 0 c).arrAt_in 1 rfl _).trans (hne c main_v4 (by decide) (by decide)).symm
        · exact ((pdats V W 0 c).arrAt_in 2 rfl _).trans (hne c main_cst (by decide) (by decide)).symm
        · exact (h3 c).symm
        · exact (h4 c).symm
        )
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The multiplying kernel's region. -/
def reg1 (W' : Vals (F := F)) (h4 : ∀ c, W' c main_v13 = (Dec.dat W c).arrAt 4 cfg1.N)
    (hne : ∀ c (b : Ref sig .tc), b ≠ main_v13 → W' c b = W c b) :
    Pipeline.RegionSeg (pcfgs (F := F)) adm (pdats V W) () defs₀ Variants.none L lv 1 where
  win := (launch1).win.to₀
  block_pos := (launch1).block_pos
  stage_whole := (launch1).stage_whole
  K := PEmpty
  osem k := k.elim
  ho := Pipeline.OwnSemFacts.none _
  hbody c := (Dec.body_obligation W c).loose
  hwaits := Pipeline.hwaits_of_owed_zero _ _ _ _ L lv 1 fun _ _ => rfl
  pre c := iprop(unscopedBufs c (W c) ∗ free c)
  post c := iprop(unscopedBufs c (W' c) ∗ free c)
  X _ := BI.emp
  Y _ := BI.emp
  Z c := Pipeline.unscopedRest (Ix := Unit) (Name := ℕ) (U := UU) (Lvl := ℕ) spec1 c (W c)
  hentry c := by
    rw [Pipeline.ownSems0_none]
    have hsplit := Pipeline.arrays_of_unscopedBufs (p := 1) (pcfgs (F := F)) adm (pdats V W) (launch1).win (launch1).arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = Dec.Φc W c 0 from rfl]
    iintro ⟨-, -, Hr⟩
    iapply Dec.inv_of_rest W c
    iapply to_rest c
    iexact Hr
  hout c := by
    rw [Pipeline.ownSems0_none, show (pdats V W 1 c).Φ (Fin.last _) = Dec.Φc W c cfg1.N from rfl]
    iintro Hr
    isplitr; · iempintro
    isplitr; · iempintro
    iapply of_rest c
    iapply Dec.rest_of_inv W c cfg1.N
    iexact Hr
  hexit c := by
    have hjoin := Pipeline.unscopedBufs_of_arrays (p := 1) (pcfgs (F := F)) adm (Ix := Unit) (Name := ℕ) (U := UU) (Lvl := ℕ) (launch1).win (launch1).arr_whole c
      (pdats V W) ((pdats V W 1 c).share_full fun _ => rfl) (W c) (W' c) ((pdats V W 1 c).arrAt · cfg1.N)
      (fun w => by
        fin_cases w
        · exact ((pdats V W 1 c).arrAt_in 0 rfl _).trans (hne c main_v5_1 (by decide)).symm
        · exact ((pdats V W 1 c).arrAt_in 1 rfl _).trans (hne c main_arg3 (by decide)).symm
        · exact ((pdats V W 1 c).arrAt_in 2 rfl _).trans (hne c main_v7 (by decide)).symm
        · exact ((pdats V W 1 c).arrAt_in 3 rfl _).trans (hne c main_v12 (by decide)).symm
        · exact (h4 c).symm
        )
      (fun b hb => hne c b (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.ProofBits

end
-- ==== Proof.Bits.Run.lean ====
/-
  The whole program run: from any memory every weakly fair execution terminates with every semaphore at zero and every unscoped
  buffer at the contents the host operations and the two regions leave, in order.
-/
module

public import proofs.«01_k».proof.Proof.Bits.Segs

@[expose] public section

set_option maxRecDepth 16384

noncomputable section

namespace Cert.ProofBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The contents before the first region. -/
abbrev at1 : Vals (F := F) := fun c b => V1 m c b

/-- What the first region leaves in its two results' arrays. -/
def outs1 : Outs (F := F) := fun _ r c =>
  Function.update (β := fun r : Ref sig .tc => Buf (Elt F) ((c : Thread nD τ).loc r))
    (Function.update (β := fun r : Ref sig .tc => Buf (Elt F) ((c : Thread nD τ).loc r)) (fun r => m ((c : Thread nD τ).loc r)) main_v5_0 ((Rot.dat (at1 m) c).arrAt 3 cfg0.N))
    main_v5_1 ((Rot.dat (at1 m) c).arrAt 4 cfg0.N) r

/-- The contents before the second region. -/
abbrev at5 : Vals (F := F) := fun c b => V5 m (outs1 m) c b

/-- What both regions leave in their results' arrays. -/
def outs : Outs (F := F) := fun J r c =>
  if J = 6 then Function.update (β := fun r : Ref sig .tc => Buf (Elt F) ((c : Thread nD τ).loc r)) (fun r => m ((c : Thread nD τ).loc r)) main_v13 ((Dec.dat (at5 m) c).arrAt 4 cfg1.N) r
  else outs1 m J r c

theorem outs_2 (r : Ref sig .tc) (c : Dev nD) : outs m 2 r c = outs1 m 2 r c := by
  unfold outs; rw [if_neg (by decide)]
theorem outs_6 (c : Dev nD) : outs m 6 main_v13 c = (Dec.dat (at5 m) c).arrAt 4 cfg1.N := by
  unfold outs; rw [if_pos rfl, Function.update_self]
theorem outs1_0 (c : Dev nD) : outs1 m 2 main_v5_0 c = (Rot.dat (at1 m) c).arrAt 3 cfg0.N := by
  unfold outs1; rw [Function.update_of_ne (by decide), Function.update_self]
theorem outs1_1 (c : Dev nD) : outs1 m 2 main_v5_1 c = (Rot.dat (at1 m) c).arrAt 4 cfg0.N := by
  unfold outs1; rw [Function.update_self]

theorem V2_outs (c : Dev nD) : V2 m (outs m) c = V2 m (outs1 m) c := by
  unfold V2; rw [outs_2, outs_2]
theorem V5_outs (c : Dev nD) : V5 m (outs m) c = V5 m (outs1 m) c := by
  unfold V5 V4 V3; rw [V2_outs]

theorem V2_0 (c : Dev nD) : V2 m (outs m) c main_v5_0 = (Rot.dat (at1 m) c).arrAt 3 cfg0.N := by
  unfold V2
  rw [Function.update_of_ne (StableHlo.devRef_ne_of_ne (by decide) : (Proc.devRef .tc main_v5_0 : DevRef τ sig) ≠ Proc.devRef .tc main_v5_1), Function.update_self, outs_2, outs1_0]
theorem V2_1 (c : Dev nD) : V2 m (outs m) c main_v5_1 = (Rot.dat (at1 m) c).arrAt 4 cfg0.N := by
  unfold V2
  rw [Function.update_self, outs_2, outs1_1]
theorem V6_0 (c : Dev nD) : V6 m (outs m) c main_v13 = (Dec.dat (at5 m) c).arrAt 4 cfg1.N := by
  unfold V6
  rw [Function.update_self, outs_6]

/-- The first region, between the contents before it and after it. -/
def R0 : Pipeline.RegionSeg (pcfgs (F := F)) adm (pdats (at1 m) (at5 m)) () defs₀ Variants.none L lv 0 :=
  reg0 (at1 m) (at5 m) (fun c b => V2 m (outs m) c b) (fun c => V2_0 m c) (fun c => V2_1 m c)
    (fun c b h0 h1 => V2_of m (outs m) c b (by simp only [List.mem_cons, List.not_mem_nil, or_false, not_or]; exact ⟨h0, h1⟩))

/-- The second region, between the contents before it and after it. -/
def R1 : Pipeline.RegionSeg (pcfgs (F := F)) adm (pdats (at1 m) (at5 m)) () defs₀ Variants.none L lv 1 :=
  reg1 (at1 m) (at5 m) (fun c b => V6 m (outs m) c b) (fun c => V6_0 m c)
    (fun c b h0 => (V6_of m (outs m) c b (by simp only [List.mem_cons, List.not_mem_nil, or_false]; exact h0)).trans (congrFun (V5_outs m c) _))

/-- The pipelines' own resources, funded at launch. -/
abbrev EP : Emb (URounds (GSem nD τ sig) Unit) 𝕄 := embL
def u₀ : UU := (initOf (Pipeline.cells cfgs cellOf_inj) (Pipeline.launchToks cfgs cellOf_inj), 1)

theorem fund : (ownU u₀ : sProp 𝕄) ⊢ |={Set.univ}=> iprop(BI.own (EP (F := F) (initOf (Pipeline.cells cfgs cellOf_inj) (Pipeline.launchToks cfgs cellOf_inj)))
    ∗ bigSep (Finset.univ : Finset (Dev nD)) fun _ => (BI.emp : sProp 𝕄)) := by
  have h : (ownU u₀ : sProp 𝕄) ⊢ iprop(BI.own (EP (F := F) (initOf (Pipeline.cells cfgs cellOf_inj) (Pipeline.launchToks cfgs cellOf_inj)))
      ∗ BI.own (embR (A := URounds (GSem nD τ sig) Unit) (1 : Counters) : 𝕄)) := ownU_pair _ _
  iintro H
  ihave H := h $$ H
  icases H with ⟨H, -⟩
  imodintro
  isplitl [H]; · iexact H
  rw [BI.bigSep_emp_const]
  iempintro

/-- The state beside the buffers on every core at launch: nothing owed. -/
theorem start (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts L lv)
      ⊢ (|={Set.univ}=> bigSep Finset.univ fun c : Dev nD => free (F := F) c : sProp 𝕄) := by
  iintro ⟨H, -⟩
  imodintro
  have h : (bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
      ⊢ (bigSep Finset.univ fun c : Dev nD => free (F := F) c : sProp 𝕄) := bigSep_mono fun c _ => by
    show iprop(unscopedSems0 c ∗ owes (c : Thread nD τ) (0 : CellTallies nD τ sig Unit) ∅ ∗ Pipeline.launchCred (fun _ => 0) c ∗ prngReg c (ρ c) ∗ (BI.emp : sProp 𝕄))
      ⊢ (iprop(∃ W, owes (c : Thread nD τ) (0 : CellTallies nD τ sig Unit) W) : sProp 𝕄)
    iintro ⟨-, H, -⟩
    iexists ∅
    iexact H
  iapply h
  iexact H

theorem pre0 (c : Dev nD) : iprop(StableHlo.held (c : Thread nD τ) (Pipeline.ucRefs τ sig) (V1 m c) ∗ free (F := F) c) ⊢ (iprop(unscopedBufs c (fun b => V1 m c b) ∗ free (F := F) c) : sProp 𝕄) := by
  rw [Pipeline.unscopedBufs_held]
theorem post0 (c : Dev nD) : iprop(unscopedBufs c (fun b => V2 m (outs m) c b) ∗ free (F := F) c) ⊢ (iprop(StableHlo.held (c : Thread nD τ) (Pipeline.ucRefs τ sig) (V2 m (outs m) c) ∗ free (F := F) c) : sProp 𝕄) := by
  rw [Pipeline.unscopedBufs_held]
theorem pre1 (c : Dev nD) : iprop(StableHlo.held (c : Thread nD τ) (Pipeline.ucRefs τ sig) (V5 m (outs m) c) ∗ free (F := F) c) ⊢ (iprop(unscopedBufs c (fun b => V5 m (outs1 m) c b) ∗ free (F := F) c) : sProp 𝕄) := by
  rw [Pipeline.unscopedBufs_held, V5_outs]
theorem post1 (c : Dev nD) : iprop(unscopedBufs c (fun b => V6 m (outs m) c b) ∗ free (F := F) c) ⊢ (iprop(StableHlo.held (c : Thread nD τ) (Pipeline.ucRefs τ sig) (V6 m (outs m) c) ∗ free (F := F) c) : sProp 𝕄) := by
  rw [Pipeline.unscopedBufs_held]

set_option maxRecDepth 1824 in
set_option maxHeartbeats 2000000 in
set_option backward.isDefEq.respectTransparency.types false in
/-- THE RUN: every unscoped buffer of every core ends at the last contents, every semaphore at zero. -/
theorem run (ρ : Dev nD → PrngReg) :
    θ_run defs (onTc (τ := τ) (main (F := F))) ⟨m, fun _ => 0, ρ⟩ (fun r => (∀ c : Dev nD, ∀ b ∈ Pipeline.ucRefs τ sig, r.2.mem ((c : Thread nD τ).1, b) = V7 m (outs m) c b)
      ∧ r.2.sem = fun _ => 0) := by
  refine Pipeline.θ_run_regions_kit_dev_sems (pcfgs (F := F)) adm (pdats (at1 m) (at5 m)) () cellOf_inj EP defs₀ Variants.none L lv m ρ main
    (segs m (outs m) Variants.none L lv (fun _ c => free c) () (pdats (at1 m) (at5 m)) (R0 m) (R1 m))
    (fun c Q => by
      rewrite [main_chain c, Pipeline.Seg.run_eq_chain,
        show (segs m (outs m) Variants.none L lv (fun _ c => free c) () (pdats (at1 m) (at5 m)) (R0 m) (R1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) (fun g _ => rfl) (fun _ => BI.emp) u₀ fund
    (T₀ := fun c => iprop(StableHlo.held (c : Thread nD τ) (Pipeline.ucRefs τ sig) (V0 m c) ∗ free c))
    (Tₙ := fun c => StableHlo.held (c : Thread nD τ) (Pipeline.ucRefs τ sig) (V7 m (outs m) c))
    (hch := fun c => ⟨.rfl, pre0 m c, post0 m c, .rfl, .rfl, pre1 m c, post1 m c, .rfl⟩)
    (hinit := ?_) (QY := fun c s => ∀ b ∈ Pipeline.ucRefs τ sig, s.mem ((c : Thread nD τ).1, b) = V7 m (outs m) c b)
    (hfin := fun c s' => ?_) (hQ := fun _ h hz => ⟨h, funext fun g => hz g (.inr (regions_no_unscoped g.2))⟩)
  · -- the launch: the unscoped buffers are held at the first contents; nothing is owed
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start ρ) $$ [Hr Hla] with HE
    · isplitl [Hr]; · iexact Hr
      iexact Hla
    imodintro
    rw [bigSep_sep']
    isplitl [Hh]; · iexact Hh
    iexact HE
  · -- the end: every buffer read off the last contents
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact h
    · iexact HSI

end Cert.ProofBits

end
-- ==== Proof.Bits.Frame.lean ====
/-
  The whole program terminates, leaves its arguments as they were, and leaves every semaphore at zero.
-/
module

public import proofs.«01_k».proof.Proof.Bits.Run

@[expose] public section

set_option maxRecDepth 16384

noncomputable section

namespace Cert.ProofBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- An unscoped buffer is among those whose last contents the run states. -/
theorem final {s : (ℓ : Loc nD τ sig) → Buf (Elt F) ℓ} {c : Dev nD}
    (h : ∀ b ∈ Pipeline.ucRefs τ sig, s ((c : Thread nD τ).1, b) = V7 m (outs m) c b) (b : Ref sig .tc) (hb : b.isScoped = false) :
    s ((c.tc : Thread nD τ).loc b) = V7 m (outs m) c b :=
  h (Proc.devRef .tc b) (Finset.mem_filter.mpr ⟨StableHlo.devRef_mem_tcRefs b, by simp [hb]⟩)

/-- The arguments end as launched. -/
theorem kept {s : (ℓ : Loc nD τ sig) → Buf (Elt F) ℓ} {c : Dev nD}
    (h : ∀ b ∈ Pipeline.ucRefs τ sig, s ((c : Thread nD τ).1, b) = V7 m (outs m) c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4) :=
  ⟨(final m h main_arg0 rfl).trans (V7_main_arg0 m (outs m) c), (final m h main_arg1 rfl).trans (V7_main_arg1 m (outs m) c),
    (final m h main_arg2 rfl).trans (V7_main_arg2 m (outs m) c), (final m h main_arg3 rfl).trans (V7_main_arg3 m (outs m) c),
    (final m h main_arg4 rfl).trans (V7_main_arg4 m (outs m) c)⟩

/-- The frame: termination, arguments unchanged, semaphores at zero. -/
theorem framed (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => kept m (h.1 c), h.2⟩) (run m ρ)

end Cert.ProofBits

end
-- ==== Proof.Signs.lean ====
/-
  The signs of the Hadamard matrix, as integers: the sign at row `i` and column `k` is one minus twice the parity of the number
  of ones of `i &&& k`.  A sign at ten bits as the product of the sign at the two upper bits and the sign at the eight lower ones; and the 1024-point sum split into four 256-point sums.
-/
module

public import Idealize.ShloMosaic.PureOps
public import Mathlib.Data.EReal.Operations
public import Mathlib.Algebra.BigOperators.Fin
public import Mathlib.Algebra.BigOperators.Ring.Finset

@[expose] public section

set_option maxRecDepth 16384

noncomputable section

namespace Cert.Proof

open Idealize.ShloMosaic

/-- The word one minus twice the parity of the number of ones of a word. -/
def sgnWord (w : BitVec 32) : BitVec 32 := IntOp.subi 1#32 (IntOp.muli 2#32 (IntOp.andi (IntOp.ctpop w) 1#32))

/-- The sign of a number: one minus twice the parity of the number of its ones. -/
def sgn (n : ℕ) : ℤ := (sgnWord (BitVec.ofNat 32 n)).toInt

theorem sgn_split_fin : ∀ n : Fin 1024, sgn n.val = sgn (n.val / 256) * sgn (n.val % 256) := by decide +kernel

/-- A ten-bit sign from its two upper bits and its eight lower ones. -/
theorem sgn_split {n : ℕ} (h : n < 1024) : sgn n = sgn (n / 256) * sgn (n % 256) := sgn_split_fin ⟨n, h⟩

/-- The word of a bitwise and. -/
theorem and_word (i k : ℕ) : IntOp.andi (BitVec.ofNat 32 i) (BitVec.ofNat 32 k) = BitVec.ofNat 32 (i &&& k) := by
  apply BitVec.eq_of_toNat_eq
  show (BitVec.ofNat 32 i &&& BitVec.ofNat 32 k).toNat = _
  rw [BitVec.toNat_and, BitVec.toNat_ofNat, BitVec.toNat_ofNat, BitVec.toNat_ofNat, Nat.and_mod_two_pow]

/-- The sign at two ten-bit positions from the signs at their parts. -/
theorem sgn_and (a b i k : ℕ) (ha : a < 4) (hb : b < 4) (hi : i < 256) (hk : k < 256) :
    sgn ((i + 256 * a) &&& (256 * b + k)) = sgn (a &&& b) * sgn (i &&& k) := by
  have hlt : (i + 256 * a) &&& (256 * b + k) < 1024 := lt_of_le_of_lt Nat.and_le_left (by omega)
  rw [sgn_split hlt]
  have h1 : ((i + 256 * a) &&& (256 * b + k)) / 256 = a &&& b := by
    have := @Nat.and_div_two_pow (i + 256 * a) (256 * b + k) 8
    norm_num at this
    rw [this]
    congr 1 <;> omega
  have h2 : ((i + 256 * a) &&& (256 * b + k)) % 256 = i &&& k := by
    have := @Nat.and_mod_two_pow (i + 256 * a) (256 * b + k) 8
    norm_num at this
    rw [this]
    congr 1 <;> omega
  rw [h1, h2]

/-- The signs of a sum of four parts. -/
def coef (a b : Fin 4) : ℝ := (sgn (a.val &&& b.val) : ℝ)

theorem coef_int : (∀ b : Fin 4, sgn (0 &&& b.val) = 1) ∧ (∀ b : Fin 4, sgn (1 &&& b.val) = if b = 1 ∨ b = 3 then -1 else 1)
    ∧ (∀ b : Fin 4, sgn (2 &&& b.val) = if b = 2 ∨ b = 3 then -1 else 1)
    ∧ (∀ b : Fin 4, sgn (3 &&& b.val) = if b = 1 ∨ b = 2 then -1 else 1) := by decide +kernel

/-- Part `a`'s sum at column `k`. -/
def partSum (u : Fin 1024 → ℝ) (k : ℕ) (a : Fin 4) : ℝ :=
  ∑ i : Fin 256, u ⟨256 * a.val + i.val, by omega⟩ * (sgn (i.val &&& k) : ℝ)

/-- The 1024-point sum is the signed sum of the four parts' sums. -/
theorem sum_parts (u : Fin 1024 → ℝ) (b : Fin 4) (k : ℕ) (hk : k < 256) :
    ∑ i : Fin 1024, u i * (sgn (i.val &&& (256 * b.val + k)) : ℝ) = ∑ a : Fin 4, coef a b * partSum u k a := by
  rw [← Fintype.sum_equiv (finProdFinEquiv (m := 4) (n := 256)) (fun p => u (finProdFinEquiv p) * (sgn ((finProdFinEquiv p).val &&& (256 * b.val + k)) : ℝ))
    (fun i => u i * (sgn (i.val &&& (256 * b.val + k)) : ℝ)) (fun _ => rfl), Fintype.sum_prod_type]
  refine Finset.sum_congr rfl fun a _ => ?_
  unfold partSum coef
  rw [Finset.mul_sum]
  refine Finset.sum_congr rfl fun i _ => ?_
  have e : (finProdFinEquiv (m := 4) (n := 256) (a, i)).val = i.val + 256 * a.val := rfl
  rw [e, sgn_and a.val b.val i.val k a.isLt b.isLt i.isLt hk]
  have e2 : (finProdFinEquiv (m := 4) (n := 256) (a, i)) = (⟨256 * a.val + i.val, by omega⟩ : Fin 1024) := Fin.ext (e.trans (Nat.add_comm _ _))
  rw [e2]
  push_cast
  ring

end Cert.Proof

end
-- ==== Proof.HostIn.lean ====
/-
  What the host operations before the first region leave in the arrays the region reads: the activations as 256 rows, the signs as
  one row, and the 256-row Hadamard matrix beside its columns reordered.
-/
module

public import proofs.«01_k».proof.Proof.Run
public import proofs.«01_k».proof.Proof.Signs
public import Idealize.ShloMosaic.Lib.Pipeline.Value
public import Idealize.ShloMosaic.Lib.ValueIdx
public import Idealize.ShloMosaic.Lib.StableHlo.Run

@[expose] public section

set_option maxRecDepth 16384

noncomputable section

namespace Cert.Proof

open Cert.KernelIdeal Cert.KernelIdeal.Gen
open Idealize.ShloMosaic Idealize.ShloMosaic.StableHlo
open Idealize.ShloMosaic.TcCoe
open Idealize.SL.Sem
open Idealize.ShloMosaic.ValueIdx

variable {F : FTy → Type} [FloatOps F]

/-- The matrix beside its columns reordered, a table of 131072 words. -/
def hh : FVec F S256x512 .bf16 := fun i => FloatOps.ofBits .bf16 (lit0 (S256x512.rowMajor i))

variable (m : (ℓ : Loc nD τ sig) → Buf (Elt F) ℓ)

set_option maxHeartbeats 2000000 in
theorem at1_cst (c : Dev nD) : V1 m c main_cst = hh (F := F) := by
  unfold V1
  after_results_simp <;> rfl

set_option maxHeartbeats 2000000 in
theorem at1_v0 (c : Dev nD) : V1 m c main_v0 = shapeCast S256x12288 (m ((c : Thread nD τ).loc main_arg0)) shapeCasts_S2x128x12288_S256x12288 := by
  unfold V1
  after_results_simp <;> rfl

set_option maxHeartbeats 2000000 in
theorem at1_v4 (c : Dev nD) : V1 m c main_v4 = shapeCast S1x12288 (truncf .bf16 (sitofp .f32 (extsi 32 (m ((c : Thread nD τ).loc main_arg1)) natLt_8_32) : FVec F S12288 .f32) bitsLt_bf16_f32 : FVec F S12288 .bf16) shapeCasts_S12288_S1x12288 := by
  unfold V1
  after_results_simp <;> rfl

end Cert.Proof

end
-- ==== Proof.SignWord.lean ====
/-
  The words of the doubled 256-row matrix, by a formula: which column of the matrix stands at a column of the doubled one, and the
  bf16 word of a sign.
-/
module

public import proofs.«01_k».proof.KernelIdeal

@[expose] public section

set_option maxRecDepth 16384

noncomputable section

namespace Cert.Proof

open Cert.KernelIdeal
open Idealize.ShloMosaic

/-- Which column stands at place `j` of the reordered ones. -/
def evenOdd (j : ℕ) : ℕ := if j < 128 then 2 * j else 2 * (j - 128) + 1

theorem evenOdd_lt {j : ℕ} (h : j < 256) : evenOdd j < 256 := by unfold evenOdd; split <;> omega

/-- The column of the matrix that stands at column `n` of the doubled one. -/
def colOf (n : ℕ) : ℕ := if n < 256 then n else evenOdd (n - 256)

/-- Whether a number below 256 has an odd number of ones. -/
def odd8 (n : ℕ) : ℕ := (fun c => (c ^^^ (c >>> 1)) % 2) ((fun b => b ^^^ (b >>> 2)) (n ^^^ (n >>> 4)))

/-- The word of a sign: of one, or of minus one. -/
def signBits (n : ℕ) : BitVec 16 := if odd8 n = 0 then 0x3F80#16 else 0xBF80#16

end Cert.Proof

end
-- ==== Proof.Table.T0.lean ====
/-
  The printed table of the doubled 256-row matrix, rows 0 to 31: its words are the words of the signs.
-/
module

public import proofs.«01_k».proof.Proof.SignWord

@[expose] public section

set_option maxRecDepth 100000

noncomputable section

namespace Cert.Proof

open Cert.KernelIdeal
open Idealize.ShloMosaic

/-- Rows 0 to 3. -/
theorem rows0 : ∀ a : Fin 4, ∀ n : Fin 512, lit0t (512 * (4 * 0 + a.val) + n.val) = signBits ((4 * 0 + a.val) &&& colOf n.val) := by
  decide +kernel

/-- Rows 4 to 7. -/
theorem rows1 : ∀ a : Fin 4, ∀ n : Fin 512, lit0t (512 * (4 * 1 + a.val) + n.val) = signBits ((4 * 1 + a.val) &&& colOf n.val) := by
  decide +kernel

/-- Rows 8 to 11. -/
theorem rows2 : ∀ a : Fin 4, ∀ n : Fin 512, lit0t (512 * (4 * 2 + a.val) + n.val) = signBits ((4 * 2 + a.val) &&& colOf n.val) := by
  decide +kernel

/-- Rows 12 to 15. -/
theorem rows3 : ∀ a : Fin 4, ∀ n : Fin 512, lit0t (512 * (4 * 3 + a.val) + n.val) = signBits ((4 * 3 + a.val) &&& colOf n.val) := by
  decide +kernel

/-- Rows 16 to 19. -/
theorem rows4 : ∀ a : Fin 4, ∀ n : Fin 512, lit0t (512 * (4 * 4 + a.val) + n.val) = signBits ((4 * 4 + a.val) &&& colOf n.val) := by
  decide +kernel

/-- Rows 20 to 23. -/
theorem rows5 : ∀ a : Fin 4, ∀ n : Fin 512, lit0t (512 * (4 * 5 + a.val) + n.val) = signBits ((4 * 5 + a.val) &&& colOf n.val) := by
  decide +kernel

/-- Rows 24 to 27. -/
theorem rows6 : ∀ a : Fin 4, ∀ n : Fin 512, lit0t (512 * (4 * 6 + a.val) + n.val) = signBits ((4 * 6 + a.val) &&& colOf n.val) := by
  decide +kernel

/-- Rows 28 to 31. -/
theorem rows7 : ∀ a : Fin 4, ∀ n : Fin 512, lit0t (512 * (4 * 7 + a.val) + n.val) = signBits ((4 * 7 + a.val) &&& colOf n.val) := by
  decide +kernel

end Cert.Proof

end
-- ==== Proof.Table.T1.lean ====
/-
  The printed table of the doubled 256-row matrix, rows 32 to 63: its words are the words of the signs.
-/
module

public import proofs.«01_k».proof.Proof.SignWord

@[expose] public section

set_option maxRecDepth 100000

noncomputable section

namespace Cert.Proof

open Cert.KernelIdeal
open Idealize.ShloMosaic

/-- Rows 32 to 35. -/
theorem rows8 : ∀ a : Fin 4, ∀ n : Fin 512, lit0t (512 * (4 * 8 + a.val) + n.val) = signBits ((4 * 8 + a.val) &&& colOf n.val) := by
  decide +kernel

/-- Rows 36 to 39. -/
theorem rows9 : ∀ a : Fin 4, ∀ n : Fin 512, lit0t (512 * (4 * 9 + a.val) + n.val) = signBits ((4 * 9 + a.val) &&& colOf n.val) := by
  decide +kernel

/-- Rows 40 to 43. -/
theorem rows10 : ∀ a : Fin 4, ∀ n : Fin 512, lit0t (512 * (4 * 10 + a.val) + n.val) = signBits ((4 * 10 + a.val) &&& colOf n.val) := by
  decide +kernel

/-- Rows 44 to 47. -/
theorem rows11 : ∀ a : Fin 4, ∀ n : Fin 512, lit0t (512 * (4 * 11 + a.val) + n.val) = signBits ((4 * 11 + a.val) &&& colOf n.val) := by
  decide +kernel

/-- Rows 48 to 51. -/
theorem rows12 : ∀ a : Fin 4, ∀ n : Fin 512, lit0t (512 * (4 * 12 + a.val) + n.val) = signBits ((4 * 12 + a.val) &&& colOf n.val) := by
  decide +kernel

/-- Rows 52 to 55. -/
theorem rows13 : ∀ a : Fin 4, ∀ n : Fin 512, lit0t (512 * (4 * 13 + a.val) + n.val) = signBits ((4 * 13 + a.val) &&& colOf n.val) := by
  decide +kernel

/-- Rows 56 to 59. -/
theorem rows14 : ∀ a : Fin 4, ∀ n : Fin 512, lit0t (512 * (4 * 14 + a.val) + n.val) = signBits ((4 * 14 + a.val) &&& colOf n.val) := by
  decide +kernel

/-- Rows 60 to 63. -/
theorem rows15 : ∀ a : Fin 4, ∀ n : Fin 512, lit0t (512 * (4 * 15 + a.val) + n.val) = signBits ((4 * 15 + a.val) &&& colOf n.val) := by
  decide +kernel

end Cert.Proof

end
-- ==== Proof.Table.T2.lean ====
/-
  The printed table of the doubled 256-row matrix, rows 64 to 95: its words are the words of the signs.
-/
module

public import proofs.«01_k».proof.Proof.SignWord

@[expose] public section

set_option maxRecDepth 100000

noncomputable section

namespace Cert.Proof

open Cert.KernelIdeal
open Idealize.ShloMosaic

/-- Rows 64 to 67. -/
theorem rows16 : ∀ a : Fin 4, ∀ n : Fin 512, lit0t (512 * (4 * 16 + a.val) + n.val) = signBits ((4 * 16 + a.val) &&& colOf n.val) := by
  decide +kernel

/-- Rows 68 to 71. -/
theorem rows17 : ∀ a : Fin 4, ∀ n : Fin 512, lit0t (512 * (4 * 17 + a.val) + n.val) = signBits ((4 * 17 + a.val) &&& colOf n.val) := by
  decide +kernel

/-- Rows 72 to 75. -/
theorem rows18 : ∀ a : Fin 4, ∀ n : Fin 512, lit0t (512 * (4 * 18 + a.val) + n.val) = signBits ((4 * 18 + a.val) &&& colOf n.val) := by
  decide +kernel

/-- Rows 76 to 79. -/
theorem rows19 : ∀ a : Fin 4, ∀ n : Fin 512, lit0t (512 * (4 * 19 + a.val) + n.val) = signBits ((4 * 19 + a.val) &&& colOf n.val) := by
  decide +kernel

/-- Rows 80 to 83. -/
theorem rows20 : ∀ a : Fin 4, ∀ n : Fin 512, lit0t (512 * (4 * 20 + a.val) + n.val) = signBits ((4 * 20 + a.val) &&& colOf n.val) := by
  decide +kernel

/-- Rows 84 to 87. -/
theorem rows21 : ∀ a : Fin 4, ∀ n : Fin 512, lit0t (512 * (4 * 21 + a.val) + n.val) = signBits ((4 * 21 + a.val) &&& colOf n.val) := by
  decide +kernel

/-- Rows 88 to 91. -/
theorem rows22 : ∀ a : Fin 4, ∀ n : Fin 512, lit0t (512 * (4 * 22 + a.val) + n.val) = signBits ((4 * 22 + a.val) &&& colOf n.val) := by
  decide +kernel

/-- Rows 92 to 95. -/
theorem rows23 : ∀ a : Fin 4, ∀ n : Fin 512, lit0t (512 * (4 * 23 + a.val) + n.val) = signBits ((4 * 23 + a.val) &&& colOf n.val) := by
  decide +kernel

end Cert.Proof

end
-- ==== Proof.Table.T3.lean ====
/-
  The printed table of the doubled 256-row matrix, rows 96 to 127: its words are the words of the signs.
-/
module

public import proofs.«01_k».proof.Proof.SignWord

@[expose] public section

set_option maxRecDepth 100000

noncomputable section

namespace Cert.Proof

open Cert.KernelIdeal
open Idealize.ShloMosaic

/-- Rows 96 to 99. -/
theorem rows24 : ∀ a : Fin 4, ∀ n : Fin 512, lit0t (512 * (4 * 24 + a.val) + n.val) = signBits ((4 * 24 + a.val) &&& colOf n.val) := by
  decide +kernel

/-- Rows 100 to 103. -/
theorem rows25 : ∀ a : Fin 4, ∀ n : Fin 512, lit0t (512 * (4 * 25 + a.val) + n.val) = signBits ((4 * 25 + a.val) &&& colOf n.val) := by
  decide +kernel

/-- Rows 104 to 107. -/
theorem rows26 : ∀ a : Fin 4, ∀ n : Fin 512, lit0t (512 * (4 * 26 + a.val) + n.val) = signBits ((4 * 26 + a.val) &&& colOf n.val) := by
  decide +kernel

/-- Rows 108 to 111. -/
theorem rows27 : ∀ a : Fin 4, ∀ n : Fin 512, lit0t (512 * (4 * 27 + a.val) + n.val) = signBits ((4 * 27 + a.val) &&& colOf n.val) := by
  decide +kernel

/-- Rows 112 to 115. -/
theorem rows28 : ∀ a : Fin 4, ∀ n : Fin 512, lit0t (512 * (4 * 28 + a.val) + n.val) = signBits ((4 * 28 + a.val) &&& colOf n.val) := by
  decide +kernel

/-- Rows 116 to 119. -/
theorem rows29 : ∀ a : Fin 4, ∀ n : Fin 512, lit0t (512 * (4 * 29 + a.val) + n.val) = signBits ((4 * 29 + a.val) &&& colOf n.val) := by
  decide +kernel

/-- Rows 120 to 123. -/
theorem rows30 : ∀ a : Fin 4, ∀ n : Fin 512, lit0t (512 * (4 * 30 + a.val) + n.val) = signBits ((4 * 30 + a.val) &&& colOf n.val) := by
  decide +kernel

/-- Rows 124 to 127. -/
theorem rows31 : ∀ a : Fin 4, ∀ n : Fin 512, lit0t (512 * (4 * 31 + a.val) + n.val) = signBits ((4 * 31 + a.val) &&& colOf n.val) := by
  decide +kernel

end Cert.Proof

end
-- ==== Proof.Table.T4.lean ====
/-
  The printed table of the doubled 256-row matrix, rows 128 to 159: its words are the words of the signs.
-/
module

public import proofs.«01_k».proof.Proof.SignWord

@[expose] public section

set_option maxRecDepth 100000

noncomputable section

namespace Cert.Proof

open Cert.KernelIdeal
open Idealize.ShloMosaic

/-- Rows 128 to 131. -/
theorem rows32 : ∀ a : Fin 4, ∀ n : Fin 512, lit0t (512 * (4 * 32 + a.val) + n.val) = signBits ((4 * 32 + a.val) &&& colOf n.val) := by
  decide +kernel

/-- Rows 132 to 135. -/
theorem rows33 : ∀ a : Fin 4, ∀ n : Fin 512, lit0t (512 * (4 * 33 + a.val) + n.val) = signBits ((4 * 33 + a.val) &&& colOf n.val) := by
  decide +kernel

/-- Rows 136 to 139. -/
theorem rows34 : ∀ a : Fin 4, ∀ n : Fin 512, lit0t (512 * (4 * 34 + a.val) + n.val) = signBits ((4 * 34 + a.val) &&& colOf n.val) := by
  decide +kernel

/-- Rows 140 to 143. -/
theorem rows35 : ∀ a : Fin 4, ∀ n : Fin 512, lit0t (512 * (4 * 35 + a.val) + n.val) = signBits ((4 * 35 + a.val) &&& colOf n.val) := by
  decide +kernel

/-- Rows 144 to 147. -/
theorem rows36 : ∀ a : Fin 4, ∀ n : Fin 512, lit0t (512 * (4 * 36 + a.val) + n.val) = signBits ((4 * 36 + a.val) &&& colOf n.val) := by
  decide +kernel

/-- Rows 148 to 151. -/
theorem rows37 : ∀ a : Fin 4, ∀ n : Fin 512, lit0t (512 * (4 * 37 + a.val) + n.val) = signBits ((4 * 37 + a.val) &&& colOf n.val) := by
  decide +kernel

/-- Rows 152 to 155. -/
theorem rows38 : ∀ a : Fin 4, ∀ n : Fin 512, lit0t (512 * (4 * 38 + a.val) + n.val) = signBits ((4 * 38 + a.val) &&& colOf n.val) := by
  decide +kernel

/-- Rows 156 to 159. -/
theorem rows39 : ∀ a : Fin 4, ∀ n : Fin 512, lit0t (512 * (4 * 39 + a.val) + n.val) = signBits ((4 * 39 + a.val) &&& colOf n.val) := by
  decide +kernel

end Cert.Proof

end
-- ==== Proof.Table.T5.lean ====
/-
  The printed table of the doubled 256-row matrix, rows 160 to 191: its words are the words of the signs.
-/
module

public import proofs.«01_k».proof.Proof.SignWord

@[expose] public section

set_option maxRecDepth 100000

noncomputable section

namespace Cert.Proof

open Cert.KernelIdeal
open Idealize.ShloMosaic

/-- Rows 160 to 163. -/
theorem rows40 : ∀ a : Fin 4, ∀ n : Fin 512, lit0t (512 * (4 * 40 + a.val) + n.val) = signBits ((4 * 40 + a.val) &&& colOf n.val) := by
  decide +kernel

/-- Rows 164 to 167. -/
theorem rows41 : ∀ a : Fin 4, ∀ n : Fin 512, lit0t (512 * (4 * 41 + a.val) + n.val) = signBits ((4 * 41 + a.val) &&& colOf n.val) := by
  decide +kernel

/-- Rows 168 to 171. -/
theorem rows42 : ∀ a : Fin 4, ∀ n : Fin 512, lit0t (512 * (4 * 42 + a.val) + n.val) = signBits ((4 * 42 + a.val) &&& colOf n.val) := by
  decide +kernel

/-- Rows 172 to 175. -/
theorem rows43 : ∀ a : Fin 4, ∀ n : Fin 512, lit0t (512 * (4 * 43 + a.val) + n.val) = signBits ((4 * 43 + a.val) &&& colOf n.val) := by
  decide +kernel

/-- Rows 176 to 179. -/
theorem rows44 : ∀ a : Fin 4, ∀ n : Fin 512, lit0t (512 * (4 * 44 + a.val) + n.val) = signBits ((4 * 44 + a.val) &&& colOf n.val) := by
  decide +kernel

/-- Rows 180 to 183. -/
theorem rows45 : ∀ a : Fin 4, ∀ n : Fin 512, lit0t (512 * (4 * 45 + a.val) + n.val) = signBits ((4 * 45 + a.val) &&& colOf n.val) := by
  decide +kernel

/-- Rows 184 to 187. -/
theorem rows46 : ∀ a : Fin 4, ∀ n : Fin 512, lit0t (512 * (4 * 46 + a.val) + n.val) = signBits ((4 * 46 + a.val) &&& colOf n.val) := by
  decide +kernel

/-- Rows 188 to 191. -/
theorem rows47 : ∀ a : Fin 4, ∀ n : Fin 512, lit0t (512 * (4 * 47 + a.val) + n.val) = signBits ((4 * 47 + a.val) &&& colOf n.val) := by
  decide +kernel

end Cert.Proof

end
-- ==== Proof.Table.T6.lean ====
/-
  The printed table of the doubled 256-row matrix, rows 192 to 223: its words are the words of the signs.
-/
module

public import proofs.«01_k».proof.Proof.SignWord

@[expose] public section

set_option maxRecDepth 100000

noncomputable section

namespace Cert.Proof

open Cert.KernelIdeal
open Idealize.ShloMosaic

/-- Rows 192 to 195. -/
theorem rows48 : ∀ a : Fin 4, ∀ n : Fin 512, lit0t (512 * (4 * 48 + a.val) + n.val) = signBits ((4 * 48 + a.val) &&& colOf n.val) := by
  decide +kernel

/-- Rows 196 to 199. -/
theorem rows49 : ∀ a : Fin 4, ∀ n : Fin 512, lit0t (512 * (4 * 49 + a.val) + n.val) = signBits ((4 * 49 + a.val) &&& colOf n.val) := by
  decide +kernel

/-- Rows 200 to 203. -/
theorem rows50 : ∀ a : Fin 4, ∀ n : Fin 512, lit0t (512 * (4 * 50 + a.val) + n.val) = signBits ((4 * 50 + a.val) &&& colOf n.val) := by
  decide +kernel

/-- Rows 204 to 207. -/
theorem rows51 : ∀ a : Fin 4, ∀ n : Fin 512, lit0t (512 * (4 * 51 + a.val) + n.val) = signBits ((4 * 51 + a.val) &&& colOf n.val) := by
  decide +kernel

/-- Rows 208 to 211. -/
theorem rows52 : ∀ a : Fin 4, ∀ n : Fin 512, lit0t (512 * (4 * 52 + a.val) + n.val) = signBits ((4 * 52 + a.val) &&& colOf n.val) := by
  decide +kernel

/-- Rows 212 to 215. -/
theorem rows53 : ∀ a : Fin 4, ∀ n : Fin 512, lit0t (512 * (4 * 53 + a.val) + n.val) = signBits ((4 * 53 + a.val) &&& colOf n.val) := by
  decide +kernel

/-- Rows 216 to 219. -/
theorem rows54 : ∀ a : Fin 4, ∀ n : Fin 512, lit0t (512 * (4 * 54 + a.val) + n.val) = signBits ((4 * 54 + a.val) &&& colOf n.val) := by
  decide +kernel

/-- Rows 220 to 223. -/
theorem rows55 : ∀ a : Fin 4, ∀ n : Fin 512, lit0t (512 * (4 * 55 + a.val) + n.val) = signBits ((4 * 55 + a.val) &&& colOf n.val) := by
  decide +kernel

end Cert.Proof

end
-- ==== Proof.Table.T7.lean ====
/-
  The printed table of the doubled 256-row matrix, rows 224 to 255: its words are the words of the signs.
-/
module

public import proofs.«01_k».proof.Proof.SignWord

@[expose] public section

set_option maxRecDepth 100000

noncomputable section

namespace Cert.Proof

open Cert.KernelIdeal
open Idealize.ShloMosaic

/-- Rows 224 to 227. -/
theorem rows56 : ∀ a : Fin 4, ∀ n : Fin 512, lit0t (512 * (4 * 56 + a.val) + n.val) = signBits ((4 * 56 + a.val) &&& colOf n.val) := by
  decide +kernel

/-- Rows 228 to 231. -/
theorem rows57 : ∀ a : Fin 4, ∀ n : Fin 512, lit0t (512 * (4 * 57 + a.val) + n.val) = signBits ((4 * 57 + a.val) &&& colOf n.val) := by
  decide +kernel

/-- Rows 232 to 235. -/
theorem rows58 : ∀ a : Fin 4, ∀ n : Fin 512, lit0t (512 * (4 * 58 + a.val) + n.val) = signBits ((4 * 58 + a.val) &&& colOf n.val) := by
  decide +kernel

/-- Rows 236 to 239. -/
theorem rows59 : ∀ a : Fin 4, ∀ n : Fin 512, lit0t (512 * (4 * 59 + a.val) + n.val) = signBits ((4 * 59 + a.val) &&& colOf n.val) := by
  decide +kernel

/-- Rows 240 to 243. -/
theorem rows60 : ∀ a : Fin 4, ∀ n : Fin 512, lit0t (512 * (4 * 60 + a.val) + n.val) = signBits ((4 * 60 + a.val) &&& colOf n.val) := by
  decide +kernel

/-- Rows 244 to 247. -/
theorem rows61 : ∀ a : Fin 4, ∀ n : Fin 512, lit0t (512 * (4 * 61 + a.val) + n.val) = signBits ((4 * 61 + a.val) &&& colOf n.val) := by
  decide +kernel

/-- Rows 248 to 251. -/
theorem rows62 : ∀ a : Fin 4, ∀ n : Fin 512, lit0t (512 * (4 * 62 + a.val) + n.val) = signBits ((4 * 62 + a.val) &&& colOf n.val) := by
  decide +kernel

/-- Rows 252 to 255. -/
theorem rows63 : ∀ a : Fin 4, ∀ n : Fin 512, lit0t (512 * (4 * 63 + a.val) + n.val) = signBits ((4 * 63 + a.val) &&& colOf n.val) := by
  decide +kernel

end Cert.Proof

end
-- ==== Proof.Matrix.lean ====
/-
  The 256-row matrix read at an index, over the extended reals: the sign of the bitwise and of the row and the column, the second
  256 columns being the first ones in the order even, then odd.
-/
module

public import proofs.«01_k».proof.Proof.HostIn
public import proofs.«01_k».proof.Proof.Table.T0
public import proofs.«01_k».proof.Proof.Table.T1
public import proofs.«01_k».proof.Proof.Table.T2
public import proofs.«01_k».proof.Proof.Table.T3
public import proofs.«01_k».proof.Proof.Table.T4
public import proofs.«01_k».proof.Proof.Table.T5
public import proofs.«01_k».proof.Proof.Table.T6
public import proofs.«01_k».proof.Proof.Table.T7
public import Idealize.ShloMosaic.Lib.Pointwise

@[expose] public section

set_option maxRecDepth 16384

noncomputable section

namespace Cert.Proof

open Cert.KernelIdeal Cert.KernelIdeal.Gen
open Idealize.ShloMosaic

/-- The sign, by that. -/
theorem sgn_odd : ∀ n : Fin 256, sgn n.val = if odd8 n.val = 0 then 1 else -1 := by decide +kernel

/-- The table's words are the words of the signs, by groups of four rows. -/
theorem table_rows : ∀ q : ℕ, q < 64 → ∀ a : Fin 4, ∀ n : Fin 512,
    lit0t (512 * (4 * q + a.val) + n.val) = signBits ((4 * q + a.val) &&& colOf n.val)
  | 0, _ => rows0
  | 1, _ => rows1
  | 2, _ => rows2
  | 3, _ => rows3
  | 4, _ => rows4
  | 5, _ => rows5
  | 6, _ => rows6
  | 7, _ => rows7
  | 8, _ => rows8
  | 9, _ => rows9
  | 10, _ => rows10
  | 11, _ => rows11
  | 12, _ => rows12
  | 13, _ => rows13
  | 14, _ => rows14
  | 15, _ => rows15
  | 16, _ => rows16
  | 17, _ => rows17
  | 18, _ => rows18
  | 19, _ => rows19
  | 20, _ => rows20
  | 21, _ => rows21
  | 22, _ => rows22
  | 23, _ => rows23
  | 24, _ => rows24
  | 25, _ => rows25
  | 26, _ => rows26
  | 27, _ => rows27
  | 28, _ => rows28
  | 29, _ => rows29
  | 30, _ => rows30
  | 31, _ => rows31
  | 32, _ => rows32
  | 33, _ => rows33
  | 34, _ => rows34
  | 35, _ => rows35
  | 36, _ => rows36
  | 37, _ => rows37
  | 38, _ => rows38
  | 39, _ => rows39
  | 40, _ => rows40
  | 41, _ => rows41
  | 42, _ => rows42
  | 43, _ => rows43
  | 44, _ => rows44
  | 45, _ => rows45
  | 46, _ => rows46
  | 47, _ => rows47
  | 48, _ => rows48
  | 49, _ => rows49
  | 50, _ => rows50
  | 51, _ => rows51
  | 52, _ => rows52
  | 53, _ => rows53
  | 54, _ => rows54
  | 55, _ => rows55
  | 56, _ => rows56
  | 57, _ => rows57
  | 58, _ => rows58
  | 59, _ => rows59
  | 60, _ => rows60
  | 61, _ => rows61
  | 62, _ => rows62
  | 63, _ => rows63
  | q + 64, h => absurd h (by omega)

/-- The table's words are the words of the signs. -/
theorem table_words (k : Fin 256) (n : Fin 512) : lit0t (512 * k.val + n.val) = signBits (k.val &&& colOf n.val) := by
  have hk := k.isLt
  have e : 4 * (k.val / 4) + k.val % 4 = k.val := Nat.div_add_mod _ 4
  have r := table_rows (k.val / 4) (by omega) ⟨k.val % 4, by omega⟩ n
  exact (congrArg (fun w => lit0t (512 * w + n.val) = signBits (w &&& colOf n.val)) e).mp r

/-- The table at an index below its length. -/
theorem lit0_apply (i : Fin 131072) : lit0 i = lit0t i.val := by cases i; rfl

/-- The value of a sign's word. -/
theorem ofBits_signBits {n : ℕ} (h : n < 256) : Ideal.ofBits .bf16 (signBits n) = (((sgn n : ℤ) : ℝ) : EReal) := by
  rw [sgn_odd ⟨n, h⟩]
  unfold signBits
  split
  · simp [Ideal.ofBits, Ideal.ieee]; rw [← EReal.coe_mul]; norm_num
  · simp [Ideal.ofBits, Ideal.ieee]; rw [← EReal.coe_mul]; norm_num

/-- The doubled matrix at an index. -/
theorem hh_apply (k : Fin 256) (n : Fin 512) :
    hh (F := Ideal) (ix2 (n0 := 256) (n1 := 512) k n) = (((sgn (k.val &&& colOf n.val) : ℤ) : ℝ) : EReal) := by
  have e : (S256x512.rowMajor (ix2 (n0 := 256) (n1 := 512) k n)).val = 512 * k.val + n.val := by
    rw [Shape.rowMajor_val_two]
    show k.val * 512 + n.val = 512 * k.val + n.val
    omega
  exact (congrArg (Ideal.ofBits .bf16) (((lit0_apply _).trans (congrArg lit0t e)).trans (table_words k n))).trans
    (ofBits_signBits (lt_of_le_of_lt Nat.and_le_left k.isLt))

end Cert.Proof

end
-- ==== Proof.Rotation.lean ====
/-
  The rotating kernel's block over the extended reals, when the signed block is real: each column in order is the 1024-point sum of
  the signed row against the signs of that column, scaled; each column of the reordered block is the one of its even or odd place.
-/
module

public import proofs.«01_k».proof.Proof.Matrix
public import Idealize.ShloMosaic.Lib.MatmulPlain

@[expose] public section

set_option maxRecDepth 16384

noncomputable section

namespace Cert.Proof.Rot

open Cert.KernelIdeal Cert.KernelIdeal.Gen
open Idealize.ShloMosaic

/-- The scale one over thirty-two, as its bits. -/
abbrev norm : EReal := Ideal.ofBits .f32 0x3D000000#32

/-- The 1024-point transform of a real row at a column, before scaling. -/
def transform (u : Fin 1024 → ℝ) (k : ℕ) : ℝ := ∑ i : Fin 1024, u i * (sgn (i.val &&& k) : ℝ)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A part of 256 columns times the matrix, at an index. -/
theorem part_apply (h : S256x512.Idx → Ideal .bf16) (v : FVec Ideal S256x256 .bf16) (r : Fin 256) (n : Fin 512) :
    part h v (ix2 (n0 := 256) (n1 := 512) r n) = ∑ k : Fin 256, v (ix2 (n0 := 256) (n1 := 256) r k) * h (ix2 (n0 := 256) (n1 := 512) k n) := by
  unfold part
  refine (Ideal.matmul_plain_apply (M := 256) (K := 256) (N := 512) none v h (constant S256x512 .f32 0x00000000#32) r n).trans ?_
  show Ideal.ofBits .f32 0x00000000#32 + _ = _
  rw [Ideal.ofBits_zero_f32, zero_add]
  rfl

variable (x : S256x1024.Idx → Ideal .bf16) (s : S1x1024.Idx → Ideal .bf16) (r : Fin 256) (u : Fin 1024 → ℝ)

/-- A part times the matrix, when the row is real. -/
theorem part_real (v : FVec Ideal S256x256 .bf16) (a : Fin 4)
    (hv : ∀ k : Fin 256, v (ix2 (n0 := 256) (n1 := 256) r k) = ((u ⟨256 * a.val + k.val, by omega⟩ : ℝ) : EReal)) (n : Fin 512) :
    part (hh (F := Ideal)) v (ix2 (n0 := 256) (n1 := 512) r n) = ((partSum u (colOf n.val) a : ℝ) : EReal) := by
  rw [part_apply]
  unfold partSum
  rw [coe_sum]
  refine Finset.sum_congr rfl fun k _ => ?_
  rw [hv, hh_apply, EReal.coe_mul]

variable (hx : ∀ i : Fin 1024, signed x s (ix2 (n0 := 256) (n1 := 1024) r i) = ((u i : ℝ) : EReal))
include hx

theorem part0_real (n : Fin 512) : part0 x s (hh (F := Ideal)) (ix2 (n0 := 256) (n1 := 512) r n) = ((partSum u (colOf n.val) 0 : ℝ) : EReal) :=
  part_real r u _ 0 (fun k => (extractStridedSlice_apply _ _ _ _ (ix2 (n0 := 256) (n1 := 1024) r ⟨256 * (0 : Fin 4).val + k.val, by omega⟩)
    (fun a => by match a with | ⟨0, _⟩ => exact (Nat.zero_add _).symm | ⟨1, _⟩ => rfl)).trans (hx _)) n
theorem part1_real (n : Fin 512) : part1 x s (hh (F := Ideal)) (ix2 (n0 := 256) (n1 := 512) r n) = ((partSum u (colOf n.val) 1 : ℝ) : EReal) :=
  part_real r u _ 1 (fun k => (extractStridedSlice_apply _ _ _ _ (ix2 (n0 := 256) (n1 := 1024) r ⟨256 * (1 : Fin 4).val + k.val, by omega⟩)
    (fun a => by match a with | ⟨0, _⟩ => exact (Nat.zero_add _).symm | ⟨1, _⟩ => rfl)).trans (hx _)) n
theorem part2_real (n : Fin 512) : part2 x s (hh (F := Ideal)) (ix2 (n0 := 256) (n1 := 512) r n) = ((partSum u (colOf n.val) 2 : ℝ) : EReal) :=
  part_real r u _ 2 (fun k => (extractStridedSlice_apply _ _ _ _ (ix2 (n0 := 256) (n1 := 1024) r ⟨256 * (2 : Fin 4).val + k.val, by omega⟩)
    (fun a => by match a with | ⟨0, _⟩ => exact (Nat.zero_add _).symm | ⟨1, _⟩ => rfl)).trans (hx _)) n
theorem part3_real (n : Fin 512) : part3 x s (hh (F := Ideal)) (ix2 (n0 := 256) (n1 := 512) r n) = ((partSum u (colOf n.val) 3 : ℝ) : EReal) :=
  part_real r u _ 3 (fun k => (extractStridedSlice_apply _ _ _ _ (ix2 (n0 := 256) (n1 := 1024) r ⟨256 * (3 : Fin 4).val + k.val, by omega⟩)
    (fun a => by match a with | ⟨0, _⟩ => exact (Nat.zero_add _).symm | ⟨1, _⟩ => rfl)).trans (hx _)) n

theorem colOf_lt (n : Fin 512) : colOf n.val < 256 := by
  unfold colOf; split
  · assumption
  · exact evenOdd_lt (by omega)

/-- The combined parts are the whole transform. -/
theorem combined_real (b : Fin 4) (n : Fin 512) :
    combined x s (hh (F := Ideal)) b (ix2 (n0 := 256) (n1 := 512) r n) = ((transform u (256 * b.val + colOf n.val) : ℝ) : EReal) := by
  unfold transform
  rw [sum_parts u b _ (colOf_lt x s r u hx n), Fin.sum_univ_four]
  have p0 := part0_real x s r u hx n
  have p1 := part1_real x s r u hx n
  have p2 := part2_real x s r u hx n
  have p3 := part3_real x s r u hx n
  have c0 := coef_int.1 b
  have c1 := coef_int.2.1 b
  have c2 := coef_int.2.2.1 b
  have c3 := coef_int.2.2.2 b
  have k0 : coef 0 b = 1 := by unfold coef; exact_mod_cast c0
  have k1 : coef 1 b = if b = 1 ∨ b = 3 then -1 else 1 := by
    unfold coef; rw [show (((1 : Fin 4).val &&& b.val) : ℕ) = 1 &&& b.val from rfl, c1]; split <;> simp
  have k2 : coef 2 b = if b = 2 ∨ b = 3 then -1 else 1 := by
    unfold coef; rw [show (((2 : Fin 4).val &&& b.val) : ℕ) = 2 &&& b.val from rfl, c2]; split <;> simp
  have k3 : coef 3 b = if b = 1 ∨ b = 2 then -1 else 1 := by
    unfold coef; rw [show (((3 : Fin 4).val &&& b.val) : ℕ) = 3 &&& b.val from rfl, c3]; split <;> simp
  rw [k0, k1, k2, k3]
  generalize partSum u (colOf n.val) 0 = q0 at p0 ⊢
  generalize partSum u (colOf n.val) 1 = q1 at p1 ⊢
  generalize partSum u (colOf n.val) 2 = q2 at p2 ⊢
  generalize partSum u (colOf n.val) 3 = q3 at p3 ⊢
  match b with
  | 0 =>
    show (part0 x s hh _ + part1 x s hh _) + (part2 x s hh _ + part3 x s hh _) = _
    rw [p0, p1, p2, p3]; simp only [← EReal.coe_add, ← EReal.coe_sub]; refine congrArg Real.toEReal ?_
    rw [if_neg (by decide), if_neg (by decide), if_neg (by decide)]; ring
  | 1 =>
    show (part0 x s hh _ - part1 x s hh _) + (part2 x s hh _ - part3 x s hh _) = _
    rw [p0, p1, p2, p3]; simp only [← EReal.coe_add, ← EReal.coe_sub]; refine congrArg Real.toEReal ?_
    rw [if_pos (by decide), if_neg (by decide), if_pos (by decide)]; ring
  | 2 =>
    show (part0 x s hh _ + part1 x s hh _) - (part2 x s hh _ + part3 x s hh _) = _
    rw [p0, p1, p2, p3]; simp only [← EReal.coe_add, ← EReal.coe_sub]; refine congrArg Real.toEReal ?_
    rw [if_neg (by decide), if_pos (by decide), if_pos (by decide)]; ring
  | 3 =>
    show (part0 x s hh _ - part1 x s hh _) - (part2 x s hh _ - part3 x s hh _) = _
    rw [p0, p1, p2, p3]; simp only [← EReal.coe_add, ← EReal.coe_sub]; refine congrArg Real.toEReal ?_
    rw [if_pos (by decide), if_pos (by decide), if_neg (by decide)]; ring

theorem scaled_real (b : Fin 4) (n : Fin 512) :
    scaled x s (hh (F := Ideal)) b (ix2 (n0 := 256) (n1 := 512) r n) = ((transform u (256 * b.val + colOf n.val) : ℝ) : EReal) * norm := by
  show combined x s hh b _ * norm = _
  rw [combined_real x s r u hx]

/-- The block with its columns in order. -/
theorem ordered_real (y : Fin 1024) : ordered x s (hh (F := Ideal)) (ix2 (n0 := 256) (n1 := 1024) r y) = ((transform u y.val : ℝ) : EReal) * norm := by
  unfold ordered
  refine (scaled_real x s r u hx ⟨y.val / 256, by omega⟩ ⟨y.val % 256, by omega⟩).trans ?_
  have : 256 * (y.val / 256) + colOf (y.val % 256) = y.val := by unfold colOf; rw [if_pos (by omega)]; omega
  rw [this]

/-- The block with the even columns of each part before the odd ones. -/
theorem permuted_real (y : Fin 1024) : permuted x s (hh (F := Ideal)) (ix2 (n0 := 256) (n1 := 1024) r y)
    = ((transform u (256 * (y.val / 256) + evenOdd (y.val % 256)) : ℝ) : EReal) * norm := by
  unfold permuted
  refine (scaled_real x s r u hx ⟨y.val / 256, by omega⟩ ⟨256 + y.val % 256, by omega⟩).trans ?_
  have : colOf (256 + y.val % 256) = evenOdd (y.val % 256) := by
    unfold colOf; rw [if_neg (by omega)]; congr 1; omega
  rw [this]

end Cert.Proof.Rot

end
-- ==== Proof.Spec.lean ====
/-
  The rotation as a function of the arguments, over the extended reals: each group of 1024 entries of a row, multiplied by its
  signs, transformed by the Hadamard signs and scaled.
-/
module

public import proofs.«01_k».proof.Proof.Rotation

@[expose] public section

noncomputable section

namespace Cert.Proof

open Idealize.ShloMosaic

/-- An array of activations, and one of signs. -/
abbrev Acts : Type := (⟨3, ![2, 128, 12288]⟩ : Shape).Idx → EReal
abbrev Signs : Type := (⟨1, ![12288]⟩ : Shape).Idx → BitVec 8

variable (X : Acts) (sg : Signs)

/-- Entry `col` of row `r`, the rows of both batches counted together. -/
def act (r : Fin 256) (col : Fin 12288) : EReal := X (ix3 (n0 := 2) (n1 := 128) (n2 := 12288) ⟨r.val / 128, by omega⟩ ⟨r.val % 128, by omega⟩ col)

/-- The sign of column `col`, as an integer. -/
def sign (col : Fin 12288) : ℤ := ((sg (ix1 (n0 := 12288) col)).signExtend 32).toInt

/-- Column `i` of group `g`. -/
abbrev col (g : Fin 12) (i : Fin 1024) : Fin 12288 := ⟨1024 * g.val + i.val, by omega⟩

/-- Group `g` of row `r`, multiplied by the signs. -/
def signedRow (r : Fin 256) (g : Fin 12) (i : Fin 1024) : ℝ := (act X r (col g i)).toReal * ((sign sg (col g i) : ℤ) : ℝ)

/-- The rotated entry `k` of group `g` of row `r`. -/
def rot (r : Fin 256) (g : Fin 12) (k : ℕ) : EReal := ((Rot.transform (signedRow X sg r g) k : ℝ) : EReal) * Rot.norm

/-- Every activation is a real number. -/
def AllReal : Prop := ∀ i, X i = ((X i).toReal : EReal)

/-- A signed entry, when the activations are real. -/
theorem signed_entry (h : AllReal X) (r : Fin 256) (g : Fin 12) (i : Fin 1024) :
    act X r (col g i) * (((sign sg (col g i) : ℤ) : ℝ) : EReal) = ((signedRow X sg r g i : ℝ) : EReal) := by
  unfold signedRow
  rw [EReal.coe_mul, show ((act X r (col g i)).toReal : EReal) = act X r (col g i) from (h _).symm]

end Cert.Proof

end
-- ==== Proof.SpecY.lean ====
/-
  The linear layer both programs compute, over the extended reals: each decoded weight is a value of the codebook times a scale,
  and each result a sum over groups, pairs and the two elements of a pair.
-/
module

public import proofs.«01_k».proof.Proof.Spec
public import Idealize.ShloMosaic.PureOps.Ideal

@[expose] public section

set_option maxRecDepth 16384

noncomputable section

namespace Cert.Proof

open Idealize.ShloMosaic

/-- The codebook's bits, the codes and the scales' bits. -/
abbrev Book : Type := (⟨2, ![256, 2]⟩ : Shape).Idx → BitVec 16
abbrev Codes : Type := (⟨2, ![4096, 6144]⟩ : Shape).Idx → BitVec 8
abbrev Scales : Type := (⟨2, ![4096, 12]⟩ : Shape).Idx → BitVec 16

variable (X : Acts) (sg : Signs) (bk : Book) (cd : Codes) (sc : Scales)

/-- Pair `i` of group `g`, among all the pairs of a row. -/
abbrev pairCol (g : Fin 12) (i : Fin 512) : Fin 6144 := ⟨512 * g.val + i.val, by omega⟩

/-- The weight of row `n` at element `p` of pair `i` of group `g`. -/
def value (n : Fin 4096) (g : Fin 12) (i : Fin 512) (p : Fin 2) : EReal :=
  Ideal.ofBits .bf16 (bk (ix2 (n0 := 256) (n1 := 2) ⟨(cd (ix2 (n0 := 4096) (n1 := 6144) n (pairCol g i))).toNat, (cd (ix2 (n0 := 4096) (n1 := 6144) n (pairCol g i))).isLt⟩ p))
    * Ideal.ofBits .bf16 (sc (ix2 (n0 := 4096) (n1 := 12) n g))

/-- One group's part of a result. -/
def groupSum (r : Fin 256) (n : Fin 4096) (g : Fin 12) : EReal :=
  ∑ i : Fin 512, ∑ p : Fin 2, rot X sg r g (2 * i.val + p.val) * value bk cd sc n g i p

/-- A result of the layer. -/
def lin (r : Fin 256) (n : Fin 4096) : EReal := ∑ g : Fin 12, groupSum X sg bk cd sc r n g

end Cert.Proof

end
-- ==== Proof.KerRot.lean ====
/-
  The two results of the rotating kernel's region, whole, over the extended reals: the rotation with the columns in order, and with
  the even columns of each 256 before the odd ones.
-/
module

public import proofs.«01_k».proof.Proof.Spec
public import proofs.«01_k».proof.Proof.Run

@[expose] public section

set_option maxRecDepth 16384

noncomputable section

namespace Cert.Proof.Rot

open Cert.KernelIdeal Cert.KernelIdeal.Gen
open Idealize.ShloMosaic
open Idealize.ShloMosaic.TcCoe
open Idealize.SL.Sem

variable (m : (ℓ : Loc nD τ sig) → Buf (Elt Ideal) ℓ) (c : Dev nD)

/-- The activations and the signs the run starts from. -/
abbrev X : Acts := m ((c : Thread nD τ).loc main_arg0)
abbrev sg : Signs := m ((c : Thread nD τ).loc main_arg1)

theorem index0 : ∀ t : Fin cfg0.N, win0_0.index t 0 = 0 ∧ win0_0.index t 1 = t.val := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = t.val := by decide +kernel
theorem index4 : ∀ t : Fin cfg0.N, win0_4.index t 0 = 0 ∧ win0_4.index t 1 = t.val := by decide +kernel

/-- The group of a grid point. -/
abbrev grp (t : Fin cfg0.N) : Fin 12 := ⟨t.val, lt_of_lt_of_eq t.isLt N_0⟩

/-- The activations' block at a grid point. -/
theorem blk0_apply (t : Fin cfg0.N) (r : Fin 256) (i : Fin 1024) :
    blk0 (at1 m) c t (ix2 (n0 := 256) (n1 := 1024) r i) = act (X m c) r (col (grp t) i) := by
  unfold blk0
  rw [View.read_apply]
  show at1 m c main_v0 _ = _
  unfold at1
  rw [at1_v0]
  unfold act
  refine shapeCast_apply _ shapeCasts_S2x128x12288_S256x12288 _ _ ?_
  rw [Shape.rowMajor_val_three, Shape.rowMajor_val_two]
  show (r.val / 128 * 128 + r.val % 128) * 12288 + (1024 * t.val + i.val)
    = (win0_0.index t 0 * 256 + 1 * r.val) * 12288 + (win0_0.index t 1 * 1024 + 1 * i.val)
  rw [(index0 t).1, (index0 t).2]
  omega

/-- The signs' block at a grid point. -/
theorem blk1_apply (t : Fin cfg0.N) (i : Fin 1024) :
    blk1 (at1 m) c t (ix2 (n0 := 1) (n1 := 1024) 0 i) = (((sign (sg m c) (col (grp t) i) : ℤ) : ℝ) : EReal) := by
  unfold blk1
  rw [View.read_apply]
  show at1 m c main_v4 _ = _
  unfold at1
  rw [at1_v4]
  refine (shapeCast_apply _ shapeCasts_S12288_S1x12288 _ (ix1 (n0 := 12288) (col (grp t) i)) ?_).trans rfl
  rw [Shape.rowMajor_val_one, Shape.rowMajor_val_two]
  show 1024 * t.val + i.val = (win0_1.index t 0 * 1 + 1 * 0) * 12288 + (win0_1.index t 1 * 1024 + 1 * i.val)
  rw [(index1 t).1, (index1 t).2]
  omega

/-- The matrix's block at a grid point. -/
theorem blk2_eq (t : Fin cfg0.N) : blk2 (at1 m) c t = hh (F := Ideal) := by
  funext y
  unfold blk2
  rw [View.read_apply]
  show at1 m c main_cst _ = _
  unfold at1
  rw [at1_cst]
  refine congrArg (hh (F := Ideal)) (funext fun a => Fin.ext ?_)
  match a with
  | ⟨0, _⟩ => show win0_2.index t 0 * 256 + 1 * (y 0).val = (y 0).val; rw [(index2 t).1]; omega
  | ⟨1, _⟩ => show win0_2.index t 1 * 512 + 1 * (y 1).val = (y 1).val; rw [(index2 t).2]; omega

/-- The signed block is real. -/
theorem signed_real (h : AllReal (X m c)) (t : Fin cfg0.N) (r : Fin 256) (i : Fin 1024) :
    signed (blk0 (at1 m) c t) (blk1 (at1 m) c t) (ix2 (n0 := 256) (n1 := 1024) r i) = ((signedRow (X m c) (sg m c) r (grp t) i : ℝ) : EReal) := by
  rw [← signed_entry (X m c) (sg m c) h]
  unfold signed
  rw [shapeCast_self, shapeCast_self]
  show blk0 (at1 m) c t (ix2 (n0 := 256) (n1 := 1024) r i) * broadcastTo S256x1024 (blk1 (at1 m) c t) _ (ix2 (n0 := 256) (n1 := 1024) r i) = _
  rw [blk0_apply, ← blk1_apply]
  congr 1

/-- The rotation, whole, in order. -/
def whole : S256x12288.Idx → Ideal .bf16 := fun j =>
  rot (X m c) (sg m c) (j 0) ⟨(j 1).val / 1024, by have : (j 1).val < 12288 := (j 1).isLt; omega⟩ ((j 1).val % 1024)
/-- The rotation, whole, the even columns of each 256 before the odd ones. -/
def wholePerm : S256x12288.Idx → Ideal .bf16 := fun j =>
  rot (X m c) (sg m c) (j 0) ⟨(j 1).val / 1024, by have : (j 1).val < 12288 := (j 1).isLt; omega⟩
    (256 * ((j 1).val % 1024 / 256) + evenOdd ((j 1).val % 256))

theorem flushed3 (h : AllReal (X m c)) (t : Fin cfg0.N) :
    (dat (at1 m) c).flushed 3 t = ((cfg0.win 3).blk t).view.read (Elt Ideal) (whole m c) := by
  show ordered (blk0 (at1 m) c t) (blk1 (at1 m) c t) (blk2 (at1 m) c t) = _
  funext y
  obtain ⟨r, i, rfl⟩ : ∃ (r : Fin 256) (i : Fin 1024), y = ix2 (n0 := 256) (n1 := 1024) r i := ⟨y 0, y 1, ValueIdx.eq_ix2 y⟩
  rw [blk2_eq, ordered_real _ _ r _ (signed_real m c h t r) i, View.read_apply]
  have e0 : (((cfg0.win 3).blk t).view.emb (ix2 (n0 := 256) (n1 := 1024) r i) 0).val = win0_3.index t 0 * 256 + 1 * r.val := rfl
  have e1 : (((cfg0.win 3).blk t).view.emb (ix2 (n0 := 256) (n1 := 1024) r i) 1).val = win0_3.index t 1 * 1024 + 1 * i.val := rfl
  rw [(index3 t).1] at e0
  rw [(index3 t).2] at e1
  show rot (X m c) (sg m c) r (grp t) i.val = whole m c _
  unfold whole
  congr 1
  · exact Fin.ext (by rw [e0]; omega)
  · exact Fin.ext (by show t.val = _ / 1024; rw [e1]; omega)
  · rw [e1]; omega

theorem flushed4 (h : AllReal (X m c)) (t : Fin cfg0.N) :
    (dat (at1 m) c).flushed 4 t = ((cfg0.win 4).blk t).view.read (Elt Ideal) (wholePerm m c) := by
  show permuted (blk0 (at1 m) c t) (blk1 (at1 m) c t) (blk2 (at1 m) c t) = _
  funext y
  obtain ⟨r, i, rfl⟩ : ∃ (r : Fin 256) (i : Fin 1024), y = ix2 (n0 := 256) (n1 := 1024) r i := ⟨y 0, y 1, ValueIdx.eq_ix2 y⟩
  rw [blk2_eq, permuted_real _ _ r _ (signed_real m c h t r) i, View.read_apply]
  have e0 : (((cfg0.win 4).blk t).view.emb (ix2 (n0 := 256) (n1 := 1024) r i) 0).val = win0_4.index t 0 * 256 + 1 * r.val := rfl
  have e1 : (((cfg0.win 4).blk t).view.emb (ix2 (n0 := 256) (n1 := 1024) r i) 1).val = win0_4.index t 1 * 1024 + 1 * i.val := rfl
  rw [(index4 t).1] at e0
  rw [(index4 t).2] at e1
  show rot (X m c) (sg m c) r (grp t) (256 * (i.val / 256) + evenOdd (i.val % 256)) = wholePerm m c _
  unfold wholePerm
  congr 1
  · exact Fin.ext (by rw [e0]; omega)
  · exact Fin.ext (by show t.val = _ / 1024; rw [e1]; omega)
  · rw [e1]
    congr 1
    · congr 1; omega
    · congr 1; omega

/-- The first result's array after the region. -/
theorem final3 (h : AllReal (X m c)) : (dat (at1 m) c).arrAt 3 cfg0.N = whole m c :=
  (dat (at1 m) c).arrAt_eq_of_cover 3 (whole m c) (fun t _ => flushed3 m c h t) fun j =>
    have h0 : (j 0).val < 256 := (j 0).isLt
    have h1 : (j 1).val < 12288 := (j 1).isLt
    have ht : (j 1).val / 1024 < cfg0.N := by rw [show cfg0.N = 12 from N_0]; omega
    ⟨⟨(j 1).val / 1024, ht⟩, flush0_3 _, by
      show j ∈ ((View.whole main_v5_0).slice (win0_3.rect ⟨(j 1).val / 1024, ht⟩)).set
      rw [View.set_slice_whole, Rect.mem_set_unit]
      intro a
      match a with
      | ⟨0, _⟩ => show win0_3.index ⟨(j 1).val / 1024, ht⟩ 0 * 256 ≤ (j 0).val ∧ (j 0).val < win0_3.index ⟨(j 1).val / 1024, ht⟩ 0 * 256 + 256; rw [(index3 _).1]; omega
      | ⟨1, _⟩ => show win0_3.index ⟨(j 1).val / 1024, ht⟩ 1 * 1024 ≤ (j 1).val ∧ (j 1).val < win0_3.index ⟨(j 1).val / 1024, ht⟩ 1 * 1024 + 1024; rw [(index3 _).2]; show (j 1).val / 1024 * 1024 ≤ _ ∧ _ < (j 1).val / 1024 * 1024 + 1024; omega⟩

/-- The second result's array after the region. -/
theorem final4 (h : AllReal (X m c)) : (dat (at1 m) c).arrAt 4 cfg0.N = wholePerm m c :=
  (dat (at1 m) c).arrAt_eq_of_cover 4 (wholePerm m c) (fun t _ => flushed4 m c h t) fun j =>
    have h0 : (j 0).val < 256 := (j 0).isLt
    have h1 : (j 1).val < 12288 := (j 1).isLt
    have ht : (j 1).val / 1024 < cfg0.N := by rw [show cfg0.N = 12 from N_0]; omega
    ⟨⟨(j 1).val / 1024, ht⟩, flush0_4 _, by
      show j ∈ ((View.whole main_v5_1).slice (win0_4.rect ⟨(j 1).val / 1024, ht⟩)).set
      rw [View.set_slice_whole, Rect.mem_set_unit]
      intro a
      match a with
      | ⟨0, _⟩ => show win0_4.index ⟨(j 1).val / 1024, ht⟩ 0 * 256 ≤ (j 0).val ∧ (j 0).val < win0_4.index ⟨(j 1).val / 1024, ht⟩ 0 * 256 + 256; rw [(index4 _).1]; omega
      | ⟨1, _⟩ => show win0_4.index ⟨(j 1).val / 1024, ht⟩ 1 * 1024 ≤ (j 1).val ∧ (j 1).val < win0_4.index ⟨(j 1).val / 1024, ht⟩ 1 * 1024 + 1024; rw [(index4 _).2]; show (j 1).val / 1024 * 1024 ≤ _ ∧ _ < (j 1).val / 1024 * 1024 + 1024; omega⟩

end Cert.Proof.Rot

end
-- ==== Proof.HostMid.lean ====
/-
  What the host operations between the regions leave in the arrays the second region reads, and what those after it leave in the
  two results: the table as two rows of words, the scale words in the order of the kernel's row blocks, and the rows of the
  product put back in order.
-/
module

public import proofs.«01_k».proof.Proof.Run
public import Idealize.ShloMosaic.Lib.Pipeline.Value
public import Idealize.ShloMosaic.Lib.ValueIdx
public import Idealize.ShloMosaic.Lib.Pointwise
public import Idealize.ShloMosaic.Lib.StableHlo.Run
public import Idealize.ShloMosaic.Lib.BitcastConvert
public import Idealize.ShloMosaic.Lib.KernelVsHost

@[expose] public section

set_option maxRecDepth 16384

noncomputable section

namespace Cert.Proof

open Cert.KernelIdeal Cert.KernelIdeal.Gen
open Idealize.ShloMosaic Idealize.ShloMosaic.StableHlo
open Idealize.ShloMosaic.TcCoe
open Idealize.SL.Sem

variable {F : FTy → Type} [FloatOps F]

/-- The table as two rows of words, each word an entry's two values. -/
def table (w : IVec S256x2 16) : IVec S2x128 32 :=
  shapeCast S2x128 (Host.bitcastConvertWiden S256 32 w splits_S256_w32_S256x2_w16) shapeCasts_S256_S2x128

/-- The scale words before they are padded: block of 32 rows, half, row of words and group. -/
def scalePairs (w : IVec S4096x12 16) : IVec S128x2x8x12 32 :=
  Host.bitcastConvertWiden S128x2x8x12 32
    (transpose S128x2x8x12x2 [0, 2, 1, 4, 3] (shapeCast S128x8x2x2x12 w shapeCasts_S4096x12_S128x8x2x2x12) transposes_S128x8x2x2x12_S128x2x8x12x2_0_2_1_4_3)
    splits_S128x2x8x12_w32_S128x2x8x12x2_w16

/-- The scale words in the order of the row blocks, padded to 128 lanes. -/
def scales (w : IVec S4096x12 16) : IVec S4x512x128 32 :=
  shapeCast S4x512x128 (pad S128x2x8x128 ![0, 0, 0, 0] ![0, 0, 0, 116] ![0, 0, 0, 0] (scalePairs w) (constantI S_ 32 0#32)
    pads_S128x2x8x12_S128x2x8x128_000_000_000_01160 h_S_) shapeCasts_S128x2x8x128_S4x512x128

/-- A table word: the second value above the first. -/
theorem table_apply (w : IVec S256x2 16) (h : Fin 2) (l : Fin 128) :
    table w (ix2 (n0 := 2) (n1 := 128) h l)
      = w (ix2 (n0 := 256) (n1 := 2) ⟨128 * h.val + l.val, by omega⟩ 1) ++ w (ix2 (n0 := 256) (n1 := 2) ⟨128 * h.val + l.val, by omega⟩ 0) := by
  unfold table
  refine (shapeCast_apply _ shapeCasts_S256_S2x128 _ (ix1 (n0 := 256) ⟨128 * h.val + l.val, by omega⟩) ?_).trans ?_
  · rw [Shape.rowMajor_val_one, Shape.rowMajor_val_two]
    show 128 * h.val + l.val = h.val * 128 + l.val
    omega
  · rw [Host.bitcastConvertWiden_apply_16_32]
    congr 1
    · congr 1; funext a; fin_cases a <;> rfl
    · congr 1; funext a; fin_cases a <;> rfl

/-- The row of scales that part `b` of word row `R` holds. -/
def scaleRow (R : ℕ) (b : ℕ) : ℕ := 32 * (R / 16) + 4 * (R % 8) + 2 * (R / 8 % 2) + b

theorem scaleRow_lt {R b : ℕ} (h : R < 2048) (hb : b < 2) : scaleRow R b < 4096 := by unfold scaleRow; omega

theorem scalePairs_apply (w : IVec S4096x12 16) (R : Fin 128) (q : Fin 2) (i : Fin 8) (g : Fin 12) :
    scalePairs w (ix4 (n0 := 128) (n1 := 2) (n2 := 8) (n3 := 12) R q i g)
      = w (ix2 (n0 := 4096) (n1 := 12) ⟨32 * R.val + 4 * i.val + 2 * q.val + 1, by omega⟩ g)
        ++ w (ix2 (n0 := 4096) (n1 := 12) ⟨32 * R.val + 4 * i.val + 2 * q.val, by omega⟩ g) := by
  unfold scalePairs
  have part : ∀ (b : Fin 2) (hb : 32 * R.val + 4 * i.val + 2 * q.val + b.val < 4096) (k : S128x2x8x12x2.Idx), (k 0).val = R.val → (k 1).val = q.val → (k 2).val = i.val → (k 3).val = g.val → (k 4).val = b.val →
      transpose S128x2x8x12x2 [0, 2, 1, 4, 3] (shapeCast S128x8x2x2x12 w shapeCasts_S4096x12_S128x8x2x2x12) transposes_S128x8x2x2x12_S128x2x8x12x2_0_2_1_4_3 k
        = w (ix2 (n0 := 4096) (n1 := 12) ⟨32 * R.val + 4 * i.val + 2 * q.val + b.val, hb⟩ g) := by
    intro b hb k h0 h1 h2 h3 h4
    refine (transpose_apply _ _ transposes_S128x8x2x2x12_S128x2x8x12x2_0_2_1_4_3 _ (ix5 (n0 := 128) (n1 := 8) (n2 := 2) (n3 := 2) (n4 := 12) R i q b g) ?_).trans ?_
    · intro a
      match a with
      | ⟨0, _⟩ => exact h0.symm
      | ⟨1, _⟩ => exact h1.symm
      | ⟨2, _⟩ => exact h2.symm
      | ⟨3, _⟩ => exact h3.symm
      | ⟨4, _⟩ => exact h4.symm
    · refine shapeCast_apply _ shapeCasts_S4096x12_S128x8x2x2x12 _ _ ?_
      rw [Shape.rowMajor_val_two, Shape.rowMajor_val_five]
      show (32 * R.val + 4 * i.val + 2 * q.val + b.val) * 12 + g.val = (((R.val * 8 + i.val) * 2 + q.val) * 2 + b.val) * 12 + g.val
      omega
  rw [Host.bitcastConvertWiden_apply_16_32]
  congr 1
  · exact part 1 (by show _ + 1 < _; omega) _ rfl rfl rfl rfl rfl
  · exact part 0 (by show _ + 0 < _; omega) _ rfl rfl rfl rfl rfl

/-- A scale word of one of the twelve groups. -/
theorem scales_apply (w : IVec S4096x12 16) (n : Fin 4) (a : Fin 512) (g : Fin 128) (hg : g.val < 12) :
    scales w (ix3 (n0 := 4) (n1 := 512) (n2 := 128) n a g)
      = w (ix2 (n0 := 4096) (n1 := 12) ⟨scaleRow (512 * n.val + a.val) 1, scaleRow_lt (by omega) (by omega)⟩ ⟨g.val, hg⟩)
        ++ w (ix2 (n0 := 4096) (n1 := 12) ⟨scaleRow (512 * n.val + a.val) 0, scaleRow_lt (by omega) (by omega)⟩ ⟨g.val, hg⟩) := by
  unfold scales
  refine (shapeCast_apply _ shapeCasts_S128x2x8x128_S4x512x128 _
    (ix4 (n0 := 128) (n1 := 2) (n2 := 8) (n3 := 128) ⟨(512 * n.val + a.val) / 16, by omega⟩ ⟨(512 * n.val + a.val) / 8 % 2, by omega⟩ ⟨(512 * n.val + a.val) % 8, by omega⟩ g) ?_).trans ?_
  · rw [Shape.rowMajor_val_four, Shape.rowMajor_val_three]
    show (((512 * n.val + a.val) / 16 * 2 + (512 * n.val + a.val) / 8 % 2) * 8 + (512 * n.val + a.val) % 8) * 128 + g.val = (n.val * 512 + a.val) * 128 + g.val
    omega
  · refine (pad_apply_of_inside _ _ _ _ _ pads_S128x2x8x12_S128x2x8x128_000_000_000_01160 h_S_ _
      (ix4 (n0 := 128) (n1 := 2) (n2 := 8) (n3 := 12) ⟨(512 * n.val + a.val) / 16, by omega⟩ ⟨(512 * n.val + a.val) / 8 % 2, by omega⟩ ⟨(512 * n.val + a.val) % 8, by omega⟩ ⟨g.val, hg⟩) ?_).trans ?_
    · intro b
      match b with
      | ⟨0, _⟩ => show (512 * n.val + a.val) / 16 = 0 + (512 * n.val + a.val) / 16 * (0 + 1); omega
      | ⟨1, _⟩ => show (512 * n.val + a.val) / 8 % 2 = 0 + (512 * n.val + a.val) / 8 % 2 * (0 + 1); omega
      | ⟨2, _⟩ => show (512 * n.val + a.val) % 8 = 0 + (512 * n.val + a.val) % 8 * (0 + 1); omega
      | ⟨3, _⟩ => show g.val = 0 + g.val * (0 + 1); omega
    · rw [scalePairs_apply]
      congr 1

variable (m : (ℓ : Loc nD τ sig) → Buf (Elt F) ℓ)

/-- The rotated activations the second region reads are the first region's second result. -/
theorem at5_v5_1 (c : Dev nD) : at5 m c main_v5_1 = (Rot.dat (at1 m) c).arrAt 4 cfg0.N := by
  show V5 m (outs1 m) c main_v5_1 = _
  rw [V5_of m (outs1 m) c main_v5_1 (by decide), V4_of m (outs1 m) c main_v5_1 (by decide), V3_of m (outs1 m) c main_v5_1 (by decide)]
  exact outs1_1 m c

/-- The codes the second region reads are the argument. -/
theorem at5_arg3 (c : Dev nD) : at5 m c main_arg3 = m ((c : Thread nD τ).loc main_arg3) := by
  show V5 m (outs1 m) c main_arg3 = _
  rw [V5_of m (outs1 m) c main_arg3 (by decide), V4_of m (outs1 m) c main_arg3 (by decide), V3_of m (outs1 m) c main_arg3 (by decide),
    V2_of m (outs1 m) c main_arg3 (by decide), V1_of m c main_arg3 (by decide)]

theorem v2_arg2 (c : Dev nD) : V2 m (outs1 m) c main_arg2 = m ((c : Thread nD τ).loc main_arg2) := by
  rw [V2_of m (outs1 m) c main_arg2 (by decide), V1_of m c main_arg2 (by decide)]

theorem v2_arg4 (c : Dev nD) : V2 m (outs1 m) c main_arg4 = m ((c : Thread nD τ).loc main_arg4) := by
  rw [V2_of m (outs1 m) c main_arg4 (by decide), V1_of m c main_arg4 (by decide)]

/-- The table the second region reads. -/
theorem at5_v7 (c : Dev nD) : at5 m c main_v7 = table (m ((c : Thread nD τ).loc main_arg2)) := by
  show V5 m (outs1 m) c main_v7 = _
  rw [V5_of m (outs1 m) c main_v7 (by decide), V4_of m (outs1 m) c main_v7 (by decide), ← v2_arg2 m c]
  unfold V3 table
  after_results_simp <;> rfl

/-- The scale words the second region reads. -/
theorem at5_v12 (c : Dev nD) : at5 m c main_v12 = scales (m ((c : Thread nD τ).loc main_arg4)) := by
  show V5 m (outs1 m) c main_v12 = _
  rw [← v2_arg4 m c]
  unfold V5 V4 V3 scales scalePairs
  after_results_simp <;> rfl

/-- The rotation's result, after the whole run. -/
theorem final_v17 (c : Dev nD) : V7 m (outs m) c main_v17 = shapeCast S2x128x12288 ((Rot.dat (at1 m) c).arrAt 3 cfg0.N) shapeCasts_S256x12288_S2x128x12288 := by
  have e : V6 m (outs m) c main_v5_0 = (Rot.dat (at1 m) c).arrAt 3 cfg0.N := by
    rw [V6_of m (outs m) c main_v5_0 (by decide), V5_of m (outs m) c main_v5_0 (by decide), V4_of m (outs m) c main_v5_0 (by decide), V3_of m (outs m) c main_v5_0 (by decide)]
    exact V2_0 m c
  rw [← e]
  unfold V7
  after_results_simp <;> rfl

/-- The product's result, after the whole run: its columns put back in order. -/
theorem final_v16 (c : Dev nD) : V7 m (outs m) c main_v16 = shapeCast S2x128x4096 (transpose S256x128x8x2x2 [0, 1, 3, 2, 4]
    (shapeCast S256x128x2x8x2 ((Dec.dat (at5 m) c).arrAt 4 cfg1.N) shapeCasts_S256x4096_S256x128x2x8x2) transposes_S256x128x2x8x2_S256x128x8x2x2_0_1_3_2_4) shapeCasts_S256x128x8x2x2_S2x128x4096 := by
  rw [← V6_0 m c]
  unfold V7
  after_results_simp <;> rfl

end Cert.Proof

end
-- ==== Proof.Words.lean ====
/-
  The bit operations of the decoding kernel, word by word: the code in each byte of a word, the choice of the table's half and
  lane, and the two sixteen-bit parts of a word.
-/
module

public import proofs.«01_k».proof.Proof.Body
public import Idealize.ShloMosaic.Lib.ValueIdxCore
public import Idealize.ShloMosaic.Lib.BitcastPair
public import Idealize.ShloMosaic.Lib.BitcastFour
public import Idealize.ShloMosaic.Lib.Pipeline.Value
public import Idealize.ShloMosaic.Lib.ValueIdx
public import Idealize.ShloMosaic.Lib.Pointwise
public import Mathlib.Data.Nat.Bitwise

@[expose] public section

set_option maxRecDepth 16384

noncomputable section

namespace Cert.Proof.Dec

open Cert.KernelIdeal
open Idealize.ShloMosaic

variable {F : FTy → Type} [FloatOps F]

/-! ## One word -/

/-- Part `p` of a word: its low sixteen bits or its high ones. -/
def part (w : BitVec 32) (p : ℕ) : BitVec 16 := w.extractLsb' (16 * p) 16

theorem part_append_zero (hi lo : BitVec 16) : part (hi ++ lo) 0 = lo := by
  apply BitVec.eq_of_getLsbD_eq
  intro i h
  unfold part
  rw [BitVec.getLsbD_extractLsb', BitVec.getLsbD_append]
  simp [h]

theorem part_append_one (hi lo : BitVec 16) : part (hi ++ lo) 1 = hi := by
  apply BitVec.eq_of_getLsbD_eq
  intro i h
  unfold part
  rw [BitVec.getLsbD_extractLsb', BitVec.getLsbD_append]
  simp [h]

/-- The code in byte `b` of a word. -/
def code (w : BitVec 32) (b : ℕ) : ℕ := w.toNat / 2 ^ (8 * b) % 256

theorem code_lt (w : BitVec 32) (b : ℕ) : code w b < 256 := Nat.mod_lt _ (by decide)

theorem low7 (x : BitVec 32) : (IntOp.andi x 127#32).toNat = x.toNat % 128 := by
  show (x &&& 127#32).toNat = _
  rw [BitVec.toNat_and]
  exact Nat.and_two_pow_sub_one_eq_mod x.toNat 7

/-- A position of seven bits is never counted from the end. -/
theorem select_low7 (x y : BitVec 32) :
    Scalar.select (IntOp.cmpi .slt (IntOp.andi x 127#32) 0#32) y (IntOp.andi x 127#32) = IntOp.andi x 127#32 := by
  have h := low7 x
  have hs : (IntOp.andi x 127#32).slt 0#32 = false := by
    rw [BitVec.slt_eq_decide, decide_eq_false_iff_not, BitVec.toInt_eq_toNat_of_lt (by rw [h]; omega)]
    simp
  unfold Scalar.select IntOp.cmpi
  rw [hs]
  rfl

/-- Bit 7 tested. -/
theorem bit7 (x : BitVec 32) : IntOp.cmpi .ne (IntOp.andi x 128#32) 0#32 = BitVec.ofBool (decide (x.toNat / 128 % 2 = 1)) := by
  unfold IntOp.cmpi
  congr 1
  have h : (IntOp.andi x 128#32).toNat = (x.toNat.testBit 7).toNat * 2 ^ 7 := by
    show (x &&& 128#32).toNat = _
    rw [BitVec.toNat_and]
    exact Nat.and_two_pow x.toNat 7
  rw [Nat.testBit_eq_decide_div_mod_eq] at h
  by_cases hb : x.toNat / 128 % 2 = 1
  · rw [show decide (x.toNat / 2 ^ 7 % 2 = 1) = true from decide_eq_true hb] at h
    rw [decide_eq_true hb]
    show (IntOp.andi x 128#32 != 0#32) = true
    rw [bne_iff_ne]
    intro e
    rw [e] at h
    exact absurd h (by decide)
  · rw [show decide (x.toNat / 2 ^ 7 % 2 = 1) = false from decide_eq_false hb] at h
    rw [decide_eq_false hb]
    show (IntOp.andi x 128#32 != 0#32) = false
    rw [bne_eq_false_iff_eq]
    exact BitVec.eq_of_toNat_eq (h.trans (by decide))

/-- The sign tested. -/
theorem bit31 (x : BitVec 32) : IntOp.cmpi .slt x 0#32 = BitVec.ofBool (decide (x.toNat / 2 ^ 31 = 1)) := by
  unfold IntOp.cmpi
  congr 1
  show x.slt 0#32 = _
  rw [BitVec.slt_eq_decide]
  have hx := x.isLt
  refine decide_eq_decide.mpr ?_
  rw [BitVec.toInt_eq_toNat_cond]
  simp only [BitVec.toInt_zero]
  split <;> constructor <;> intro h <;> omega

theorem shr (x : BitVec 32) (k : ℕ) (hk : k < 32) : (IntOp.shrui .vector x (BitVec.ofNat 32 k)).toNat = x.toNat / 2 ^ k := by
  unfold IntOp.shrui
  have e : (BitVec.ofNat 32 k).toNat = k := by rw [BitVec.toNat_ofNat]; exact Nat.mod_eq_of_lt (by omega)
  rw [if_pos (by rw [e]; exact hk)]
  rw [BitVec.ushiftRight_eq', BitVec.toNat_ushiftRight, e, Nat.shiftRight_eq_div_pow]

/-- The word of two entries' first values. -/
theorem part_evens (a b : BitVec 32) :
    part (IntOp.ori (IntOp.andi a 65535#32) (IntOp.shli .vector b 16#32)) 0 = part a 0
      ∧ part (IntOp.ori (IntOp.andi a 65535#32) (IntOp.shli .vector b 16#32)) 1 = part b 0 := by
  have e : IntOp.shli .vector b 16#32 = b <<< 16 := by unfold IntOp.shli; rw [if_pos (by decide)]; rfl
  rw [e]
  constructor <;>
  · apply BitVec.eq_of_getLsbD_eq
    intro i h
    unfold part
    show (((a &&& 65535#32) ||| b <<< 16).extractLsb' _ 16).getLsbD i = _
    simp only [BitVec.getLsbD_extractLsb', BitVec.getLsbD_or, BitVec.getLsbD_and, BitVec.getLsbD_shiftLeft]
    interval_cases i <;> simp

/-- The word of two entries' second values. -/
theorem part_odds (a b : BitVec 32) :
    part (IntOp.ori (IntOp.shrui .vector a 16#32) (IntOp.andi b 4294901760#32)) 0 = part a 1
      ∧ part (IntOp.ori (IntOp.shrui .vector a 16#32) (IntOp.andi b 4294901760#32)) 1 = part b 1 := by
  have e : IntOp.shrui .vector a 16#32 = a >>> 16 := by unfold IntOp.shrui; rw [if_pos (by decide)]; rfl
  rw [e]
  constructor <;>
  · apply BitVec.eq_of_getLsbD_eq
    intro i h
    unfold part
    show ((a >>> 16 ||| (b &&& 4294901760#32)).extractLsb' _ 16).getLsbD i = _
    simp only [BitVec.getLsbD_extractLsb', BitVec.getLsbD_or, BitVec.getLsbD_and, BitVec.getLsbD_ushiftRight]
    interval_cases i <;> simp

/-! ## Blocks of words -/

/-- A block of words read as bf16 rows: row `2i + j` is part `j` of word row `i`. -/
theorem asBf_apply (w : IVec S8x128 32) (r : Fin 16) (l : Fin 128) :
    asBf (F := F) w (ix2 (n0 := 16) (n1 := 128) r l)
      = FloatOps.ofBits .bf16 (part (w (ix2 (n0 := 8) (n1 := 128) ⟨r.val / 2, by omega⟩ l)) (r.val % 2)) := by
  unfold asBf
  show FloatOps.ofBits .bf16 (bitcast S16x128 16 w _ _) = _
  congr 1
  rw [bitcast_32_16]
  unfold part
  congr 2
  funext a
  match a with
  | ⟨0, _⟩ => exact Fin.ext (Shape.Bitcasts.srcIdx_row (t := S16x128) (by decide : S8x128.Bitcasts 32 S16x128 16) (ix2 (n0 := 16) (n1 := 128) r l) _ _ ⟨0, Nat.zero_lt_two⟩ rfl)
  | ⟨1, _⟩ => exact Fin.ext (Shape.Bitcasts.srcIdx_other (t := S16x128) (by decide : S8x128.Bitcasts 32 S16x128 16) (ix2 (n0 := 16) (n1 := 128) r l) _ _ ⟨1, Nat.one_lt_two⟩ (by show ¬ 1 + 2 = 2; omega))

/-- Byte `b` of word row `i` is byte row `4i + b`. -/
theorem code_words (v : Vec F S32x128 .i8) (i : Fin 8) (l : Fin 128) (b : Fin 4) :
    code (words (F := F) v (ix2 (n0 := 8) (n1 := 128) i l)) b.val
      = BitVec.toNat (w := 8) (v (ix2 (n0 := 32) (n1 := 128) ⟨4 * i.val + b.val, by omega⟩ l)) := by
  have h : (words (F := F) v (ix2 (n0 := 8) (n1 := 128) i l)).extractLsb' (8 * b.val) 8
      = (v (ix2 (n0 := 32) (n1 := 128) ⟨4 * i.val + b.val, by omega⟩ l) : BitVec 8) := by
    apply BitVec.eq_of_getLsbD_eq
    intro q hq
    rw [BitVec.getLsbD_extractLsb']
    unfold words
    refine (congrArg (decide (q < 8) && ·) (bitcast_8_32_getLsbD_ix2 v (by decide : S32x128.Bitcasts 8 S8x128 32) i l (8 * b.val + q) (by omega) ⟨4 * i.val + b.val, by omega⟩
      (by show 4 * i.val + b.val = 4 * i.val + (8 * b.val + q) / 8; omega))).trans ?_
    rw [show (8 * b.val + q) % 8 = q by omega, decide_eq_true hq, Bool.true_and]
    rfl
  rw [← h, BitVec.extractLsb'_toNat, Nat.shiftRight_eq_div_pow]
  rfl

/-- A lookup at a position of seven bits. -/
theorem look_apply (tab sh : IVec S8x128 32) (i : Fin 8) (l : Fin 128) :
    look tab (andi sh (broadcast S8x128 127#32)) (ix2 (n0 := 8) (n1 := 128) i l)
      = tab (ix2 (n0 := 8) (n1 := 128) i ⟨(sh (ix2 (n0 := 8) (n1 := 128) i l)).toNat % 128, Nat.mod_lt _ (by decide)⟩) := by
  unfold look dynamicGather
  congr 1
  have e : (shapeCast S8x128 (shapeCast S8x128x1
    (select (cmpi .slt (andi sh (broadcast S8x128 127#32)) (broadcast S8x128 0#32)) (addi (andi sh (broadcast S8x128 127#32)) (broadcast S8x128 128#32)) (andi sh (broadcast S8x128 127#32)))
    (by decide : S8x128.ShapeCasts S8x128x1)) (by decide : S8x128x1.ShapeCasts S8x128)) (ix2 (n0 := 8) (n1 := 128) i l)
      = IntOp.andi (sh (ix2 (n0 := 8) (n1 := 128) i l)) 127#32 := by
    refine (shapeCast_apply _ _ _ (ix3 (n0 := 8) (n1 := 128) (n2 := 1) i l 0) ?_).trans ?_
    · rw [Shape.rowMajor_val_two, Shape.rowMajor_val_three]; show (i.val * 128 + l.val) * 1 + 0 = i.val * 128 + l.val; omega
    refine (shapeCast_apply _ _ _ (ix2 (n0 := 8) (n1 := 128) i l) ?_).trans ?_
    · rw [Shape.rowMajor_val_two, Shape.rowMajor_val_three]; show i.val * 128 + l.val = (i.val * 128 + l.val) * 1 + 0; omega
    exact select_low7 _ _
  funext b
  match b with
  | ⟨0, _⟩ => rfl
  | ⟨1, _⟩ =>
    refine Fin.ext ?_
    show BitVec.toNat _ % 128 = _
    rw [e, low7]
    show _ % 128 % 128 = _ % 128
    omega

/-- The table's halves as one table. -/
def pick (lo hi : IVec S8x128 32) (i : Fin 8) (k : ℕ) : BitVec 32 :=
  if k / 128 % 2 = 1 then hi (ix2 (n0 := 8) (n1 := 128) i ⟨k % 128, Nat.mod_lt _ (by decide)⟩)
  else lo (ix2 (n0 := 8) (n1 := 128) i ⟨k % 128, Nat.mod_lt _ (by decide)⟩)

theorem select_ofBool {α : Type} (p : Prop) [Decidable p] (x y : α) : Scalar.select (BitVec.ofBool (decide p)) x y = if p then x else y := by
  unfold Scalar.select
  by_cases h : p
  · rw [if_pos h, decide_eq_true h]; rfl
  · rw [if_neg h, decide_eq_false h]; rfl

theorem pick_congr (lo hi : IVec S8x128 32) (i : Fin 8) (x k : ℕ) (h : x % 256 = k) :
    (if x / 128 % 2 = 1 then hi (ix2 (n0 := 8) (n1 := 128) i ⟨x % 128, Nat.mod_lt _ (by decide)⟩)
      else lo (ix2 (n0 := 8) (n1 := 128) i ⟨x % 128, Nat.mod_lt _ (by decide)⟩)) = pick lo hi i k := by
  unfold pick
  have h1 : x / 128 % 2 = k / 128 % 2 := by omega
  have h2 : x % 128 = k % 128 := by omega
  simp only [h1, h2]

/-- An entry chosen by bit 7 of the shifted word. -/
theorem entry_half_apply (lo hi sh : IVec S8x128 32) (i : Fin 8) (l : Fin 128) (k : ℕ)
    (h : (sh (ix2 (n0 := 8) (n1 := 128) i l)).toNat % 256 = k) :
    entry lo hi sh (half sh) (ix2 (n0 := 8) (n1 := 128) i l) = pick lo hi i k := by
  unfold entry half
  show Scalar.select (IntOp.cmpi .ne (IntOp.andi (sh _) 128#32) 0#32) (look _ _ _) (look _ _ _) = _
  rw [bit7, select_ofBool, look_apply, look_apply]
  exact pick_congr lo hi i _ k h

theorem entry0_apply (lo hi word : IVec S8x128 32) (i : Fin 8) (l : Fin 128) :
    entry0 lo hi word (ix2 (n0 := 8) (n1 := 128) i l) = pick lo hi i (code (word (ix2 (n0 := 8) (n1 := 128) i l)) 0) := by
  unfold entry0
  refine entry_half_apply lo hi word i l _ ?_
  unfold code
  rw [Nat.mul_zero, Nat.pow_zero, Nat.div_one]

theorem entry1_apply (lo hi word : IVec S8x128 32) (i : Fin 8) (l : Fin 128) :
    entry1 lo hi word (ix2 (n0 := 8) (n1 := 128) i l) = pick lo hi i (code (word (ix2 (n0 := 8) (n1 := 128) i l)) 1) := by
  unfold entry1
  refine entry_half_apply lo hi _ i l _ ?_
  show (IntOp.shrui .vector (word _) (BitVec.ofNat 32 8)).toNat % 256 = _
  rw [shr _ 8 (by decide)]
  rfl

theorem entry2_apply (lo hi word : IVec S8x128 32) (i : Fin 8) (l : Fin 128) :
    entry2 lo hi word (ix2 (n0 := 8) (n1 := 128) i l) = pick lo hi i (code (word (ix2 (n0 := 8) (n1 := 128) i l)) 2) := by
  unfold entry2
  refine entry_half_apply lo hi _ i l _ ?_
  show (IntOp.shrui .vector (word _) (BitVec.ofNat 32 16)).toNat % 256 = _
  rw [shr _ 16 (by decide)]
  rfl

theorem entry3_apply (lo hi word : IVec S8x128 32) (i : Fin 8) (l : Fin 128) :
    entry3 lo hi word (ix2 (n0 := 8) (n1 := 128) i l) = pick lo hi i (code (word (ix2 (n0 := 8) (n1 := 128) i l)) 3) := by
  unfold entry3 entry
  show Scalar.select (IntOp.cmpi .slt (word _) 0#32) (look _ _ _) (look _ _ _) = _
  rw [bit31, select_ofBool, look_apply, look_apply]
  have e : (shrui word (broadcast S8x128 24#32) (ix2 (n0 := 8) (n1 := 128) i l)).toNat = (word (ix2 (n0 := 8) (n1 := 128) i l)).toNat / 2 ^ 24 :=
    shr _ 24 (by decide)
  have hw := (word (ix2 (n0 := 8) (n1 := 128) i l)).isLt
  rw [← pick_congr lo hi i ((word (ix2 (n0 := 8) (n1 := 128) i l)).toNat / 2 ^ 24) (code (word (ix2 (n0 := 8) (n1 := 128) i l)) 3) rfl]
  have hc : ((word (ix2 (n0 := 8) (n1 := 128) i l)).toNat / 2 ^ 31 = 1) ↔ ((word (ix2 (n0 := 8) (n1 := 128) i l)).toNat / 2 ^ 24 / 128 % 2 = 1) := by omega
  simp only [e, hc]

/-- The group's scale words: lane `g` of each row, in every lane. -/
theorem scaleWords_apply (g : BitVec 32) (hg : g.toNat < 12) (v : Vec F S1x16x128 .i32) (a : Fin 16) (l : Fin 128) :
    scaleWords (F := F) g v (ix2 (n0 := 16) (n1 := 128) a l) = v (ix3 (n0 := 1) (n1 := 16) (n2 := 128) 0 a ⟨g.toNat, by omega⟩) := by
  unfold scaleWords dynamicGather
  have e : (shapeCast S16x128 (shapeCast S16x128x1
      (select (cmpi .slt (broadcast S16x128 g) (broadcast S16x128 0#32)) (addi (broadcast S16x128 g) (broadcast S16x128 128#32)) (broadcast S16x128 g))
      (by decide : S16x128.ShapeCasts S16x128x1)) (by decide : S16x128x1.ShapeCasts S16x128)) (ix2 (n0 := 16) (n1 := 128) a l) = g := by
    show Scalar.select (IntOp.cmpi .slt g 0#32) _ g = g
    rw [bit31, select_ofBool, if_neg (by omega)]
  refine shapeCast_apply _ _ _ _ ?_
  rw [Shape.rowMajor_val_two, Shape.rowMajor_val_three]
  show (0 * 16 + a.val) * 128 + g.toNat = a.val * 128 + BitVec.toNat _ % 128
  rw [e, Nat.mod_eq_of_lt (by omega)]
  omega

/-- A half of the table, the same on every row. -/
theorem tab_apply (v : Vec F S1x128 .i32) (i : Fin 8) (k : Fin 128) :
    tab (F := F) v (ix2 (n0 := 8) (n1 := 128) i k) = v (ix2 (n0 := 1) (n1 := 128) 0 k) := by
  unfold tab
  rw [shapeCast_self, shapeCast_self]
  unfold broadcastTo
  congr 1
  funext a
  match a with
  | ⟨0, _⟩ => rfl
  | ⟨1, _⟩ => rfl

end Cert.Proof.Dec

end
-- ==== Proof.WeightAt.lean ====
/-
  A decoded weight at an index: the value of the table that the weight's code names, times the scale of the weight's row.
-/
module

public import proofs.«01_k».proof.Proof.Words
public import proofs.«01_k».proof.Proof.BodyRun

@[expose] public section

set_option maxRecDepth 16384

noncomputable section

namespace Cert.Proof.Dec

open Cert.KernelIdeal Cert.KernelIdeal.Gen
open Idealize.ShloMosaic
open Idealize.ShloMosaic.TcCoe
open Idealize.SL.Sem

variable {F : FTy → Type} [FloatOps F]

/-- Part `j` of the word of two entries' first values. -/
theorem part_evens_of (a b : BitVec 32) (j : ℕ) (hj : j < 2) :
    part (IntOp.ori (IntOp.andi a 65535#32) (IntOp.shli .vector b 16#32)) j = part (if j = 0 then a else b) 0 := by
  rcases (by omega : j = 0 ∨ j = 1) with rfl | rfl
  · rw [if_pos rfl]; exact (part_evens a b).1
  · rw [if_neg (by decide)]; exact (part_evens a b).2

/-- Part `j` of the word of two entries' second values. -/
theorem part_odds_of (a b : BitVec 32) (j : ℕ) (hj : j < 2) :
    part (IntOp.ori (IntOp.shrui .vector a 16#32) (IntOp.andi b 4294901760#32)) j = part (if j = 0 then a else b) 1 := by
  rcases (by omega : j = 0 ∨ j = 1) with rfl | rfl
  · rw [if_pos rfl]; exact (part_odds a b).1
  · rw [if_neg (by decide)]; exact (part_odds a b).2

/-- One of two neighbouring bytes' entries. -/
theorem pick_pair (lo hi : IVec S8x128 32) (i : Fin 8) (w : BitVec 32) (b j : ℕ) (hj : j < 2) :
    (if j = 0 then pick lo hi i (code w b) else pick lo hi i (code w (b + 1))) = pick lo hi i (code w (b + j)) := by
  rcases (by omega : j = 0 ∨ j = 1) with rfl | rfl
  · rw [if_pos rfl, Nat.add_zero]
  · rw [if_neg (by decide)]

theorem scale0_apply (g : BitVec 32) (hg : g.toNat < 12) (v : Vec F S1x16x128 .i32) (r : Fin 16) (l : Fin 128) :
    scale0 (F := F) g v (ix2 (n0 := 16) (n1 := 128) r l)
      = FloatOps.ofBits .bf16 (part (v (ix3 (n0 := 1) (n1 := 16) (n2 := 128) 0 ⟨8 * 0 + r.val / 2, by omega⟩ ⟨g.toNat, by omega⟩)) (r.val % 2)) := by
  unfold scale0
  rw [asBf_apply]
  congr 2
  refine (extractStridedSlice_apply ![0, 0] _ (by decide : S16x128.Slices ![0, 0] S8x128) _ (ix2 (n0 := 16) (n1 := 128) ⟨8 * 0 + r.val / 2, by omega⟩ l) ?_).trans (scaleWords_apply g hg v _ _)
  intro a
  match a with
  | ⟨0, _⟩ => show 8 * 0 + r.val / 2 = 0 + r.val / 2; omega
  | ⟨1, _⟩ => show l.val = 0 + l.val; omega

theorem scale1_apply (g : BitVec 32) (hg : g.toNat < 12) (v : Vec F S1x16x128 .i32) (r : Fin 16) (l : Fin 128) :
    scale1 (F := F) g v (ix2 (n0 := 16) (n1 := 128) r l)
      = FloatOps.ofBits .bf16 (part (v (ix3 (n0 := 1) (n1 := 16) (n2 := 128) 0 ⟨8 * 1 + r.val / 2, by omega⟩ ⟨g.toNat, by omega⟩)) (r.val % 2)) := by
  unfold scale1
  rw [asBf_apply]
  congr 2
  refine (extractStridedSlice_apply ![8, 0] _ (by decide : S16x128.Slices ![8, 0] S8x128) _ (ix2 (n0 := 16) (n1 := 128) ⟨8 * 1 + r.val / 2, by omega⟩ l) ?_).trans (scaleWords_apply g hg v _ _)
  intro a
  match a with
  | ⟨0, _⟩ => show 8 * 1 + r.val / 2 = 8 + r.val / 2; omega
  | ⟨1, _⟩ => show l.val = 0 + l.val; omega

/-- A tile at an index. -/
theorem tile_apply (lo hi w : IVec S8x128 32) (g : BitVec 32) (hg : g.toNat < 12) (v5 : Vec F S1x16x128 .i32) (q p : Fin 2) (r : Fin 16) (l : Fin 128) :
    tile (F := F) lo hi w g v5 q p (ix2 (n0 := 16) (n1 := 128) r l)
      = FloatOps.mulf (FloatOps.ofBits .bf16 (part (pick lo hi ⟨r.val / 2, by omega⟩
          (code (w (ix2 (n0 := 8) (n1 := 128) ⟨r.val / 2, by omega⟩ l)) (2 * q.val + r.val % 2))) p.val))
        (FloatOps.ofBits .bf16 (part (v5 (ix3 (n0 := 1) (n1 := 16) (n2 := 128) 0 ⟨8 * q.val + r.val / 2, by omega⟩ ⟨g.toNat, by omega⟩)) (r.val % 2))) := by
  have hj : r.val % 2 < 2 := Nat.mod_lt _ (by decide)
  match q, p with
  | 0, 0 =>
    show FloatOps.mulf (asBf (F := F) _ _) (scale0 (F := F) g v5 _) = _
    rw [scale0_apply g hg, asBf_apply]
    congr 2
    refine (part_evens_of _ _ _ hj).trans ?_
    rw [entry0_apply, entry1_apply, pick_pair _ _ _ _ 0 _ hj]
    rfl
  | 0, 1 =>
    show FloatOps.mulf (asBf (F := F) _ _) (scale0 (F := F) g v5 _) = _
    rw [scale0_apply g hg, asBf_apply]
    congr 2
    refine (part_odds_of _ _ _ hj).trans ?_
    rw [entry0_apply, entry1_apply, pick_pair _ _ _ _ 0 _ hj]
    rfl
  | 1, 0 =>
    show FloatOps.mulf (asBf (F := F) _ _) (scale1 (F := F) g v5 _) = _
    rw [scale1_apply g hg, asBf_apply]
    congr 2
    refine (part_evens_of _ _ _ hj).trans ?_
    rw [entry2_apply, entry3_apply, pick_pair _ _ _ _ 2 _ hj]
    rfl
  | 1, 1 =>
    show FloatOps.mulf (asBf (F := F) _ _) (scale1 (F := F) g v5 _) = _
    rw [scale1_apply g hg, asBf_apply]
    congr 2
    refine (part_odds_of _ _ _ hj).trans ?_
    rw [entry2_apply, entry3_apply, pick_pair _ _ _ _ 2 _ hj]
    rfl

/-- The row of codes that decodes to a row of weights. -/
def rowOf (a : ℕ) : ℕ := 32 * (a / 32) + 4 * (a % 16 / 2) + 2 * (a / 16 % 2) + a % 2
/-- The row of scale words for a row of weights. -/
def wordOf (a : ℕ) : ℕ := 16 * (a / 32) + 8 * (a / 16 % 2) + a % 16 / 2
/-- The column of codes that decodes to a column of weights. -/
def pairOf (k : ℕ) : ℕ := 128 * (k / 256) + k % 128

theorem rowOf_lt {a : ℕ} (h : a < 1024) : rowOf a < 1024 := by unfold rowOf; omega
theorem wordOf_lt {a : ℕ} (h : a < 1024) : wordOf a < 512 := by unfold wordOf; omega
theorem pairOf_lt {a : ℕ} (h : a < 1024) : pairOf a < 512 := by unfold pairOf; omega

/-- The two rows of the table as one table of 256 words. -/
theorem pick_tab (x4 : S2x128.Idx → BitVec 32) (i : Fin 8) (k : ℕ) (hk : k < 256) :
    pick (tab (F := F) (View.ld (Val := Elt F) (e' := .i32) x4 (Rect.unit (s := S2x128) ![0, 0] S1x128.size (by decide))))
        (tab (F := F) (View.ld (Val := Elt F) (e' := .i32) x4 (Rect.unit (s := S2x128) ![1, 0] S1x128.size (by decide)))) i k
      = x4 (ix2 (n0 := 2) (n1 := 128) ⟨k / 128, by omega⟩ ⟨k % 128, Nat.mod_lt _ (by decide)⟩) := by
  unfold pick
  rw [tab_apply, tab_apply]
  by_cases h : k / 128 % 2 = 1
  · rw [if_pos h]
    show x4 _ = x4 _
    congr 1
    funext a
    match a with
    | ⟨0, _⟩ => exact Fin.ext (by show 1 + 1 * 0 = k / 128; omega)
    | ⟨1, _⟩ => exact Fin.ext (by show 0 + 1 * (k % 128) = k % 128; omega)
  · rw [if_neg h]
    show x4 _ = x4 _
    congr 1
    funext a
    match a with
    | ⟨0, _⟩ => exact Fin.ext (by show 0 + 1 * 0 = k / 128; omega)
    | ⟨1, _⟩ => exact Fin.ext (by show 0 + 1 * (k % 128) = k % 128; omega)

/-- A weight at an index. -/
theorem weights_apply (i : grid1.Coords) (x4 : S2x128.Idx → BitVec 32) (x3 : S1024x512.Idx → BitVec 8) (x5 : S1x512x128.Idx → BitVec 32) (a k : Fin 1024) :
    weights (F := F) i x4 x3 x5 (ix2 (n0 := 1024) (n1 := 1024) a k)
      = FloatOps.mulf
        (FloatOps.ofBits .bf16 (part (x4 (ix2 (n0 := 2) (n1 := 128)
          ⟨(x3 (ix2 (n0 := 1024) (n1 := 512) ⟨rowOf a.val, rowOf_lt a.isLt⟩ ⟨pairOf k.val, pairOf_lt k.isLt⟩)).toNat / 128, by have := (x3 (ix2 (n0 := 1024) (n1 := 512) ⟨rowOf a.val, rowOf_lt a.isLt⟩ ⟨pairOf k.val, pairOf_lt k.isLt⟩)).isLt; omega⟩
          ⟨(x3 (ix2 (n0 := 1024) (n1 := 512) ⟨rowOf a.val, rowOf_lt a.isLt⟩ ⟨pairOf k.val, pairOf_lt k.isLt⟩)).toNat % 128, Nat.mod_lt _ (by decide)⟩)) (k.val / 128 % 2)))
        (FloatOps.ofBits .bf16 (part (x5 (ix3 (n0 := 1) (n1 := 512) (n2 := 128) 0 ⟨wordOf a.val, wordOf_lt a.isLt⟩
          ⟨(i 1).val, by have : (i 1).val < 12 := (i 1).isLt; omega⟩)) (a.val % 2))) := by
  have hi : (i 1).val < 12 := (i 1).isLt
  have hg : (BitVec.ofNat 32 (i 1).val).toNat = (i 1).val := by rw [BitVec.toNat_ofNat]; exact Nat.mod_eq_of_lt (by omega)
  unfold weights decoded
  refine (tile_apply _ _ _ _ (by rw [hg]; exact hi) _ ⟨a.val / 16 % 2, by omega⟩ ⟨k.val / 128 % 2, by omega⟩ ⟨a.val % 16, by omega⟩ ⟨k.val % 128, by omega⟩).trans ?_
  have ha := a.isLt
  have hk := k.isLt
  have hb : 2 * (a.val / 16 % 2) + a.val % 16 % 2 < 4 := by omega
  have hcode := code_words (F := F) (View.ld (Val := Elt F) (e' := .i8) x3 (rect3 ⟨a.val / 32, by omega⟩ ⟨k.val / 256, by omega⟩)) ⟨a.val % 16 / 2, by omega⟩ ⟨k.val % 128, by omega⟩
    ⟨2 * (a.val / 16 % 2) + a.val % 16 % 2, hb⟩
  have hld : View.ld (Val := Elt F) (e' := .i8) x3 (rect3 ⟨a.val / 32, by omega⟩ ⟨k.val / 256, by omega⟩) (ix2 (n0 := 32) (n1 := 128) ⟨4 * (a.val % 16 / 2) + (2 * (a.val / 16 % 2) + a.val % 16 % 2), by omega⟩ ⟨k.val % 128, by omega⟩)
      = x3 (ix2 (n0 := 1024) (n1 := 512) ⟨rowOf a.val, rowOf_lt a.isLt⟩ ⟨pairOf k.val, pairOf_lt k.isLt⟩) := by
    show x3 _ = x3 _
    congr 1
    funext b
    match b with
    | ⟨0, _⟩ => exact Fin.ext (by show 32 * (a.val / 32) + 1 * (4 * (a.val % 16 / 2) + (2 * (a.val / 16 % 2) + a.val % 16 % 2)) = rowOf a.val; unfold rowOf; omega)
    | ⟨1, _⟩ => exact Fin.ext (by show 128 * (k.val / 256) + 1 * (k.val % 128) = pairOf k.val; unfold pairOf; omega)
  have hcode' := hcode.trans (congrArg (BitVec.toNat (w := 8)) hld)
  congr 2
  · congr 1
    refine (congrArg (pick _ _ _) hcode').trans ?_
    exact pick_tab x4 _ _ (by exact (x3 _).isLt)
  · congr 1
    · show x5 _ = x5 _
      congr 1
      funext b
      match b with
      | ⟨0, _⟩ => rfl
      | ⟨1, _⟩ => exact Fin.ext (by show 16 * (a.val / 32) + 1 * (8 * (a.val / 16 % 2) + a.val % 16 / 2) = wordOf a.val; unfold wordOf; omega)
      | ⟨2, _⟩ => exact Fin.ext (by show 0 + 1 * (BitVec.ofNat 32 (i 1).val).toNat = (i 1).val; rw [hg]; omega)
    · show a.val % 16 % 2 = a.val % 2
      omega

end Cert.Proof.Dec

end
-- ==== Proof.KerDec.lean ====
/-
  What the second region stages at each grid point, over the extended reals, and one point's gain: the weights of one group and
  one block of 1024 rows, and their product with the group's columns as that group's part of the results.
-/
module

public import proofs.«01_k».proof.Proof.SpecY
public import proofs.«01_k».proof.Proof.KerRot
public import proofs.«01_k».proof.Proof.HostMid
public import proofs.«01_k».proof.Proof.WeightAt
public import Idealize.ShloMosaic.Lib.MatmulPlain

@[expose] public section

set_option maxRecDepth 16384

noncomputable section

namespace Cert.Proof.Dec

open Cert.KernelIdeal Cert.KernelIdeal.Gen
open Idealize.ShloMosaic
open Idealize.ShloMosaic.TcCoe
open Idealize.SL.Sem

variable (m : (ℓ : Loc nD τ sig) → Buf (Elt Ideal) ℓ) (c : Dev nD)

/-- The codebook, the codes and the scales the run starts from. -/
abbrev bk : Book := m ((c : Thread nD τ).loc main_arg2)
abbrev cd : Codes := m ((c : Thread nD τ).loc main_arg3)
abbrev sc : Scales := m ((c : Thread nD τ).loc main_arg4)

theorem index0 : ∀ t : Fin cfg1.N, win1_0.index t 0 = 0 ∧ win1_0.index t 1 = 0 := by decide +kernel
theorem index1 : ∀ t : Fin cfg1.N, win1_1.index t 0 = t.val / 12 ∧ win1_1.index t 1 = t.val % 12 := by decide +kernel
theorem index2 : ∀ t : Fin cfg1.N, win1_2.index t 0 = 0 ∧ win1_2.index t 1 = 0 := by decide +kernel
theorem index3 : ∀ t : Fin cfg1.N, win1_3.index t 0 = t.val / 12 ∧ win1_3.index t 1 = 0 ∧ win1_3.index t 2 = 0 := by decide +kernel
theorem index4 : ∀ t : Fin cfg1.N, win1_4.index t 0 = 0 ∧ win1_4.index t 1 = t.val / 12 := by decide +kernel
theorem group_of : ∀ t : Fin grid1.N, (grid1.coords t 1).val = t.val % 12 := by decide +kernel
theorem offset_of : ∀ t : Fin grid1.N, k1_off1 (grid1.coords t) 0 = 0 ∧ k1_off1 (grid1.coords t) 1 = 1024 * (t.val % 12) := by decide +kernel
theorem first_iff : ∀ t : Fin grid1.N, first (grid1.coords t) = 1#1 ↔ t.val % 12 = 0 := by decide +kernel

/-- The group and the block of rows of a grid point. -/
abbrev grp (t : Fin cfg1.N) : Fin 12 := ⟨t.val % 12, Nat.mod_lt _ (by decide)⟩
theorem blk_lt (t : Fin cfg1.N) : t.val / 12 < 4 := by have := lt_of_lt_of_eq t.isLt N_1; omega
abbrev blkOf (t : Fin cfg1.N) : Fin 4 := ⟨t.val / 12, blk_lt t⟩
/-- Row `a` of a block of rows. -/
abbrev rowIn (n : Fin 4) (a : ℕ) (h : a < 1024) : Fin 4096 := ⟨1024 * n.val + a, by omega⟩

theorem blk0_eq (h : AllReal (Rot.X m c)) (t : Fin cfg1.N) : blk0 (at5 m) c t = Rot.wholePerm m c := by
  funext y
  unfold blk0
  rw [View.read_apply]
  show at5 m c main_v5_1 _ = _
  rw [at5_v5_1, Rot.final4 m c h]
  refine congrArg (Rot.wholePerm m c) (funext fun a => Fin.ext ?_)
  match a with
  | ⟨0, _⟩ => show win1_0.index t 0 * 256 + 1 * (y 0).val = (y 0).val; rw [(index0 t).1]; omega
  | ⟨1, _⟩ => show win1_0.index t 1 * 12288 + 1 * (y 1).val = (y 1).val; rw [(index0 t).2]; omega

/-- The codes of a grid point. -/
def codesAt (t : Fin cfg1.N) (y : S1024x512.Idx) : BitVec 8 := cd m c (ix2 (n0 := 4096) (n1 := 6144) (rowIn (blkOf t) (y 0).val (y 0).isLt) (pairCol (grp t) (y 1)))

theorem blk1_eq (t : Fin cfg1.N) : blk1 (at5 m) c t = codesAt m c t := by
  funext y
  unfold blk1
  rw [View.read_apply]
  show at5 m c main_arg3 _ = _
  rw [at5_arg3]
  refine congrArg (cd m c) (funext fun b => Fin.ext ?_)
  match b with
  | ⟨0, _⟩ => show win1_1.index t 0 * 1024 + 1 * (y 0).val = 1024 * (t.val / 12) + (y 0).val; rw [(index1 t).1]; omega
  | ⟨1, _⟩ => show win1_1.index t 1 * 512 + 1 * (y 1).val = 512 * (t.val % 12) + (y 1).val; rw [(index1 t).2]; omega

theorem blk2_eq (t : Fin cfg1.N) : blk2 (at5 m) c t = table (bk m c) := by
  funext y
  unfold blk2
  rw [View.read_apply]
  show at5 m c main_v7 _ = _
  rw [at5_v7]
  refine congrArg (table (bk m c)) (funext fun a => Fin.ext ?_)
  match a with
  | ⟨0, _⟩ => show win1_2.index t 0 * 2 + 1 * (y 0).val = (y 0).val; rw [(index2 t).1]; omega
  | ⟨1, _⟩ => show win1_2.index t 1 * 128 + 1 * (y 1).val = (y 1).val; rw [(index2 t).2]; omega

theorem blk3_apply (t : Fin cfg1.N) (a : Fin 512) (g : Fin 128) :
    blk3 (at5 m) c t (ix3 (n0 := 1) (n1 := 512) (n2 := 128) 0 a g) = scales (sc m c) (ix3 (n0 := 4) (n1 := 512) (n2 := 128) (blkOf t) a g) := by
  unfold blk3
  rw [View.read_apply]
  show at5 m c main_v12 _ = _
  rw [at5_v12]
  refine congrArg (scales (sc m c)) (funext fun b => Fin.ext ?_)
  match b with
  | ⟨0, _⟩ => show win1_3.index t 0 * 1 + 1 * 0 = t.val / 12; rw [(index3 t).1]; omega
  | ⟨1, _⟩ => show win1_3.index t 1 * 512 + 1 * a.val = a.val; rw [(index3 t).2.1]; omega
  | ⟨2, _⟩ => show win1_3.index t 2 * 128 + 1 * g.val = g.val; rw [(index3 t).2.2]; omega

/-- A value of the table. -/
theorem part_table (w : Book) (k : ℕ) (hk : k < 256) (p : Fin 2) :
    part (table w (ix2 (n0 := 2) (n1 := 128) ⟨k / 128, by omega⟩ ⟨k % 128, Nat.mod_lt _ (by decide)⟩)) p.val = w (ix2 (n0 := 256) (n1 := 2) ⟨k, hk⟩ p) := by
  rw [table_apply]
  have e : (⟨128 * (k / 128) + k % 128, by omega⟩ : Fin 256) = ⟨k, hk⟩ := Fin.ext (by show 128 * (k / 128) + k % 128 = k; omega)
  simp only [e]
  match p with
  | 0 => exact part_append_zero _ _
  | 1 => exact part_append_one _ _

/-- A scale of a block of rows. -/
theorem part_scales (w : Scales) (n : Fin 4) (a : Fin 1024) (g : Fin 12) :
    part (scales w (ix3 (n0 := 4) (n1 := 512) (n2 := 128) n ⟨wordOf a.val, wordOf_lt a.isLt⟩ ⟨g.val, by omega⟩)) (a.val % 2)
      = w (ix2 (n0 := 4096) (n1 := 12) (rowIn n (rowOf a.val) (rowOf_lt a.isLt)) g) := by
  rw [scales_apply w n ⟨wordOf a.val, wordOf_lt a.isLt⟩ ⟨g.val, by omega⟩ g.isLt]
  have ha := a.isLt
  have e : ∀ j, a.val % 2 = j → scaleRow (512 * n.val + wordOf a.val) j = 1024 * n.val + rowOf a.val := by
    intro j hj
    subst hj
    unfold scaleRow wordOf rowOf
    omega
  rcases (by omega : a.val % 2 = 0 ∨ a.val % 2 = 1) with h | h
  · rw [h, part_append_zero]
    congr 2
    exact Fin.ext (e 0 h)
  · rw [h, part_append_one]
    congr 2
    exact Fin.ext (e 1 h)

/-- The decoded weights at a grid point. -/
theorem weights_eq (t : Fin cfg1.N) (a k : Fin 1024) :
    weights (F := Ideal) (grid1.coords t) (blk2 (at5 m) c t) (blk1 (at5 m) c t) (blk3 (at5 m) c t) (ix2 (n0 := 1024) (n1 := 1024) a k)
      = value (bk m c) (cd m c) (sc m c) (rowIn (blkOf t) (rowOf a.val) (rowOf_lt a.isLt)) (grp t) ⟨pairOf k.val, pairOf_lt k.isLt⟩
        ⟨k.val / 128 % 2, Nat.mod_lt _ (by decide)⟩ := by
  rw [blk1_eq, blk2_eq, weights_apply]
  have hg : (⟨(grid1.coords t 1).val, by have : (grid1.coords t 1).val < 12 := (grid1.coords t 1).isLt; omega⟩ : Fin 128) = ⟨(grp t).val, by have := (grp t).isLt; omega⟩ :=
    Fin.ext (group_of t)
  rw [hg, blk3_apply, part_scales]
  unfold value
  show Ideal.ofBits .bf16 _ * Ideal.ofBits .bf16 _ = _
  congr 2
  exact part_table (bk m c) _ (cd m c _).isLt ⟨k.val / 128 % 2, Nat.mod_lt _ (by decide)⟩

/-- The columns of a group, in the order the weights decode in, are the pairs and the elements of a pair. -/
def pairs : Fin 1024 ≃ Fin 512 × Fin 2 where
  toFun k := (⟨pairOf k.val, pairOf_lt k.isLt⟩, ⟨k.val / 128 % 2, Nat.mod_lt _ (by decide)⟩)
  invFun q := ⟨256 * (q.1.val / 128) + 128 * q.2.val + q.1.val % 128, by omega⟩
  left_inv k := Fin.ext (by
    show 256 * (pairOf k.val / 128) + 128 * (k.val / 128 % 2) + pairOf k.val % 128 = k.val
    unfold pairOf; omega)
  right_inv q := by
    have h1 := q.1.isLt
    have h2 := q.2.isLt
    refine Prod.ext (Fin.ext ?_) (Fin.ext ?_)
    · show pairOf (256 * (q.1.val / 128) + 128 * q.2.val + q.1.val % 128) = q.1.val
      unfold pairOf; omega
    · show (256 * (q.1.val / 128) + 128 * q.2.val + q.1.val % 128) / 128 % 2 = q.2.val
      omega

/-- The place of a column in the order even, then odd. -/
theorem evenOdd_pair (k : ℕ) (h : k < 1024) : 256 * (k / 256) + evenOdd (k % 256) = 2 * pairOf k + k / 128 % 2 := by
  unfold evenOdd pairOf
  split <;> omega

/-- The columns of the activations a point multiplies by. -/
theorem acts_apply (t : Fin cfg1.N) (r : Fin 256) (k : Fin 1024) :
    View.ld (Val := Elt Ideal) (e' := .bf16) (Rot.wholePerm m c) (rect2 (grid1.coords t)) (ix2 (n0 := 256) (n1 := 1024) r k)
      = rot (Rot.X m c) (Rot.sg m c) r (grp t) (2 * pairOf k.val + k.val / 128 % 2) := by
  have e0 : ((rect2 (grid1.coords t)).emb (ix2 (n0 := 256) (n1 := 1024) r k) 0).val = k1_off1 (grid1.coords t) 0 + 1 * r.val := rfl
  have e1 : ((rect2 (grid1.coords t)).emb (ix2 (n0 := 256) (n1 := 1024) r k) 1).val = k1_off1 (grid1.coords t) 1 + 1 * k.val := rfl
  rw [(offset_of t).1] at e0
  rw [(offset_of t).2] at e1
  have hk := k.isLt
  show Rot.wholePerm m c ((rect2 (grid1.coords t)).emb (ix2 (n0 := 256) (n1 := 1024) r k)) = _
  unfold Rot.wholePerm
  rw [← evenOdd_pair k.val hk]
  congr 1
  · exact Fin.ext (by rw [e0]; omega)
  · exact Fin.ext (by show _ / 1024 = t.val % 12; rw [e1]; omega)
  · rw [e1]
    congr 1
    · congr 1; omega
    · congr 1; omega

/-- One point's gain. -/
theorem step_apply (h : AllReal (Rot.X m c)) (t : Fin cfg1.N) (acc : S1024x256.Idx → Ideal .f32) (a : Fin 1024) (r : Fin 256) :
    step (at5 m) c t acc (ix2 (n0 := 1024) (n1 := 256) a r)
      = (if t.val % 12 = 0 then 0 else acc (ix2 (n0 := 1024) (n1 := 256) a r))
        + groupSum (Rot.X m c) (Rot.sg m c) (bk m c) (cd m c) (sc m c) r (rowIn (blkOf t) (rowOf a.val) (rowOf_lt a.isLt)) (grp t) := by
  unfold step gain
  rw [blk0_eq m c h]
  show (if first (grid1.coords t) = 1#1 then _ else acc : S1024x256.Idx → EReal) (ix2 (n0 := 1024) (n1 := 256) a r)
    + FloatOps.matmul (F := Ideal) (DotDims.transposedRhs 1024 1024 256) none _ _ _ (ValueIdx.ix2 a r) = _
  rw [Ideal.matmul_transposedRhs_apply]
  congr 1
  · by_cases h0 : t.val % 12 = 0
    · rw [if_pos ((first_iff t).mpr h0), if_pos h0]
      exact Ideal.ofBits_zero_f32
    · rw [if_neg (fun e => h0 ((first_iff t).mp e)), if_neg h0]
  · refine (congrArg (· + _) Ideal.ofBits_zero_f32).trans ?_
    rw [zero_add]
    unfold groupSum
    rw [← Fintype.sum_prod_type' (fun (i : Fin 512) (p : Fin 2) => rot (Rot.X m c) (Rot.sg m c) r (grp t) (2 * i.val + p.val)
      * value (bk m c) (cd m c) (sc m c) (rowIn (blkOf t) (rowOf a.val) (rowOf_lt a.isLt)) (grp t) i p)]
    refine Fintype.sum_equiv pairs _ _ fun k => ?_
    refine (congrArg₂ (· * ·) (weights_eq m c t a k) ((congrFun (shapeCast_self (s := S256x1024) _ _) (ix2 (n0 := 256) (n1 := 1024) r k)).trans (acts_apply m c t r k))).trans ?_
    exact mul_comm _ _

end Cert.Proof.Dec

end
-- ==== Proof.KerY.lean ====
/-
  The kernel's two results, over the extended reals: the linear layer of the rotated activations, and the rotated activations.
-/
module

public import proofs.«01_k».proof.Proof.KerDec

@[expose] public section

set_option maxRecDepth 16384

noncomputable section

namespace Cert.Proof.Dec

open Cert.KernelIdeal Cert.KernelIdeal.Gen
open Idealize.ShloMosaic
open Idealize.ShloMosaic.TcCoe
open Idealize.SL.Sem

variable (m : (ℓ : Loc nD τ sig) → Buf (Elt Ideal) ℓ) (c : Dev nD)

/-- Group `g`'s part of a result, for any number `g`. -/
def partAt (r : Fin 256) (n : Fin 4096) (g : ℕ) : EReal :=
  if h : g < 12 then groupSum (Rot.X m c) (Rot.sg m c) (bk m c) (cd m c) (sc m c) r n ⟨g, h⟩ else 0

/-- The accumulator after group `g` of a block of rows: the parts of the groups so far. -/
theorem acc_apply (h : AllReal (Rot.X m c)) (n : Fin 4) (a : Fin 1024) (r : Fin 256) : ∀ g : ℕ, g < 12 →
    accBefore (at5 m) c (12 * n.val + g + 1) (ix2 (n0 := 1024) (n1 := 256) a r)
      = ∑ g' ∈ Finset.range (g + 1), partAt m c r (rowIn n (rowOf a.val) (rowOf_lt a.isLt)) g' := by
  have point : ∀ g : ℕ, (hg : g < 12) → accBefore (at5 m) c (12 * n.val + g + 1) (ix2 (n0 := 1024) (n1 := 256) a r)
      = (if g = 0 then 0 else accBefore (at5 m) c (12 * n.val + g) (ix2 (n0 := 1024) (n1 := 256) a r)) + partAt m c r (rowIn n (rowOf a.val) (rowOf_lt a.isLt)) g := by
    intro g hg
    have ht : 12 * n.val + g < cfg1.N := by rw [show cfg1.N = 48 from N_1]; omega
    refine (congrFun (accBefore_succ (at5 m) c ⟨12 * n.val + g, ht⟩) _).trans ((step_apply m c h ⟨12 * n.val + g, ht⟩ _ a r).trans ?_)
    unfold partAt
    rw [dif_pos hg]
    have hb : blkOf ⟨12 * n.val + g, ht⟩ = n := Fin.ext (by show (12 * n.val + g) / 12 = n.val; omega)
    have hgr : grp ⟨12 * n.val + g, ht⟩ = ⟨g, hg⟩ := Fin.ext (by show (12 * n.val + g) % 12 = g; omega)
    have hm : (12 * n.val + g) % 12 = g := by omega
    rw [hb, hgr]
    show (if (12 * n.val + g) % 12 = 0 then _ else _) + _ = _
    rw [hm]
  intro g
  induction g with
  | zero =>
    intro hg
    rw [point 0 hg, if_pos rfl, zero_add, Finset.sum_range_one]
  | succ g ih =>
    intro hg
    rw [point (g + 1) hg, if_neg (Nat.succ_ne_zero g), Finset.sum_range_succ _ (g + 1)]
    exact congrArg (· + _) (ih (by omega))

/-- The accumulator after the last group. -/
theorem acc_last (h : AllReal (Rot.X m c)) (n : Fin 4) (a : Fin 1024) (r : Fin 256) :
    accBefore (at5 m) c (12 * n.val + 11 + 1) (ix2 (n0 := 1024) (n1 := 256) a r)
      = lin (Rot.X m c) (Rot.sg m c) (bk m c) (cd m c) (sc m c) r (rowIn n (rowOf a.val) (rowOf_lt a.isLt)) := by
  rw [acc_apply m c h n a r 11 (by decide), Finset.sum_range]
  unfold lin
  refine Finset.sum_congr rfl fun g _ => ?_
  unfold partAt
  rw [dif_pos g.isLt]

/-- The product, whole, its columns in the order the weights decode in. -/
def wholeY : S256x4096.Idx → Ideal .bf16 := fun j =>
  lin (Rot.X m c) (Rot.sg m c) (bk m c) (cd m c) (sc m c) (j 0)
    (rowIn ⟨(j 1).val / 1024, by have : (j 1).val < 4096 := (j 1).isLt; omega⟩ (rowOf ((j 1).val % 1024)) (rowOf_lt (Nat.mod_lt _ (by decide))))

theorem rowIn_congr {n n' : Fin 4} {a a' : ℕ} (h : a < 1024) (h' : a' < 1024) (hn : n.val = n'.val) (ha : a = a') : rowIn n a h = rowIn n' a' h' := by
  refine Fin.ext ?_
  show 1024 * n.val + a = 1024 * n'.val + a'
  rw [hn, ha]

theorem flushed4 (h : AllReal (Rot.X m c)) (t : Fin cfg1.N) (hf : t.val % 12 = 11) :
    (dat (at5 m) c).flushed 4 t = ((cfg1.win 4).blk t).view.read (Elt Ideal) (wholeY m c) := by
  show result (accBefore (at5 m) c (t.val + 1)) = _
  funext y
  obtain ⟨r, a, rfl⟩ : ∃ (r : Fin 256) (a : Fin 1024), y = ix2 (n0 := 256) (n1 := 1024) r a := ⟨y 0, y 1, ValueIdx.eq_ix2 y⟩
  have ha := a.isLt
  have et : t.val + 1 = 12 * (blkOf t).val + 11 + 1 := by show t.val + 1 = 12 * (t.val / 12) + 11 + 1; omega
  have el : result (accBefore (at5 m) c (t.val + 1)) (ix2 (n0 := 256) (n1 := 1024) r a)
      = lin (Rot.X m c) (Rot.sg m c) (bk m c) (cd m c) (sc m c) r (rowIn (blkOf t) (rowOf a.val) (rowOf_lt a.isLt)) := by
    rw [← acc_last m c h (blkOf t) a r, et]
    unfold result
    exact transpose_apply [1, 0] _ (by decide : S1024x256.Transposes [1, 0] S256x1024) (ix2 (n0 := 256) (n1 := 1024) r a) (ix2 (n0 := 1024) (n1 := 256) a r)
      (fun b => by match b with | ⟨0, _⟩ => rfl | ⟨1, _⟩ => rfl)
  refine el.trans ?_
  rw [View.read_apply]
  have e0 : (((cfg1.win 4).blk t).view.emb (ix2 (n0 := 256) (n1 := 1024) r a) 0).val = win1_4.index t 0 * 256 + 1 * r.val := rfl
  have e1 : (((cfg1.win 4).blk t).view.emb (ix2 (n0 := 256) (n1 := 1024) r a) 1).val = win1_4.index t 1 * 1024 + 1 * a.val := rfl
  rw [(index4 t).1] at e0
  rw [(index4 t).2] at e1
  show _ = wholeY m c _
  unfold wholeY
  congr 1
  · exact Fin.ext (by rw [e0]; omega)
  · refine rowIn_congr _ _ ?_ ?_
    · show t.val / 12 = _ / 1024
      rw [e1]; omega
    · congr 1
      rw [e1]; omega

/-- The product's array after the region. -/
theorem final4 (h : AllReal (Rot.X m c)) : (dat (at5 m) c).arrAt 4 cfg1.N = wholeY m c :=
  (dat (at5 m) c).arrAt_eq_of_cover 4 (wholeY m c) (fun t hf => flushed4 m c h t ((flush1_4 t).mp hf)) fun j =>
    have h0 : (j 0).val < 256 := (j 0).isLt
    have h1 : (j 1).val < 4096 := (j 1).isLt
    have ht : 12 * ((j 1).val / 1024) + 11 < cfg1.N := by rw [show cfg1.N = 48 from N_1]; omega
    ⟨⟨12 * ((j 1).val / 1024) + 11, ht⟩, (flush1_4 _).mpr (by show (12 * ((j 1).val / 1024) + 11) % 12 = 11; omega), by
      show j ∈ ((View.whole main_v13).slice (win1_4.rect ⟨12 * ((j 1).val / 1024) + 11, ht⟩)).set
      rw [View.set_slice_whole, Rect.mem_set_unit]
      intro a
      match a with
      | ⟨0, _⟩ => show win1_4.index ⟨12 * ((j 1).val / 1024) + 11, ht⟩ 0 * 256 ≤ (j 0).val ∧ (j 0).val < win1_4.index ⟨12 * ((j 1).val / 1024) + 11, ht⟩ 0 * 256 + 256; rw [(index4 _).1]; omega
      | ⟨1, _⟩ => show win1_4.index ⟨12 * ((j 1).val / 1024) + 11, ht⟩ 1 * 1024 ≤ (j 1).val ∧ (j 1).val < win1_4.index ⟨12 * ((j 1).val / 1024) + 11, ht⟩ 1 * 1024 + 1024; rw [(index4 _).2]; show (12 * ((j 1).val / 1024) + 11) / 12 * 1024 ≤ _ ∧ _ < (12 * ((j 1).val / 1024) + 11) / 12 * 1024 + 1024; omega⟩

/-- The column a row of weights decodes to. -/
def placeOf (n : ℕ) : ℕ := 32 * (n / 32) + 16 * (n / 2 % 2) + 2 * (n % 32 / 4) + n % 2

theorem placeOf_lt {n : ℕ} (h : n < 4096) : placeOf n < 4096 := by unfold placeOf; omega

theorem rowOf_placeOf (n : ℕ) (h : n < 4096) : 1024 * (placeOf n / 1024) + rowOf (placeOf n % 1024) = n := by
  obtain ⟨R, i, q, j, hR, hi, hq, hj, rfl⟩ : ∃ R i q j : ℕ, R < 128 ∧ i < 8 ∧ q < 2 ∧ j < 2 ∧ n = 32 * R + 4 * i + 2 * q + j :=
    ⟨n / 32, n % 32 / 4, n / 2 % 2, n % 2, by omega, by omega, by omega, by omega, by omega⟩
  have e : placeOf (32 * R + 4 * i + 2 * q + j) = 32 * R + 16 * q + 2 * i + j := by unfold placeOf; omega
  rw [e]
  have e1 : (32 * R + 16 * q + 2 * i + j) / 1024 = R / 32 := by omega
  have e2 : (32 * R + 16 * q + 2 * i + j) % 1024 = 32 * (R % 32) + 16 * q + 2 * i + j := by omega
  rw [e1, e2]
  unfold rowOf
  omega

/-- The first result at an index. -/
theorem result_y (h : AllReal (Rot.X m c)) (b : Fin 2) (s : Fin 128) (n : Fin 4096) :
    V7 m (outs m) c main_v16 (ix3 (n0 := 2) (n1 := 128) (n2 := 4096) b s n)
      = lin (Rot.X m c) (Rot.sg m c) (bk m c) (cd m c) (sc m c) ⟨128 * b.val + s.val, by omega⟩ n := by
  rw [final_v16, final4 m c h]
  refine (shapeCast_apply _ shapeCasts_S256x128x8x2x2_S2x128x4096 _
    (ix5 (n0 := 256) (n1 := 128) (n2 := 8) (n3 := 2) (n4 := 2) ⟨128 * b.val + s.val, by omega⟩ ⟨n.val / 32, by omega⟩ ⟨n.val % 32 / 4, by omega⟩ ⟨n.val / 2 % 2, by omega⟩ ⟨n.val % 2, by omega⟩) ?_).trans ?_
  · rw [Shape.rowMajor_val_five, Shape.rowMajor_val_three]
    show ((((128 * b.val + s.val) * 128 + n.val / 32) * 8 + n.val % 32 / 4) * 2 + n.val / 2 % 2) * 2 + n.val % 2 = (b.val * 128 + s.val) * 4096 + n.val
    omega
  refine (transpose_apply _ _ transposes_S256x128x2x8x2_S256x128x8x2x2_0_1_3_2_4 _
    (ix5 (n0 := 256) (n1 := 128) (n2 := 2) (n3 := 8) (n4 := 2) ⟨128 * b.val + s.val, by omega⟩ ⟨n.val / 32, by omega⟩ ⟨n.val / 2 % 2, by omega⟩ ⟨n.val % 32 / 4, by omega⟩ ⟨n.val % 2, by omega⟩) ?_).trans ?_
  · intro a
    match a with
    | ⟨0, _⟩ => rfl
    | ⟨1, _⟩ => rfl
    | ⟨2, _⟩ => rfl
    | ⟨3, _⟩ => rfl
    | ⟨4, _⟩ => rfl
  refine (shapeCast_apply _ shapeCasts_S256x4096_S256x128x2x8x2 _ (ix2 (n0 := 256) (n1 := 4096) ⟨128 * b.val + s.val, by omega⟩ ⟨placeOf n.val, placeOf_lt n.isLt⟩) ?_).trans ?_
  · rw [Shape.rowMajor_val_five, Shape.rowMajor_val_two]
    show (128 * b.val + s.val) * 4096 + placeOf n.val = ((((128 * b.val + s.val) * 128 + n.val / 32) * 2 + n.val / 2 % 2) * 8 + n.val % 32 / 4) * 2 + n.val % 2
    unfold placeOf
    omega
  unfold wholeY
  congr 1
  exact Fin.ext (rowOf_placeOf n.val n.isLt)

/-- The second result at an index. -/
theorem result_x (h : AllReal (Rot.X m c)) (b : Fin 2) (s : Fin 128) (k : Fin 12288) :
    V7 m (outs m) c main_v17 (ix3 (n0 := 2) (n1 := 128) (n2 := 12288) b s k)
      = rot (Rot.X m c) (Rot.sg m c) ⟨128 * b.val + s.val, by omega⟩ ⟨k.val / 1024, by omega⟩ (k.val % 1024) := by
  rw [final_v17, Rot.final3 m c h]
  refine (shapeCast_apply _ shapeCasts_S256x12288_S2x128x12288 _ (ix2 (n0 := 256) (n1 := 12288) ⟨128 * b.val + s.val, by omega⟩ k) ?_).trans ?_
  · rw [Shape.rowMajor_val_three, Shape.rowMajor_val_two]
    show (128 * b.val + s.val) * 12288 + k.val = (b.val * 128 + s.val) * 12288 + k.val
    omega
  rfl

end Cert.Proof.Dec

end
-- ==== Proof.RefRot.lean ====
/-
  The reference's rotated activations read at an index: the rotation of the arguments.
-/
module

public import proofs.«01_k».proof.Proof.Spec
public import proofs.«01_k».proof.Proof.Gen.ReferenceIdeal.Read

@[expose] public section

set_option maxRecDepth 16384

noncomputable section

namespace Cert.Proof.Ref

open Cert.ReferenceIdeal Cert.ReferenceIdeal.Gen Cert.ReferenceIdeal.Read
open Idealize.ShloMosaic

/-- The reference's matrix at an index. -/
theorem matrix_apply (i k : Fin 1024) : val_main_v17 (F := Ideal) (ix2 (n0 := 1024) (n1 := 1024) i k) = (((sgn (i.val &&& k.val) : ℤ) : ℝ) : EReal) := by
  have e : val_main_v17 (F := Ideal) (ix2 (n0 := 1024) (n1 := 1024) i k)
      = (((sgnWord (IntOp.andi (BitVec.ofNat 32 i.val) (BitVec.ofNat 32 k.val))).toInt : ℝ) : EReal) := rfl
  rw [e, and_word]
  rfl

variable (X : Acts) (sg : Signs)

/-- The activations by groups. -/
theorem groups_apply (r : Fin 256) (g : Fin 12) (i : Fin 1024) :
    val_main_v22 (F := Ideal) X (ix4 (n0 := 2) (n1 := 128) (n2 := 12) (n3 := 1024) ⟨r.val / 128, by omega⟩ ⟨r.val % 128, by omega⟩ g i) = act X r (col g i) := by
  unfold val_main_v22 act
  refine shapeCast_apply X shapeCasts_S2x128x12288_S2x128x12x1024 _ _ ?_
  rw [Shape.rowMajor_val_three, Shape.rowMajor_val_four]
  show (r.val / 128 * 128 + r.val % 128) * 12288 + (1024 * g.val + i.val) = ((r.val / 128 * 128 + r.val % 128) * 12 + g.val) * 1024 + i.val
  omega

/-- The signs by groups. -/
theorem signs_apply (b : Fin 2) (s : Fin 128) (g : Fin 12) (i : Fin 1024) :
    val_main_v24 (F := Ideal) sg (ix4 (n0 := 2) (n1 := 128) (n2 := 12) (n3 := 1024) b s g i) = (((sign sg (col g i) : ℤ) : ℝ) : EReal) := by
  rw [val_main_v24_apply, val_main_v23_apply]
  unfold val_main_v21
  refine (shapeCast_apply _ shapeCasts_S12288_S12x1024 _ (ix1 (n0 := 12288) (col g i)) ?_).trans rfl
  rw [Shape.rowMajor_val_one, Shape.rowMajor_val_two]
  show 1024 * g.val + i.val = g.val * 1024 + i.val
  omega

/-- The rotation at an index. -/
theorem rotated_apply (h : AllReal X) (r : Fin 256) (g : Fin 12) (k : Fin 1024) :
    val_main_v29 (F := Ideal) X sg (ix4 (n0 := 2) (n1 := 128) (n2 := 12) (n3 := 1024) ⟨r.val / 128, by omega⟩ ⟨r.val % 128, by omega⟩ g k) = rot X sg r g k.val := by
  have e : val_main_v29 (F := Ideal) X sg (ix4 (n0 := 2) (n1 := 128) (n2 := 12) (n3 := 1024) ⟨r.val / 128, by omega⟩ ⟨r.val % 128, by omega⟩ g k)
      = val_main_v26 (F := Ideal) X sg (ix4 (n0 := 2) (n1 := 128) (n2 := 12) (n3 := 1024) ⟨r.val / 128, by omega⟩ ⟨r.val % 128, by omega⟩ g k) * Rot.norm := rfl
  rw [e, val_main_v26_apply]
  unfold rot Rot.transform
  rw [Rot.coe_sum]
  congr 1
  refine Finset.sum_congr rfl fun i _ => ?_
  have el : lidx_main_v26 (ix4 (n0 := 2) (n1 := 128) (n2 := 12) (n3 := 1024) ⟨r.val / 128, by omega⟩ ⟨r.val % 128, by omega⟩ g k) i
      = ix4 (n0 := 2) (n1 := 128) (n2 := 12) (n3 := 1024) ⟨r.val / 128, by omega⟩ ⟨r.val % 128, by omega⟩ g i :=
    funext fun a => by match a with | ⟨0, _⟩ => rfl | ⟨1, _⟩ => rfl | ⟨2, _⟩ => rfl | ⟨3, _⟩ => rfl
  have er : ridx_main_v26 (ix4 (n0 := 2) (n1 := 128) (n2 := 12) (n3 := 1024) ⟨r.val / 128, by omega⟩ ⟨r.val % 128, by omega⟩ g k) i
      = ix2 (n0 := 1024) (n1 := 1024) i k :=
    funext fun a => by match a with | ⟨0, _⟩ => rfl | ⟨1, _⟩ => rfl
  rw [el, er, matrix_apply, EReal.coe_mul, ← signed_entry X sg h]
  congr 1
  show val_main_v22 (F := Ideal) X _ * val_main_v24 (F := Ideal) sg _ = _
  rw [groups_apply, signs_apply]

end Cert.Proof.Ref

end
-- ==== Proof.RefY.lean ====
/-
  The reference's two results read at an index: the linear layer of the rotated activations, and the rotated activations.
-/
module

public import proofs.«01_k».proof.Proof.RefRot
public import proofs.«01_k».proof.Proof.SpecY

@[expose] public section

set_option maxRecDepth 16384

noncomputable section

namespace Cert.Proof.Ref

open Cert.ReferenceIdeal Cert.ReferenceIdeal.Gen Cert.ReferenceIdeal.Read
open Idealize.ShloMosaic

/-! ## A contraction of three axes -/

/-- A contraction index of three axes is the triple of its coordinates. -/
def contrEquiv3 {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

section Symm

variable {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) (p : Fin n0 × Fin n1 × Fin n2)

theorem contrEquiv3_symm_val0 : (((contrEquiv3 D n0 n1 n2 hr h0 h1 h2).symm p) ⟨0, by omega⟩ : ℕ) = p.1.val := by simp [contrEquiv3]
theorem contrEquiv3_symm_val1 : (((contrEquiv3 D n0 n1 n2 hr h0 h1 h2).symm p) ⟨1, by omega⟩ : ℕ) = p.2.1.val := by simp [contrEquiv3]
theorem contrEquiv3_symm_val2 : (((contrEquiv3 D n0 n1 n2 hr h0 h1 h2).symm p) ⟨2, by omega⟩ : ℕ) = p.2.2.val := by simp [contrEquiv3]

end Symm

/-- The reference's product at an index. -/
theorem product_apply (L : FVec Ideal S2x128x12x512x2 .bf16) (R : FVec Ideal S4096x12x512x2 .bf16) (b : Fin 2) (s : Fin 128) (n : Fin 4096) :
    (Host.dotGeneral dot_S2x128x12x512x2_S4096x12x512x2_S2x128x4096_234_123_01_0_n_n none L R : FVec Ideal S2x128x4096 .f32) (ix3 (n0 := 2) (n1 := 128) (n2 := 4096) b s n)
      = ∑ g : Fin 12, ∑ i : Fin 512, ∑ p : Fin 2, L (ix5 (n0 := 2) (n1 := 128) (n2 := 12) (n3 := 512) (n4 := 2) b s g i p) * R (ix4 (n0 := 4096) (n1 := 12) (n2 := 512) (n3 := 2) n g i p) := by
  let D := dot_S2x128x12x512x2_S4096x12x512x2_S2x128x4096_234_123_01_0_n_n
  have hr : D.contr.rank = 3 := rfl
  have c0 : D.contr.size ⟨0, by rw [hr]; omega⟩ = 12 := rfl
  have c1 : D.contr.size ⟨1, by rw [hr]; omega⟩ = 512 := rfl
  have c2 : D.contr.size ⟨2, by rw [hr]; omega⟩ = 2 := rfl
  refine (Ideal.dotGeneral_apply D none _ L R _).trans ?_
  rw [← Equiv.sum_comp (contrEquiv3 D 12 512 2 hr c0 c1 c2).symm, Fintype.sum_prod_type]
  refine Finset.sum_congr rfl fun g _ => ?_
  rw [Fintype.sum_prod_type]
  refine Finset.sum_congr rfl fun i _ => Finset.sum_congr rfl fun p _ => ?_
  have h0 := contrEquiv3_symm_val0 D 12 512 2 hr c0 c1 c2 (g, i, p)
  have h1 := contrEquiv3_symm_val1 D 12 512 2 hr c0 c1 c2 (g, i, p)
  have h2 := contrEquiv3_symm_val2 D 12 512 2 hr c0 c1 c2 (g, i, p)
  have el : D.lhsIdx (ix3 (n0 := 2) (n1 := 128) (n2 := 4096) b s n) ((contrEquiv3 D 12 512 2 hr c0 c1 c2).symm (g, i, p))
      = ix5 (n0 := 2) (n1 := 128) (n2 := 12) (n3 := 512) (n4 := 2) b s g i p := by
    funext a; apply Fin.ext
    match a with
    | ⟨0, _⟩ => rfl
    | ⟨1, _⟩ => rfl
    | ⟨2, _⟩ => exact h0
    | ⟨3, _⟩ => exact h1
    | ⟨4, _⟩ => exact h2
  have er : D.rhsIdx (ix3 (n0 := 2) (n1 := 128) (n2 := 4096) b s n) ((contrEquiv3 D 12 512 2 hr c0 c1 c2).symm (g, i, p))
      = ix4 (n0 := 4096) (n1 := 12) (n2 := 512) (n3 := 2) n g i p := by
    funext a; apply Fin.ext
    match a with
    | ⟨0, _⟩ => rfl
    | ⟨1, _⟩ => exact h0
    | ⟨2, _⟩ => exact h1
    | ⟨3, _⟩ => exact h2
  rw [el, er]

/-! ## The weights -/

/-- A code as a position in the codebook. -/
theorem position_fin : ∀ v : Fin 256, min (Scalar.select (IntOp.cmpi .slt ((BitVec.ofNat 8 v.val).setWidth 32) 0#32)
    (IntOp.addi ((BitVec.ofNat 8 v.val).setWidth 32) 256#32) ((BitVec.ofNat 8 v.val).setWidth 32)).toInt.toNat 255 = v.val := by decide +kernel

theorem position (v : BitVec 8) : min (Scalar.select (IntOp.cmpi .slt (v.setWidth 32) 0#32) (IntOp.addi (v.setWidth 32) 256#32) (v.setWidth 32)).toInt.toNat 255 = v.toNat := by
  have h := position_fin ⟨v.toNat, v.isLt⟩
  rw [BitVec.ofNat_toNat, BitVec.setWidth_eq] at h
  exact h

/-- A gather of whole rows of the codebook, at an index. -/
theorem gather_apply {α : Type} (x : S256x2.Idx → α) (idx : IVec S4096x6144x1 32) (n : Fin 4096) (k : Fin 6144) (p : Fin 2) :
    Host.gather gather_S256x2_S4096x6144x1_S4096x6144x2_2_0_n_n_0_2_12 x idx (ix3 (n0 := 4096) (n1 := 6144) (n2 := 2) n k p)
      = x (ix2 (n0 := 256) (n1 := 2) ⟨min (idx (ix3 (n0 := 4096) (n1 := 6144) (n2 := 1) n k 0)).toInt.toNat 255, by omega⟩ p) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin S256x2.rank) ∈ gather_S256x2_S4096x6144x1_S4096x6144x2_2_0_n_n_0_2_12.startIndexMap from List.mem_singleton.mpr rfl)]
    have hsi : gather_S256x2_S4096x6144x1_S4096x6144x2_2_0_n_n_0_2_12.siIdx (ix3 (n0 := 4096) (n1 := 6144) (n2 := 2) n k p)
        ⟨List.idxOf (0 : Fin 2) gather_S256x2_S4096x6144x1_S4096x6144x2_2_0_n_n_0_2_12.startIndexMap,
        List.idxOf_lt_length_iff.2 (List.mem_singleton.mpr rfl)⟩ = ix3 (n0 := 4096) (n1 := 6144) (n2 := 1) n k 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin S256x2.rank) ∉ gather_S256x2_S4096x6144x1_S4096x6144x2_2_0_n_n_0_2_12.startIndexMap from (by decide : (1 : Fin 2) ∉ [(0 : Fin 2)]))]
    unfold GatherDims.offCoord
    rw [dif_pos ((GatherDims.mem_sKept gather_S256x2_S4096x6144x1_S4096x6144x2_2_0_n_n_0_2_12 1).mpr ⟨(by decide : (1 : Fin 2) ∉ [(0 : Fin 2)]), List.not_mem_nil⟩)]
    exact (Nat.zero_add _).trans rfl

variable (X : Acts) (sg : Signs) (bk : Book) (cd : Codes) (sc : Scales)

/-- A value of the codebook, found by its code. -/
theorem entry_apply (n : Fin 4096) (k : Fin 6144) (p : Fin 2) :
    val_main_v37 (F := Ideal) bk cd (ix3 (n0 := 4096) (n1 := 6144) (n2 := 2) n k p)
      = Ideal.ofBits .bf16 (bk (ix2 (n0 := 256) (n1 := 2) ⟨(cd (ix2 (n0 := 4096) (n1 := 6144) n k)).toNat, (cd (ix2 (n0 := 4096) (n1 := 6144) n k)).isLt⟩ p)) := by
  unfold val_main_v37
  rw [gather_apply]
  show Ideal.ofBits .bf16 (bk _) = _
  congr 2
  have ei : val_main_v36 (F := Ideal) cd (ix3 (n0 := 4096) (n1 := 6144) (n2 := 1) n k 0)
      = Scalar.select (IntOp.cmpi .slt ((cd (ix2 (n0 := 4096) (n1 := 6144) n k)).setWidth 32) 0#32) (IntOp.addi ((cd (ix2 (n0 := 4096) (n1 := 6144) n k)).setWidth 32) 256#32)
        ((cd (ix2 (n0 := 4096) (n1 := 6144) n k)).setWidth 32) := by
    rw [val_main_v36_apply]
    have ex : idx_main_v36 (ix3 (n0 := 4096) (n1 := 6144) (n2 := 1) n k 0) = ix2 (n0 := 4096) (n1 := 6144) n k :=
      funext fun a => by match a with | ⟨0, _⟩ => rfl | ⟨1, _⟩ => rfl
    rw [ex, val_main_v35_apply, val_main_v32_apply, val_main_v34_apply, val_main_v30_apply, val_main_v31_apply, val_main_v33_apply]
    rfl
  funext a
  match a with
  | ⟨0, _⟩ => exact Fin.ext (by show min (BitVec.toInt _).toNat 255 = _; rw [ei]; exact position _)
  | ⟨1, _⟩ => rfl

/-- A weight of the reference. -/
theorem weight_apply (n : Fin 4096) (g : Fin 12) (i : Fin 512) (p : Fin 2) :
    val_main_v41 (F := Ideal) bk cd sc (ix4 (n0 := 4096) (n1 := 12) (n2 := 512) (n3 := 2) n g i p) = value bk cd sc n g i p := by
  have hn := n.isLt; have hg := g.isLt; have hi := i.isLt; have hp := p.isLt
  rw [val_main_v41_apply, val_main_v38_apply, val_main_v40_apply, val_main_v39_apply, val_main_v1_apply]
  have e1 : idx_main_v38 (ix4 (n0 := 4096) (n1 := 12) (n2 := 512) (n3 := 2) n g i p) = ix3 (n0 := 4096) (n1 := 6144) (n2 := 2) n (pairCol g i) p :=
    funext fun a => by
      match a with
      | ⟨0, _⟩ => exact Fin.ext (by show (((n.val * 12 + g.val) * 512 + i.val) * 2 + p.val) / 12288 = n.val; omega)
      | ⟨1, _⟩ => exact Fin.ext (by show (((n.val * 12 + g.val) * 512 + i.val) * 2 + p.val) / 2 % 6144 = 512 * g.val + i.val; omega)
      | ⟨2, _⟩ => exact Fin.ext (by show (((n.val * 12 + g.val) * 512 + i.val) * 2 + p.val) % 2 = p.val; omega)
  have e2 : idx_main_v39 (idx_main_v40 (ix4 (n0 := 4096) (n1 := 12) (n2 := 512) (n3 := 2) n g i p)) = ix2 (n0 := 4096) (n1 := 12) n g :=
    funext fun a => by match a with | ⟨0, _⟩ => rfl | ⟨1, _⟩ => rfl
  rw [e1, e2, entry_apply]
  rfl

/-- The rotated activations by pairs. -/
theorem pairs_apply (h : AllReal X) (b : Fin 2) (s : Fin 128) (g : Fin 12) (i : Fin 512) (p : Fin 2) :
    val_main_v42 (F := Ideal) X sg (ix5 (n0 := 2) (n1 := 128) (n2 := 12) (n3 := 512) (n4 := 2) b s g i p)
      = rot X sg ⟨128 * b.val + s.val, by omega⟩ g (2 * i.val + p.val) := by
  rw [← rotated_apply X sg h ⟨128 * b.val + s.val, by omega⟩ g ⟨2 * i.val + p.val, by omega⟩]
  unfold val_main_v42
  refine shapeCast_apply _ shapeCasts_S2x128x12x1024_S2x128x12x512x2 _ _ ?_
  rw [Shape.rowMajor_val_four, Shape.rowMajor_val_five]
  show (((128 * b.val + s.val) / 128 * 128 + (128 * b.val + s.val) % 128) * 12 + g.val) * 1024 + (2 * i.val + p.val)
    = (((b.val * 128 + s.val) * 12 + g.val) * 512 + i.val) * 2 + p.val
  omega

/-- The first result at an index. -/
theorem result_y (h : AllReal X) (b : Fin 2) (s : Fin 128) (n : Fin 4096) :
    val_main_v44 (F := Ideal) X sg bk cd sc (ix3 (n0 := 2) (n1 := 128) (n2 := 4096) b s n) = lin X sg bk cd sc ⟨128 * b.val + s.val, by omega⟩ n := by
  rw [val_main_v44_apply]
  show val_main_v43 (F := Ideal) X sg bk cd sc _ = _
  unfold val_main_v43
  rw [product_apply]
  unfold lin groupSum
  refine Finset.sum_congr rfl fun g _ => Finset.sum_congr rfl fun i _ => Finset.sum_congr rfl fun p _ => ?_
  rw [pairs_apply X sg h, weight_apply]

/-- The second result at an index. -/
theorem result_x (h : AllReal X) (b : Fin 2) (s : Fin 128) (k : Fin 12288) :
    val_main_v45 (F := Ideal) X sg (ix3 (n0 := 2) (n1 := 128) (n2 := 12288) b s k)
      = rot X sg ⟨128 * b.val + s.val, by omega⟩ ⟨k.val / 1024, by omega⟩ (k.val % 1024) := by
  rw [← rotated_apply X sg h ⟨128 * b.val + s.val, by omega⟩ ⟨k.val / 1024, by omega⟩ ⟨k.val % 1024, by omega⟩]
  unfold val_main_v45
  refine shapeCast_apply _ shapeCasts_S2x128x12x1024_S2x128x12288 _ _ ?_
  rw [Shape.rowMajor_val_four, Shape.rowMajor_val_three]
  show (((128 * b.val + s.val) / 128 * 128 + (128 * b.val + s.val) % 128) * 12 + k.val / 1024) * 1024 + k.val % 1024 = (b.val * 128 + s.val) * 12288 + k.val
  omega

end Cert.Proof.Ref

end
-- ==== Proof.lean ====
module

public import proofs.«01_k».proof.Defs
public import proofs.«01_k».proof.Proof.Frame
public import proofs.«01_k».proof.Proof.Bits.Frame
public import proofs.«01_k».proof.Proof.KerY
public import proofs.«01_k».proof.Proof.RefY
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

/-- The reference terminates, its arguments and semaphores as they were. -/
theorem reference_framed (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The one shape fact of the precondition. -/
theorem pre_facts : Cert.Pre_finite_x.Facts where
  bcast_S_S2x128x12288 := by decide +kernel

/-- An activation below infinity in absolute value is a real number. -/
theorem real_of_lt (x : EReal) (h : Ideal.cmp .olt (max x (-x)) (Ideal.ofBits .bf16 0x7F80#16) = 1#1) : x = (x.toReal : EReal) := by
  have htop : Ideal.ofBits .bf16 0x7F80#16 = ⊤ := by simp [Ideal.ofBits, Ideal.ieee]
  rw [htop] at h
  induction x with
  | bot => simp [Ideal.cmp] at h
  | top => simp [Ideal.cmp] at h
  | coe r => rw [EReal.toReal_coe]

/-- The precondition says that every activation is real. -/
theorem allReal_of_pre [Cert.Pre_finite_x.Facts] (m : (ℓ : Loc Cert.KernelIdeal.nD Cert.KernelIdeal.τ Cert.KernelIdeal.sig) → Buf (Elt Ideal) ℓ)
    (h : Cert.Pre_KernelIdeal_finite_x m) (c : Dev Cert.KernelIdeal.nD) : AllReal (Rot.X m c) := fun i =>
  real_of_lt _ (congrFun (h c) i)

/-- The first results agree, on real activations. -/
theorem same_y (m : (ℓ : Loc Cert.KernelIdeal.nD Cert.KernelIdeal.τ Cert.KernelIdeal.sig) → Buf (Elt Ideal) ℓ) (c : Dev Cert.KernelIdeal.nD) (h : AllReal (Rot.X m c)) :
    Cert.ReferenceIdeal.Read.val_main_v44 (F := Ideal) (Rot.X m c) (Rot.sg m c) (Dec.bk m c) (Dec.cd m c) (Dec.sc m c)
      = Cert.KernelIdeal.Gen.V7 m (outs m) c Cert.KernelIdeal.main_v16 := by
  funext i
  obtain ⟨b, s, n, rfl⟩ : ∃ (b : Fin 2) (s : Fin 128) (n : Fin 4096), i = ix3 (n0 := 2) (n1 := 128) (n2 := 4096) b s n :=
    ⟨i 0, i 1, i 2, funext fun a => by match a with | ⟨0, _⟩ => rfl | ⟨1, _⟩ => rfl | ⟨2, _⟩ => rfl⟩
  exact (Ref.result_y _ _ _ _ _ h b s n).trans (Dec.result_y m c h b s n).symm

/-- The second results agree, on real activations. -/
theorem same_x (m : (ℓ : Loc Cert.KernelIdeal.nD Cert.KernelIdeal.τ Cert.KernelIdeal.sig) → Buf (Elt Ideal) ℓ) (c : Dev Cert.KernelIdeal.nD) (h : AllReal (Rot.X m c)) :
    Cert.ReferenceIdeal.Read.val_main_v45 (F := Ideal) (Rot.X m c) (Rot.sg m c)
      = Cert.KernelIdeal.Gen.V7 m (outs m) c Cert.KernelIdeal.main_v17 := by
  funext i
  obtain ⟨b, s, k, rfl⟩ : ∃ (b : Fin 2) (s : Fin 128) (k : Fin 12288), i = ix3 (n0 := 2) (n1 := 128) (n2 := 12288) b s k :=
    ⟨i 0, i 1, i 2, funext fun a => by match a with | ⟨0, _⟩ => rfl | ⟨1, _⟩ => rfl | ⟨2, _⟩ => rfl⟩
  exact (Ref.result_x _ _ h b s k).trans (Dec.result_x m c h b s k).symm

/-- On finite activations the kernel ends with the reference's results. -/
theorem agree : Cert.algebraic_KernelIdeal_ReferenceIdeal_pre_finite_x (hKernelIdeal := Cert.KernelIdeal.Gen.facts)
    (hReferenceIdeal := Cert.ReferenceIdeal.Gen.facts) (hPre_finite_x := pre_facts) := by
  intro m g m' g' hp ha
  letI := pre_facts
  have hr := allReal_of_pre m hp
  refine ⟨fun c => Cert.KernelIdeal.Gen.V7 m (outs m) c Cert.KernelIdeal.main_v16, fun c => Cert.KernelIdeal.Gen.V7 m (outs m) c Cert.KernelIdeal.main_v17, ?_, ?_⟩
  · exact (θ_run Cert.KernelIdeal.defs _ _).mono (fun _ h c => ⟨final m (h.1 c) Cert.KernelIdeal.main_v16 rfl, final m (h.1 c) Cert.KernelIdeal.main_v17 rfl, kept m (h.1 c)⟩) (run m g)
  · refine (θ_run Cert.ReferenceIdeal.defs _ _).mono (fun r h c => ⟨?_, ?_, (h c).2.2⟩) (Cert.ReferenceIdeal.Value.run (F := Ideal) m' g')
    · refine ((h c).1.trans (Cert.ReferenceIdeal.Read.val_main_v44_eq _ _ _ _ _)).trans ?_
      obtain ⟨h0, h1, h2, h3, h4⟩ := ha c
      rw [h0, h1, h2, h3, h4]
      exact same_y m c (hr c)
    · refine ((h c).2.1.trans (Cert.ReferenceIdeal.Read.val_main_v45_eq _ _)).trans ?_
      obtain ⟨h0, h1, -, -, -⟩ := ha c
      rw [h0, h1]
      exact same_x m c (hr c)

/-- Every claim. -/
theorem claim : Cert.Claim :=
  ⟨Cert.Kernel.Gen.facts, Cert.KernelIdeal.Gen.facts, Cert.ReferenceIdeal.Gen.facts, pre_facts,
    fun m ρ _ => Cert.ProofBits.framed m ρ, fun m ρ _ => framed m ρ, fun m ρ _ => framed m ρ, fun m ρ _ => reference_framed m ρ,
    fun m ρ _ => reference_framed m ρ, trivial, agree⟩

end Cert.Proof

end
